-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg7))
      ∧ m ((c.tc : Thread Cert.KernelIdeal.nD Cert.KernelIdeal.τ).loc Cert.KernelIdeal.main_arg8) = Layout.block ⟨2, ![512, 1024]⟩ ⟨2, ![4096, 1024]⟩ 0 8 c (m' (((0 : Dev Cert.ReferenceIdeal.nD).tc : Thread Cert.ReferenceIdeal.nD Cert.ReferenceIdeal.τ).loc Cert.ReferenceIdeal.main_arg8))) →
    ∃ (v0 : Buf (Elt Ideal) (((0 : Dev Cert.ReferenceIdeal.nD).tc : Thread Cert.ReferenceIdeal.nD Cert.ReferenceIdeal.τ).loc Cert.ReferenceIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v97) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7)
          ∧ r.2.mem (((0 : Dev Cert.ReferenceIdeal.nD).tc : Thread Cert.ReferenceIdeal.nD Cert.ReferenceIdeal.τ).loc Cert.ReferenceIdeal.main_arg8) = m' (((0 : Dev Cert.ReferenceIdeal.nD).tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x4096x1024 : Shape := ⟨3, ![1, 4096, 1024]⟩
abbrev S1024x1024 : Shape := ⟨2, ![1024, 1024]⟩
abbrev S1x128 : Shape := ⟨2, ![1, 128]⟩
abbrev S128x6144 : Shape := ⟨2, ![128, 6144]⟩
abbrev S1024x512 : Shape := ⟨2, ![1024, 512]⟩
abbrev S512x1024 : Shape := ⟨2, ![512, 1024]⟩
abbrev S128x2048 : Shape := ⟨2, ![128, 2048]⟩
abbrev S_ : Shape := ⟨0, ![]⟩

class Facts : Prop where
  slices_S128x6144_S128x2048_0_0 : S128x6144.Slices ![0, 0] S128x2048
  bcast_S_S1024x1024 : S_.BroadcastsInDim S1024x1024 (![] : Fin 0 → Fin S1024x1024.rank)
  bcast_S_S1x128 : S_.BroadcastsInDim S1x128 (![] : Fin 0 → Fin S1x128.rank)
  bcast_S_S128x2048 : S_.BroadcastsInDim S128x2048 (![] : Fin 0 → Fin S128x2048.rank)

variable [Facts]

def fn {F : FTy → Type} [FloatOps F] (main_arg0 : FVec F S1x4096x1024 .bf16) (main_arg1 : FVec F S1024x1024 .bf16) (main_arg2 : FVec F S1024x1024 .bf16) (main_arg3 : FVec F S1024x1024 .bf16) (main_arg4 : FVec F S1024x1024 .bf16) (main_arg5 : FVec F S1x128 .bf16) (main_arg6 : FVec F S128x6144 .bf16) (main_arg7 : FVec F S1024x512 .bf16) (main_arg8 : FVec F S512x1024 .bf16) : IVec S1024x1024 1 × IVec S1024x1024 1 × IVec S1x128 1 × IVec S128x2048 1 :=
  let main_v0 : FVec F S128x2048 .bf16 := (extractStridedSlice S128x2048 ![0, 0] · slices_S128x6144_S128x2048_0_0) main_arg6
  let main_v1 : FVec F S1024x1024 .bf16 := Host.absf main_arg1
  let main_cst : FVec F S_ .bf16 := constant S_ .bf16 0x7F80#16
  let main_v2 : FVec F S1024x1024 .bf16 := broadcastInDim S1024x1024 ![] bcast_S_S1024x1024 main_cst
  let main_v3 : IVec S1024x1024 1 := cmpf .olt main_v1 main_v2
  let main_v4 : FVec F S1024x1024 .bf16 := Host.absf main_arg2
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_v7 : FVec F S1x128 .bf16 := Host.absf main_arg5
  let main_cst_1 : FVec F S_ .bf16 := constant S_ .bf16 0x7F80#16
  let main_v8 : FVec F S1x128 .bf16 := broadcastInDim S1x128 ![] bcast_S_S1x128 main_cst_1
  let main_v9 : IVec S1x128 1 := cmpf .olt main_v7 main_v8
  let main_v10 : FVec F S128x2048 .bf16 := Host.absf main_v0
  let main_cst_2 : FVec F S_ .bf16 := constant S_ .bf16 0x7F80#16
  let main_v11 : FVec F S128x2048 .bf16 := broadcastInDim S128x2048 ![] bcast_S_S128x2048 main_cst_2
  let main_v12 : IVec S128x2048 1 := cmpf .olt main_v10 main_v11
  (main_v3, main_v6, main_v9, main_v12)
-- ==== Pre_finite_ReferenceIdeal.lean ====
abbrev S1x4096x1024 : Shape := ⟨3, ![1, 4096, 1024]⟩
abbrev S1024x8192 : Shape := ⟨2, ![1024, 8192]⟩
abbrev S8192x1024 : Shape := ⟨2, ![8192, 1024]⟩
abbrev S1x128 : Shape := ⟨2, ![1, 128]⟩
abbrev S128x6144 : Shape := ⟨2, ![128, 6144]⟩
abbrev S1024x4096 : Shape := ⟨2, ![1024, 4096]⟩
abbrev S4096x1024 : Shape := ⟨2, ![4096, 1024]⟩
abbrev S128x2048 : Shape := ⟨2, ![128, 2048]⟩
abbrev S_ : Shape := ⟨0, ![]⟩

class Facts : Prop where
  slices_S128x6144_S128x2048_0_0 : S128x6144.Slices ![0, 0] S128x2048
  bcast_S_S1024x8192 : S_.BroadcastsInDim S1024x8192 (![] : Fin 0 → Fin S1024x8192.rank)
  bcast_S_S1x128 : S_.BroadcastsInDim S1x128 (![] : Fin 0 → Fin S1x128.rank)
  bcast_S_S128x2048 : S_.BroadcastsInDim S128x2048 (![] : Fin 0 → Fin S128x2048.rank)

variable [Facts]

def fn {F : FTy → Type} [FloatOps F] (main_arg0 : FVec F S1x4096x1024 .bf16) (main_arg1 : FVec F S1024x8192 .bf16) (main_arg2 : FVec F S1024x8192 .bf16) (main_arg3 : FVec F S1024x8192 .bf16) (main_arg4 : FVec F S8192x1024 .bf16) (main_arg5 : FVec F S1x128 .bf16) (main_arg6 : FVec F S128x6144 .bf16) (main_arg7 : FVec F S1024x4096 .bf16) (main_arg8 : FVec F S4096x1024 .bf16) : IVec S1024x8192 1 × IVec S1024x8192 1 × IVec S1x128 1 × IVec S128x2048 1 :=
  let main_v0 : FVec F S128x2048 .bf16 := (extractStridedSlice S128x2048 ![0, 0] · slices_S128x6144_S128x2048_0_0) main_arg6
  let main_v1 : FVec F S1024x8192 .bf16 := Host.absf main_arg1
  let main_cst : FVec F S_ .bf16 := constant S_ .bf16 0x7F80#16
  let main_v2 : FVec F S1024x8192 .bf16 := broadcastInDim S1024x8192 ![] bcast_S_S1024x8192 main_cst
  let main_v3 : IVec S1024x8192 1 := cmpf .olt main_v1 main_v2
  let main_v4 : FVec F S1024x8192 .bf16 := Host.absf main_arg2
  let main_cst_0 : FVec F S_ .bf16 := constant S_ .bf16 0x7F80#16
  let main_v5 : FVec F S1024x8192 .bf16 := broadcastInDim S1024x8192 ![] bcast_S_S1024x8192 main_cst_0
  let main_v6 : IVec S1024x8192 1 := cmpf .olt main_v4 main_v5
  let main_v7 : FVec F S1x128 .bf16 := Host.absf main_arg5
  let main_cst_1 : FVec F S_ .bf16 := constant S_ .bf16 0x7F80#16
  let main_v8 : FVec F S1x128 .bf16 := broadcastInDim S1x128 ![] bcast_S_S1x128 main_cst_1
  let main_v9 : IVec S1x128 1 := cmpf .olt main_v7 main_v8
  let main_v10 : FVec F S128x2048 .bf16 := Host.absf main_v0
  let main_cst_2 : FVec F S_ .bf16 := constant S_ .bf16 0x7F80#16
  let main_v11 : FVec F S128x2048 .bf16 := broadcastInDim S128x2048 ![] bcast_S_S128x2048 main_cst_2
  let main_v12 : IVec S128x2048 1 := cmpf .olt main_v10 main_v11
  (main_v3, main_v6, main_v9, main_v12)
-- ==== Kernel.lean ====
abbrev S1x4096x1024 : Shape := ⟨3, ![1, 4096, 1024]⟩
abbrev S1024x1024 : Shape := ⟨2, ![1024, 1024]⟩
abbrev S1x128 : Shape := ⟨2, ![1, 128]⟩
abbrev S128x6144 : Shape := ⟨2, ![128, 6144]⟩
abbrev S1024x512 : Shape := ⟨2, ![1024, 512]⟩
abbrev S512x1024 : Shape := ⟨2, ![512, 1024]⟩
abbrev S4096x1024 : Shape := ⟨2, ![4096, 1024]⟩
abbrev S1x6144 : Shape := ⟨2, ![1, 6144]⟩
abbrev S1x1024 : Shape := ⟨2, ![1, 1024]⟩
abbrev S512 : Shape := ⟨1, ![512]⟩
abbrev S512x1 : Shape := ⟨2, ![512, 1]⟩
abbrev S2x256x1024 : Shape := ⟨3, ![2, 256, 1024]⟩
abbrev S256x1024 : Shape := ⟨2, ![256, 1024]⟩
abbrev S7x256x1024 : Shape := ⟨3, ![7, 256, 1024]⟩
abbrev S7 : Shape := ⟨1, ![7]⟩
abbrev S_ : Shape := ⟨0, ![]⟩
abbrev S256x128 : Shape := ⟨2, ![256, 128]⟩
abbrev S4096x128 : Shape := ⟨2, ![4096, 128]⟩
abbrev S256x4096 : Shape := ⟨2, ![256, 4096]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S256x512 : Shape := ⟨2, ![256, 512]⟩

abbrev nBuf : Space → Nat
  | .hbm => 25
  | .vmem => 36
  | .smem => 0
  | _ => 0

abbrev bufTy : (tb : Table) → Fin (tcTables nBuf tb) → BufTy
  | .hbm, ⟨0, _⟩ => ⟨S1x4096x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1x128, .bf16⟩
  | .hbm, ⟨6, _⟩ => ⟨S128x6144, .bf16⟩
  | .hbm, ⟨7, _⟩ => ⟨S1024x512, .bf16⟩
  | .hbm, ⟨8, _⟩ => ⟨S512x1024, .bf16⟩
  | .hbm, ⟨9, _⟩ => ⟨S4096x1024, .bf16⟩
  | .hbm, ⟨10, _⟩ => ⟨S1x6144, .f32⟩
  | .hbm, ⟨11, _⟩ => ⟨S1x6144, .bf16⟩
  | .hbm, ⟨12, _⟩ => ⟨S1x1024, .bf16⟩
  | .hbm, ⟨13, _⟩ => ⟨S1x1024, .bf16⟩
  | .hbm, ⟨14, _⟩ => ⟨S1x1024, .bf16⟩
  | .hbm, ⟨15, _⟩ => ⟨S1x1024, .bf16⟩
  | .hbm, ⟨16, _⟩ => ⟨S1x1024, .bf16⟩
  | .hbm, ⟨17, _⟩ => ⟨S1x1024, .bf16⟩
  | .hbm, ⟨18, _⟩ => ⟨S4096x1024, .bf16⟩
  | .hbm, ⟨19, _⟩ => ⟨S4096x1024, .bf16⟩
  | .hbm, ⟨20, _⟩ => ⟨S4096x1024, .bf16⟩
  | .hbm, ⟨21, _⟩ => ⟨S4096x1024, .bf16⟩
  | .hbm, ⟨22, _⟩ => ⟨S4096x1024, .bf16⟩
  | .hbm, ⟨23, _⟩ => ⟨S4096x1024, .f32⟩
  | .hbm, ⟨24, _⟩ => ⟨S1x4096x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024, .bf16⟩
  | .local _ .vmem, ⟨3, _⟩ => ⟨S1x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S4096x1024, .bf16⟩
  | .local _ .vmem, ⟨14, _⟩ => ⟨S4096x1024, .bf16⟩
  | .local _ .vmem, ⟨15, _⟩ => ⟨S4096x1024, .bf16⟩
  | .local _ .vmem, ⟨16, _⟩ => ⟨S1024x1024, .bf16⟩
  | .local _ .vmem, ⟨17, _⟩ => ⟨S4096x1024, .bf16⟩
  | .local _ .vmem, ⟨18, _⟩ => ⟨S1x1024, .bf16⟩
  | .local _ .vmem, ⟨19, _⟩ => ⟨S4096x1024, .bf16⟩
  | .local _ .vmem, ⟨20, _⟩ => ⟨S2x256x1024, .bf16⟩
  | .local _ .vmem, ⟨21, _⟩ => ⟨S2x256x1024, .bf16⟩
  | .local _ .vmem, ⟨22, _⟩ => ⟨S256x1024, .bf16⟩
  | .local _ .vmem, ⟨23, _⟩ => ⟨S7x256x1024, .bf16⟩
  | .local _ .vmem, ⟨24, _⟩ => ⟨S7x256x1024, .bf16⟩
  | .local _ .vmem, ⟨25, _⟩ => ⟨S4096x1024, .bf16⟩
  | .local _ .vmem, ⟨26, _⟩ => ⟨S1x1024, .bf16⟩
  | .local _ .vmem, ⟨27, _⟩ => ⟨S1x1024, .bf16⟩
  | .local _ .vmem, ⟨28, _⟩ => ⟨S1x1024, .bf16⟩
  | .local _ .vmem, ⟨29, _⟩ => ⟨S1024x512, .bf16⟩
  | .local _ .vmem, ⟨30, _⟩ => ⟨S512x1024, .bf16⟩
  | .local _ .vmem, ⟨31, _⟩ => ⟨S4096x1024, .bf16⟩
  | .local _ .vmem, ⟨32, _⟩ => ⟨S2x256x1024, .bf16⟩
  | .local _ .vmem, ⟨33, _⟩ => ⟨S2x256x1024, .bf16⟩
  | .local _ .vmem, ⟨34, _⟩ => ⟨S7x256x1024, .bf16⟩
  | .local _ .vmem, ⟨35, _⟩ => ⟨S7x256x1024, .bf16⟩
  | _, _ => ⟨S1x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 4 → Bool
  | ⟨0, _⟩ => false
  | ⟨1, _⟩ => true
  | ⟨2, _⟩ => false
  | ⟨3, _⟩ => true
  | _ => false

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  (ofTc nBuf bufTy 4 83 bufScoped semScoped dmaSemScoped tileCredit tileCredit_eq_zero tileCredit_pos).withBarriers [(0, 0), (1, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc1_scratch3 : Ref sig .tc := ⟨.vmem, 23, rfl⟩
abbrev cc1_scratch4 : Ref sig .tc := ⟨.vmem, 24, rfl⟩
abbrev cc2_stg0_0 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_scratch0 : Ref sig .tc := ⟨.vmem, 32, rfl⟩
abbrev cc2_scratch1 : Ref sig .tc := ⟨.vmem, 33, rfl⟩
abbrev cc2_scratch2 : Ref sig .tc := ⟨.vmem, 34, rfl⟩
abbrev cc2_scratch3 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc2_sem0_0 : DmaSem sig := 48
abbrev cc2_sem1_0 : DmaSem sig := 49
abbrev cc2_sem2_0 : DmaSem sig := 50
abbrev cc2_sem3_0 : DmaSem sig := 51
abbrev cc2_sem4_0 : DmaSem sig := 52
abbrev cc2_sem5_0 : DmaSem sig := 53
abbrev cc2_sem6_0 : DmaSem sig := 54
abbrev barrier0 : Sem sig := 0
abbrev barrier1 : Sem sig := 2

abbrev nD : Nat := 8
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := .none

def k1_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_7 : BitVec 32 := 1#32
  let v10 : BitVec 32 := Scalar.muli v5 c1_i32_7
  let v11 : BitVec 32 := Scalar.addi c0_i32 v10
  v11.toNat
def k1_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_9 : BitVec 32 := 1#32
  let v12 : BitVec 32 := Scalar.muli v8 c1_i32_9
  let v13 : BitVec 32 := Scalar.addi c0_i32_10 v12
  v13.toNat
@[reducible] def k1_t1_loop : Scf.Loop 32 :=
  let c0_i32_13 : BitVec 32 := 0#32
  let c8_i32_14 : BitVec 32 := 8#32
  let v17 : BitVec 32 := Scalar.addi c0_i32_13 c8_i32_14
  let c1_i32_15 : BitVec 32 := 1#32
  ⟨c0_i32_13, v17, c1_i32_15⟩
def k1_off1 (d0 : Dev nD) (k1_t1 : Fin k1_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_11 : BitVec 32 := 8#32
  let v14 : BitVec 32 := Scalar.addi v2 c8_i32_11
  let c8_i32_12 : BitVec 32 := 8#32
  let v15 : BitVec 32 := Scalar.remsi v14 c8_i32_12
  let c256_i32 : BitVec 32 := 256#32
  let v16 : BitVec 32 := Scalar.muli v15 c256_i32
  let v1059 : Index := Scalar.indexCast v16
  let c0_i32_13 : BitVec 32 := 0#32
  let c1_i32_15 : BitVec 32 := 1#32
  let arg16 : BitVec 32 := Scf.iv c0_i32_13 c1_i32_15 k1_t1
  let c128_i32 : BitVec 32 := 128#32
  let v1058 : BitVec 32 := Scalar.muli arg16 c128_i32
  let v1060 : Index := Scalar.indexCast v1058
  ![v1059.toNat, v1060.toNat]
def k1_off2 (k1_t1 : Fin k1_t1_loop.trips) : Fin 2 → Nat :=
  let c0_1137 : Index := 0#32
  let c0_i32_13 : BitVec 32 := 0#32
  let c1_i32_15 : BitVec 32 := 1#32
  let arg16 : BitVec 32 := Scf.iv c0_i32_13 c1_i32_15 k1_t1
  let c128_i32 : BitVec 32 := 128#32
  let v1058 : BitVec 32 := Scalar.muli arg16 c128_i32
  let v1063 : Index := Scalar.indexCast v1058
  ![0, v1063.toNat]
def k1_off3 (k1_t1 : Fin k1_t1_loop.trips) : Fin 2 → Nat :=
  let c0_1142 : Index := 0#32
  let c0_i32_13 : BitVec 32 := 0#32
  let c1_i32_15 : BitVec 32 := 1#32
  let arg16 : BitVec 32 := Scf.iv c0_i32_13 c1_i32_15 k1_t1
  let c128_i32 : BitVec 32 := 128#32
  let v1058 : BitVec 32 := Scalar.muli arg16 c128_i32
  let v1079 : Index := Scalar.indexCast v1058
  ![0, v1079.toNat]
@[reducible] def k1_t2_loop : Scf.Loop 32 :=
  let c0_i32_26 : BitVec 32 := 0#32
  let c8_i32_27 : BitVec 32 := 8#32
  let v30 : BitVec 32 := Scalar.addi c0_i32_26 c8_i32_27
  let c1_i32_28 : BitVec 32 := 1#32
  ⟨c0_i32_26, v30, c1_i32_28⟩
def k1_off4 (d0 : Dev nD) (k1_t2 : Fin k1_t2_loop.trips) : Fin 2 → Nat :=
  let c2048_i32 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_23 : BitVec 32 := 8#32
  let v26 : BitVec 32 := Scalar.addi v2 c8_i32_23
  let c8_i32_24 : BitVec 32 := 8#32
  let v27 : BitVec 32 := Scalar.remsi v26 c8_i32_24
  let c256_i32_25 : BitVec 32 := 256#32
  let v28 : BitVec 32 := Scalar.muli v27 c256_i32_25
  let v29 : BitVec 32 := Scalar.addi c2048_i32 v28
  let v1059 : Index := Scalar.indexCast v29
  let c0_i32_26 : BitVec 32 := 0#32
  let c1_i32_28 : BitVec 32 := 1#32
  let arg16 : BitVec 32 := Scf.iv c0_i32_26 c1_i32_28 k1_t2
  let c128_i32 : BitVec 32 := 128#32
  let v1058 : BitVec 32 := Scalar.muli arg16 c128_i32
  let v1060 : Index := Scalar.indexCast v1058
  ![v1059.toNat, v1060.toNat]
def k1_off5 (k1_t2 : Fin k1_t2_loop.trips) : Fin 2 → Nat :=
  let c0_1137 : Index := 0#32
  let c0_i32_26 : BitVec 32 := 0#32
  let c1_i32_28 : BitVec 32 := 1#32
  let arg16 : BitVec 32 := Scf.iv c0_i32_26 c1_i32_28 k1_t2
  let c128_i32 : BitVec 32 := 128#32
  let v1058 : BitVec 32 := Scalar.muli arg16 c128_i32
  let v1063 : Index := Scalar.indexCast v1058
  ![0, v1063.toNat]
def k1_off6 (k1_t2 : Fin k1_t2_loop.trips) : Fin 2 → Nat :=
  let c0_1142 : Index := 0#32
  let c0_i32_26 : BitVec 32 := 0#32
  let c1_i32_28 : BitVec 32 := 1#32
  let arg16 : BitVec 32 := Scf.iv c0_i32_26 c1_i32_28 k1_t2
  let c128_i32 : BitVec 32 := 128#32
  let v1058 : BitVec 32 := Scalar.muli arg16 c128_i32
  let v1079 : Index := Scalar.indexCast v1058
  ![0, v1079.toNat]
def k1_dev3 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_42 : BitVec 32 := 1#32
  let v39 : BitVec 32 := Scalar.muli v8 c1_i32_42
  let v40 : BitVec 32 := Scalar.addi c0_i32_43 v39
  v40.toNat
def k1_dev4 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_52 : BitVec 32 := 1#32
  let v49 : BitVec 32 := Scalar.muli v5 c1_i32_52
  let v50 : BitVec 32 := Scalar.addi c0_i32_53 v49
  v50.toNat
@[reducible] def k1_t3_loop : Scf.Loop 32 :=
  let c0_i32_62 : BitVec 32 := 0#32
  let c8_i32_63 : BitVec 32 := 8#32
  let v63 : BitVec 32 := Scalar.addi c0_i32_62 c8_i32_63
  let c1_i32_64 : BitVec 32 := 1#32
  ⟨c0_i32_62, v63, c1_i32_64⟩
def k1_off7 (d0 : Dev nD) (k1_t3 : Fin k1_t3_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_58 : BitVec 32 := 1#32
  let v59 : BitVec 32 := Scalar.subi v2 c1_i32_58
  let c8_i32_59 : BitVec 32 := 8#32
  let v60 : BitVec 32 := Scalar.addi v59 c8_i32_59
  let c8_i32_60 : BitVec 32 := 8#32
  let v61 : BitVec 32 := Scalar.remsi v60 c8_i32_60
  let c256_i32_61 : BitVec 32 := 256#32
  let v62 : BitVec 32 := Scalar.muli v61 c256_i32_61
  let v1059 : Index := Scalar.indexCast v62
  let c0_i32_62 : BitVec 32 := 0#32
  let c1_i32_64 : BitVec 32 := 1#32
  let arg16 : BitVec 32 := Scf.iv c0_i32_62 c1_i32_64 k1_t3
  let c128_i32 : BitVec 32 := 128#32
  let v1058 : BitVec 32 := Scalar.muli arg16 c128_i32
  let v1060 : Index := Scalar.indexCast v1058
  ![v1059.toNat, v1060.toNat]
def k1_off8 (k1_t3 : Fin k1_t3_loop.trips) : Fin 2 → Nat :=
  let c0_1137 : Index := 0#32
  let c0_i32_62 : BitVec 32 := 0#32
  let c1_i32_64 : BitVec 32 := 1#32
  let arg16 : BitVec 32 := Scf.iv c0_i32_62 c1_i32_64 k1_t3
  let c128_i32 : BitVec 32 := 128#32
  let v1058 : BitVec 32 := Scalar.muli arg16 c128_i32
  let v1063 : Index := Scalar.indexCast v1058
  ![0, v1063.toNat]
def k1_off9 (k1_t3 : Fin k1_t3_loop.trips) : Fin 2 → Nat :=
  let c0_1142 : Index := 0#32
  let c0_i32_62 : BitVec 32 := 0#32
  let c1_i32_64 : BitVec 32 := 1#32
  let arg16 : BitVec 32 := Scf.iv c0_i32_62 c1_i32_64 k1_t3
  let c128_i32 : BitVec 32 := 128#32
  let v1058 : BitVec 32 := Scalar.muli arg16 c128_i32
  let v1079 : Index := Scalar.indexCast v1058
  ![0, v1079.toNat]
@[reducible] def k1_t4_loop : Scf.Loop 32 :=
  let c0_i32_78 : BitVec 32 := 0#32
  let c8_i32_79 : BitVec 32 := 8#32
  let v77 : BitVec 32 := Scalar.addi c0_i32_78 c8_i32_79
  let c1_i32_80 : BitVec 32 := 1#32
  ⟨c0_i32_78, v77, c1_i32_80⟩
def k1_off10 (d0 : Dev nD) (k1_t4 : Fin k1_t4_loop.trips) : Fin 2 → Nat :=
  let c2048_i32_77 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_73 : BitVec 32 := 1#32
  let v72 : BitVec 32 := Scalar.addi v2 c1_i32_73
  let c8_i32_74 : BitVec 32 := 8#32
  let v73 : BitVec 32 := Scalar.addi v72 c8_i32_74
  let c8_i32_75 : BitVec 32 := 8#32
  let v74 : BitVec 32 := Scalar.remsi v73 c8_i32_75
  let c256_i32_76 : BitVec 32 := 256#32
  let v75 : BitVec 32 := Scalar.muli v74 c256_i32_76
  let v76 : BitVec 32 := Scalar.addi c2048_i32_77 v75
  let v1059 : Index := Scalar.indexCast v76
  let c0_i32_78 : BitVec 32 := 0#32
  let c1_i32_80 : BitVec 32 := 1#32
  let arg16 : BitVec 32 := Scf.iv c0_i32_78 c1_i32_80 k1_t4
  let c128_i32 : BitVec 32 := 128#32
  let v1058 : BitVec 32 := Scalar.muli arg16 c128_i32
  let v1060 : Index := Scalar.indexCast v1058
  ![v1059.toNat, v1060.toNat]
def k1_off11 (k1_t4 : Fin k1_t4_loop.trips) : Fin 2 → Nat :=
  let c0_1137 : Index := 0#32
  let c0_i32_78 : BitVec 32 := 0#32
  let c1_i32_80 : BitVec 32 := 1#32
  let arg16 : BitVec 32 := Scf.iv c0_i32_78 c1_i32_80 k1_t4
  let c128_i32 : BitVec 32 := 128#32
  let v1058 : BitVec 32 := Scalar.muli arg16 c128_i32
  let v1063 : Index := Scalar.indexCast v1058
  ![0, v1063.toNat]
def k1_off12 (k1_t4 : Fin k1_t4_loop.trips) : Fin 2 → Nat :=
  let c0_1142 : Index := 0#32
  let c0_i32_78 : BitVec 32 := 0#32
  let c1_i32_80 : BitVec 32 := 1#32
  let arg16 : BitVec 32 := Scf.iv c0_i32_78 c1_i32_80 k1_t4
  let c128_i32 : BitVec 32 := 128#32
  let v1058 : BitVec 32 := Scalar.muli arg16 c128_i32
  let v1079 : Index := Scalar.indexCast v1058
  ![0, v1079.toNat]
def k1_dev5 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_150 : BitVec 32 := 1#32
  let v130 : BitVec 32 := Scalar.muli v8 c1_i32_150
  let v131 : BitVec 32 := Scalar.addi c0_i32_151 v130
  v131.toNat
def k1_dev6 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_160 : BitVec 32 := 1#32
  let v140 : BitVec 32 := Scalar.muli v5 c1_i32_160
  let v141 : BitVec 32 := Scalar.addi c0_i32_161 v140
  v141.toNat
@[reducible] def k1_t5_loop : Scf.Loop 32 :=
  let c0_i32_170 : BitVec 32 := 0#32
  let c8_i32_171 : BitVec 32 := 8#32
  let v154 : BitVec 32 := Scalar.addi c0_i32_170 c8_i32_171
  let c1_i32_172 : BitVec 32 := 1#32
  ⟨c0_i32_170, v154, c1_i32_172⟩
def k1_off13 (d0 : Dev nD) (k1_t5 : Fin k1_t5_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_166 : BitVec 32 := 2#32
  let v150 : BitVec 32 := Scalar.subi v2 c2_i32_166
  let c8_i32_167 : BitVec 32 := 8#32
  let v151 : BitVec 32 := Scalar.addi v150 c8_i32_167
  let c8_i32_168 : BitVec 32 := 8#32
  let v152 : BitVec 32 := Scalar.remsi v151 c8_i32_168
  let c256_i32_169 : BitVec 32 := 256#32
  let v153 : BitVec 32 := Scalar.muli v152 c256_i32_169
  let v1059 : Index := Scalar.indexCast v153
  let c0_i32_170 : BitVec 32 := 0#32
  let c1_i32_172 : BitVec 32 := 1#32
  let arg16 : BitVec 32 := Scf.iv c0_i32_170 c1_i32_172 k1_t5
  let c128_i32 : BitVec 32 := 128#32
  let v1058 : BitVec 32 := Scalar.muli arg16 c128_i32
  let v1060 : Index := Scalar.indexCast v1058
  ![v1059.toNat, v1060.toNat]
def k1_off14 (k1_t5 : Fin k1_t5_loop.trips) : Fin 2 → Nat :=
  let c0_1137 : Index := 0#32
  let c0_i32_170 : BitVec 32 := 0#32
  let c1_i32_172 : BitVec 32 := 1#32
  let arg16 : BitVec 32 := Scf.iv c0_i32_170 c1_i32_172 k1_t5
  let c128_i32 : BitVec 32 := 128#32
  let v1058 : BitVec 32 := Scalar.muli arg16 c128_i32
  let v1063 : Index := Scalar.indexCast v1058
  ![0, v1063.toNat]
def k1_off15 (k1_t5 : Fin k1_t5_loop.trips) : Fin 2 → Nat :=
  let c0_1142 : Index := 0#32
  let c0_i32_170 : BitVec 32 := 0#32
  let c1_i32_172 : BitVec 32 := 1#32
  let arg16 : BitVec 32 := Scf.iv c0_i32_170 c1_i32_172 k1_t5
  let c128_i32 : BitVec 32 := 128#32
  let v1058 : BitVec 32 := Scalar.muli arg16 c128_i32
  let v1079 : Index := Scalar.indexCast v1058
  ![0, v1079.toNat]
@[reducible] def k1_t6_loop : Scf.Loop 32 :=
  let c0_i32_187 : BitVec 32 := 0#32
  let c8_i32_188 : BitVec 32 := 8#32
  let v168 : BitVec 32 := Scalar.addi c0_i32_187 c8_i32_188
  let c1_i32_189 : BitVec 32 := 1#32
  ⟨c0_i32_187, v168, c1_i32_189⟩
def k1_off16 (d0 : Dev nD) (k1_t6 : Fin k1_t6_loop.trips) : Fin 2 → Nat :=
  let c2048_i32_186 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_182 : BitVec 32 := 2#32
  let v163 : BitVec 32 := Scalar.addi v2 c2_i32_182
  let c8_i32_183 : BitVec 32 := 8#32
  let v164 : BitVec 32 := Scalar.addi v163 c8_i32_183
  let c8_i32_184 : BitVec 32 := 8#32
  let v165 : BitVec 32 := Scalar.remsi v164 c8_i32_184
  let c256_i32_185 : BitVec 32 := 256#32
  let v166 : BitVec 32 := Scalar.muli v165 c256_i32_185
  let v167 : BitVec 32 := Scalar.addi c2048_i32_186 v166
  let v1059 : Index := Scalar.indexCast v167
  let c0_i32_187 : BitVec 32 := 0#32
  let c1_i32_189 : BitVec 32 := 1#32
  let arg16 : BitVec 32 := Scf.iv c0_i32_187 c1_i32_189 k1_t6
  let c128_i32 : BitVec 32 := 128#32
  let v1058 : BitVec 32 := Scalar.muli arg16 c128_i32
  let v1060 : Index := Scalar.indexCast v1058
  ![v1059.toNat, v1060.toNat]
def k1_off17 (k1_t6 : Fin k1_t6_loop.trips) : Fin 2 → Nat :=
  let c0_1137 : Index := 0#32
  let c0_i32_187 : BitVec 32 := 0#32
  let c1_i32_189 : BitVec 32 := 1#32
  let arg16 : BitVec 32 := Scf.iv c0_i32_187 c1_i32_189 k1_t6
  let c128_i32 : BitVec 32 := 128#32
  let v1058 : BitVec 32 := Scalar.muli arg16 c128_i32
  let v1063 : Index := Scalar.indexCast v1058
  ![0, v1063.toNat]
def k1_off18 (k1_t6 : Fin k1_t6_loop.trips) : Fin 2 → Nat :=
  let c0_1142 : Index := 0#32
  let c0_i32_187 : BitVec 32 := 0#32
  let c1_i32_189 : BitVec 32 := 1#32
  let arg16 : BitVec 32 := Scf.iv c0_i32_187 c1_i32_189 k1_t6
  let c128_i32 : BitVec 32 := 128#32
  let v1058 : BitVec 32 := Scalar.muli arg16 c128_i32
  let v1079 : Index := Scalar.indexCast v1058
  ![0, v1079.toNat]
def k1_dev7 (d0 : Dev nD) : Nat :=
  let c0_i32_260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_259 : BitVec 32 := 1#32
  let v221 : BitVec 32 := Scalar.muli v8 c1_i32_259
  let v222 : BitVec 32 := Scalar.addi c0_i32_260 v221
  v222.toNat
def k1_dev8 (d0 : Dev nD) : Nat :=
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_269 : BitVec 32 := 1#32
  let v231 : BitVec 32 := Scalar.muli v5 c1_i32_269
  let v232 : BitVec 32 := Scalar.addi c0_i32_270 v231
  v232.toNat
@[reducible] def k1_t7_loop : Scf.Loop 32 :=
  let c0_i32_278 : BitVec 32 := 0#32
  let c8_i32_279 : BitVec 32 := 8#32
  let v245 : BitVec 32 := Scalar.addi c0_i32_278 c8_i32_279
  let c1_i32_280 : BitVec 32 := 1#32
  ⟨c0_i32_278, v245, c1_i32_280⟩
def k1_off19 (d0 : Dev nD) (k1_t7 : Fin k1_t7_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v241 : BitVec 32 := Scalar.subi v2 c3_i32
  let c8_i32_275 : BitVec 32 := 8#32
  let v242 : BitVec 32 := Scalar.addi v241 c8_i32_275
  let c8_i32_276 : BitVec 32 := 8#32
  let v243 : BitVec 32 := Scalar.remsi v242 c8_i32_276
  let c256_i32_277 : BitVec 32 := 256#32
  let v244 : BitVec 32 := Scalar.muli v243 c256_i32_277
  let v1059 : Index := Scalar.indexCast v244
  let c0_i32_278 : BitVec 32 := 0#32
  let c1_i32_280 : BitVec 32 := 1#32
  let arg16 : BitVec 32 := Scf.iv c0_i32_278 c1_i32_280 k1_t7
  let c128_i32 : BitVec 32 := 128#32
  let v1058 : BitVec 32 := Scalar.muli arg16 c128_i32
  let v1060 : Index := Scalar.indexCast v1058
  ![v1059.toNat, v1060.toNat]
def k1_off20 (k1_t7 : Fin k1_t7_loop.trips) : Fin 2 → Nat :=
  let c0_1137 : Index := 0#32
  let c0_i32_278 : BitVec 32 := 0#32
  let c1_i32_280 : BitVec 32 := 1#32
  let arg16 : BitVec 32 := Scf.iv c0_i32_278 c1_i32_280 k1_t7
  let c128_i32 : BitVec 32 := 128#32
  let v1058 : BitVec 32 := Scalar.muli arg16 c128_i32
  let v1063 : Index := Scalar.indexCast v1058
  ![0, v1063.toNat]
def k1_off21 (k1_t7 : Fin k1_t7_loop.trips) : Fin 2 → Nat :=
  let c0_1142 : Index := 0#32
  let c0_i32_278 : BitVec 32 := 0#32
  let c1_i32_280 : BitVec 32 := 1#32
  let arg16 : BitVec 32 := Scf.iv c0_i32_278 c1_i32_280 k1_t7
  let c128_i32 : BitVec 32 := 128#32
  let v1058 : BitVec 32 := Scalar.muli arg16 c128_i32
  let v1079 : Index := Scalar.indexCast v1058
  ![0, v1079.toNat]
@[reducible] def k1_t8_loop : Scf.Loop 32 :=
  let c0_i32_295 : BitVec 32 := 0#32
  let c8_i32_296 : BitVec 32 := 8#32
  let v259 : BitVec 32 := Scalar.addi c0_i32_295 c8_i32_296
  let c1_i32_297 : BitVec 32 := 1#32
  ⟨c0_i32_295, v259, c1_i32_297⟩
def k1_off22 (d0 : Dev nD) (k1_t8 : Fin k1_t8_loop.trips) : Fin 2 → Nat :=
  let c2048_i32_294 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_290 : BitVec 32 := 3#32
  let v254 : BitVec 32 := Scalar.addi v2 c3_i32_290
  let c8_i32_291 : BitVec 32 := 8#32
  let v255 : BitVec 32 := Scalar.addi v254 c8_i32_291
  let c8_i32_292 : BitVec 32 := 8#32
  let v256 : BitVec 32 := Scalar.remsi v255 c8_i32_292
  let c256_i32_293 : BitVec 32 := 256#32
  let v257 : BitVec 32 := Scalar.muli v256 c256_i32_293
  let v258 : BitVec 32 := Scalar.addi c2048_i32_294 v257
  let v1059 : Index := Scalar.indexCast v258
  let c0_i32_295 : BitVec 32 := 0#32
  let c1_i32_297 : BitVec 32 := 1#32
  let arg16 : BitVec 32 := Scf.iv c0_i32_295 c1_i32_297 k1_t8
  let c128_i32 : BitVec 32 := 128#32
  let v1058 : BitVec 32 := Scalar.muli arg16 c128_i32
  let v1060 : Index := Scalar.indexCast v1058
  ![v1059.toNat, v1060.toNat]
def k1_off23 (k1_t8 : Fin k1_t8_loop.trips) : Fin 2 → Nat :=
  let c0_1137 : Index := 0#32
  let c0_i32_295 : BitVec 32 := 0#32
  let c1_i32_297 : BitVec 32 := 1#32
  let arg16 : BitVec 32 := Scf.iv c0_i32_295 c1_i32_297 k1_t8
  let c128_i32 : BitVec 32 := 128#32
  let v1058 : BitVec 32 := Scalar.muli arg16 c128_i32
  let v1063 : Index := Scalar.indexCast v1058
  ![0, v1063.toNat]
def k1_off24 (k1_t8 : Fin k1_t8_loop.trips) : Fin 2 → Nat :=
  let c0_1142 : Index := 0#32
  let c0_i32_295 : BitVec 32 := 0#32
  let c1_i32_297 : BitVec 32 := 1#32
  let arg16 : BitVec 32 := Scf.iv c0_i32_295 c1_i32_297 k1_t8
  let c128_i32 : BitVec 32 := 128#32
  let v1058 : BitVec 32 := Scalar.muli arg16 c128_i32
  let v1079 : Index := Scalar.indexCast v1058
  ![0, v1079.toNat]
def k1_dev9 (d0 : Dev nD) : Nat :=
  let c0_i32_367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_366 : BitVec 32 := 1#32
  let v312 : BitVec 32 := Scalar.muli v8 c1_i32_366
  let v313 : BitVec 32 := Scalar.addi c0_i32_367 v312
  v313.toNat
def k1_dev10 (d0 : Dev nD) : Nat :=
  let c0_i32_377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_376 : BitVec 32 := 1#32
  let v322 : BitVec 32 := Scalar.muli v5 c1_i32_376
  let v323 : BitVec 32 := Scalar.addi c0_i32_377 v322
  v323.toNat
@[reducible] def k1_t9_loop : Scf.Loop 32 :=
  let c0_i32_385 : BitVec 32 := 0#32
  let c8_i32_386 : BitVec 32 := 8#32
  let v336 : BitVec 32 := Scalar.addi c0_i32_385 c8_i32_386
  let c1_i32_387 : BitVec 32 := 1#32
  ⟨c0_i32_385, v336, c1_i32_387⟩
def k1_off25 (d0 : Dev nD) (k1_t9 : Fin k1_t9_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v332 : BitVec 32 := Scalar.subi v2 c4_i32
  let c8_i32_382 : BitVec 32 := 8#32
  let v333 : BitVec 32 := Scalar.addi v332 c8_i32_382
  let c8_i32_383 : BitVec 32 := 8#32
  let v334 : BitVec 32 := Scalar.remsi v333 c8_i32_383
  let c256_i32_384 : BitVec 32 := 256#32
  let v335 : BitVec 32 := Scalar.muli v334 c256_i32_384
  let v1059 : Index := Scalar.indexCast v335
  let c0_i32_385 : BitVec 32 := 0#32
  let c1_i32_387 : BitVec 32 := 1#32
  let arg16 : BitVec 32 := Scf.iv c0_i32_385 c1_i32_387 k1_t9
  let c128_i32 : BitVec 32 := 128#32
  let v1058 : BitVec 32 := Scalar.muli arg16 c128_i32
  let v1060 : Index := Scalar.indexCast v1058
  ![v1059.toNat, v1060.toNat]
def k1_off26 (k1_t9 : Fin k1_t9_loop.trips) : Fin 2 → Nat :=
  let c0_1137 : Index := 0#32
  let c0_i32_385 : BitVec 32 := 0#32
  let c1_i32_387 : BitVec 32 := 1#32
  let arg16 : BitVec 32 := Scf.iv c0_i32_385 c1_i32_387 k1_t9
  let c128_i32 : BitVec 32 := 128#32
  let v1058 : BitVec 32 := Scalar.muli arg16 c128_i32
  let v1063 : Index := Scalar.indexCast v1058
  ![0, v1063.toNat]
def k1_off27 (k1_t9 : Fin k1_t9_loop.trips) : Fin 2 → Nat :=
  let c0_1142 : Index := 0#32
  let c0_i32_385 : BitVec 32 := 0#32
  let c1_i32_387 : BitVec 32 := 1#32
  let arg16 : BitVec 32 := Scf.iv c0_i32_385 c1_i32_387 k1_t9
  let c128_i32 : BitVec 32 := 128#32
  let v1058 : BitVec 32 := Scalar.muli arg16 c128_i32
  let v1079 : Index := Scalar.indexCast v1058
  ![0, v1079.toNat]
@[reducible] def k1_t10_loop : Scf.Loop 32 :=
  let c0_i32_402 : BitVec 32 := 0#32
  let c8_i32_403 : BitVec 32 := 8#32
  let v350 : BitVec 32 := Scalar.addi c0_i32_402 c8_i32_403
  let c1_i32_404 : BitVec 32 := 1#32
  ⟨c0_i32_402, v350, c1_i32_404⟩
def k1_off28 (d0 : Dev nD) (k1_t10 : Fin k1_t10_loop.trips) : Fin 2 → Nat :=
  let c2048_i32_401 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_397 : BitVec 32 := 4#32
  let v345 : BitVec 32 := Scalar.addi v2 c4_i32_397
  let c8_i32_398 : BitVec 32 := 8#32
  let v346 : BitVec 32 := Scalar.addi v345 c8_i32_398
  let c8_i32_399 : BitVec 32 := 8#32
  let v347 : BitVec 32 := Scalar.remsi v346 c8_i32_399
  let c256_i32_400 : BitVec 32 := 256#32
  let v348 : BitVec 32 := Scalar.muli v347 c256_i32_400
  let v349 : BitVec 32 := Scalar.addi c2048_i32_401 v348
  let v1059 : Index := Scalar.indexCast v349
  let c0_i32_402 : BitVec 32 := 0#32
  let c1_i32_404 : BitVec 32 := 1#32
  let arg16 : BitVec 32 := Scf.iv c0_i32_402 c1_i32_404 k1_t10
  let c128_i32 : BitVec 32 := 128#32
  let v1058 : BitVec 32 := Scalar.muli arg16 c128_i32
  let v1060 : Index := Scalar.indexCast v1058
  ![v1059.toNat, v1060.toNat]
def k1_off29 (k1_t10 : Fin k1_t10_loop.trips) : Fin 2 → Nat :=
  let c0_1137 : Index := 0#32
  let c0_i32_402 : BitVec 32 := 0#32
  let c1_i32_404 : BitVec 32 := 1#32
  let arg16 : BitVec 32 := Scf.iv c0_i32_402 c1_i32_404 k1_t10
  let c128_i32 : BitVec 32 := 128#32
  let v1058 : BitVec 32 := Scalar.muli arg16 c128_i32
  let v1063 : Index := Scalar.indexCast v1058
  ![0, v1063.toNat]
def k1_off30 (k1_t10 : Fin k1_t10_loop.trips) : Fin 2 → Nat :=
  let c0_1142 : Index := 0#32
  let c0_i32_402 : BitVec 32 := 0#32
  let c1_i32_404 : BitVec 32 := 1#32
  let arg16 : BitVec 32 := Scf.iv c0_i32_402 c1_i32_404 k1_t10
  let c128_i32 : BitVec 32 := 128#32
  let v1058 : BitVec 32 := Scalar.muli arg16 c128_i32
  let v1079 : Index := Scalar.indexCast v1058
  ![0, v1079.toNat]
def k1_dev11 (d0 : Dev nD) : Nat :=
  let c0_i32_474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_473 : BitVec 32 := 1#32
  let v403 : BitVec 32 := Scalar.muli v8 c1_i32_473
  let v404 : BitVec 32 := Scalar.addi c0_i32_474 v403
  v404.toNat
def k1_dev12 (d0 : Dev nD) : Nat :=
  let c0_i32_484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_483 : BitVec 32 := 1#32
  let v413 : BitVec 32 := Scalar.muli v5 c1_i32_483
  let v414 : BitVec 32 := Scalar.addi c0_i32_484 v413
  v414.toNat
@[reducible] def k1_t11_loop : Scf.Loop 32 :=
  let c0_i32_492 : BitVec 32 := 0#32
  let c8_i32_493 : BitVec 32 := 8#32
  let v427 : BitVec 32 := Scalar.addi c0_i32_492 c8_i32_493
  let c1_i32_494 : BitVec 32 := 1#32
  ⟨c0_i32_492, v427, c1_i32_494⟩
def k1_off31 (d0 : Dev nD) (k1_t11 : Fin k1_t11_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v423 : BitVec 32 := Scalar.subi v2 c5_i32
  let c8_i32_489 : BitVec 32 := 8#32
  let v424 : BitVec 32 := Scalar.addi v423 c8_i32_489
  let c8_i32_490 : BitVec 32 := 8#32
  let v425 : BitVec 32 := Scalar.remsi v424 c8_i32_490
  let c256_i32_491 : BitVec 32 := 256#32
  let v426 : BitVec 32 := Scalar.muli v425 c256_i32_491
  let v1059 : Index := Scalar.indexCast v426
  let c0_i32_492 : BitVec 32 := 0#32
  let c1_i32_494 : BitVec 32 := 1#32
  let arg16 : BitVec 32 := Scf.iv c0_i32_492 c1_i32_494 k1_t11
  let c128_i32 : BitVec 32 := 128#32
  let v1058 : BitVec 32 := Scalar.muli arg16 c128_i32
  let v1060 : Index := Scalar.indexCast v1058
  ![v1059.toNat, v1060.toNat]
def k1_off32 (k1_t11 : Fin k1_t11_loop.trips) : Fin 2 → Nat :=
  let c0_1137 : Index := 0#32
  let c0_i32_492 : BitVec 32 := 0#32
  let c1_i32_494 : BitVec 32 := 1#32
  let arg16 : BitVec 32 := Scf.iv c0_i32_492 c1_i32_494 k1_t11
  let c128_i32 : BitVec 32 := 128#32
  let v1058 : BitVec 32 := Scalar.muli arg16 c128_i32
  let v1063 : Index := Scalar.indexCast v1058
  ![0, v1063.toNat]
def k1_off33 (k1_t11 : Fin k1_t11_loop.trips) : Fin 2 → Nat :=
  let c0_1142 : Index := 0#32
  let c0_i32_492 : BitVec 32 := 0#32
  let c1_i32_494 : BitVec 32 := 1#32
  let arg16 : BitVec 32 := Scf.iv c0_i32_492 c1_i32_494 k1_t11
  let c128_i32 : BitVec 32 := 128#32
  let v1058 : BitVec 32 := Scalar.muli arg16 c128_i32
  let v1079 : Index := Scalar.indexCast v1058
  ![0, v1079.toNat]
@[reducible] def k1_t12_loop : Scf.Loop 32 :=
  let c0_i32_509 : BitVec 32 := 0#32
  let c8_i32_510 : BitVec 32 := 8#32
  let v441 : BitVec 32 := Scalar.addi c0_i32_509 c8_i32_510
  let c1_i32_511 : BitVec 32 := 1#32
  ⟨c0_i32_509, v441, c1_i32_511⟩
def k1_off34 (d0 : Dev nD) (k1_t12 : Fin k1_t12_loop.trips) : Fin 2 → Nat :=
  let c2048_i32_508 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_504 : BitVec 32 := 5#32
  let v436 : BitVec 32 := Scalar.addi v2 c5_i32_504
  let c8_i32_505 : BitVec 32 := 8#32
  let v437 : BitVec 32 := Scalar.addi v436 c8_i32_505
  let c8_i32_506 : BitVec 32 := 8#32
  let v438 : BitVec 32 := Scalar.remsi v437 c8_i32_506
  let c256_i32_507 : BitVec 32 := 256#32
  let v439 : BitVec 32 := Scalar.muli v438 c256_i32_507
  let v440 : BitVec 32 := Scalar.addi c2048_i32_508 v439
  let v1059 : Index := Scalar.indexCast v440
  let c0_i32_509 : BitVec 32 := 0#32
  let c1_i32_511 : BitVec 32 := 1#32
  let arg16 : BitVec 32 := Scf.iv c0_i32_509 c1_i32_511 k1_t12
  let c128_i32 : BitVec 32 := 128#32
  let v1058 : BitVec 32 := Scalar.muli arg16 c128_i32
  let v1060 : Index := Scalar.indexCast v1058
  ![v1059.toNat, v1060.toNat]
def k1_off35 (k1_t12 : Fin k1_t12_loop.trips) : Fin 2 → Nat :=
  let c0_1137 : Index := 0#32
  let c0_i32_509 : BitVec 32 := 0#32
  let c1_i32_511 : BitVec 32 := 1#32
  let arg16 : BitVec 32 := Scf.iv c0_i32_509 c1_i32_511 k1_t12
  let c128_i32 : BitVec 32 := 128#32
  let v1058 : BitVec 32 := Scalar.muli arg16 c128_i32
  let v1063 : Index := Scalar.indexCast v1058
  ![0, v1063.toNat]
def k1_off36 (k1_t12 : Fin k1_t12_loop.trips) : Fin 2 → Nat :=
  let c0_1142 : Index := 0#32
  let c0_i32_509 : BitVec 32 := 0#32
  let c1_i32_511 : BitVec 32 := 1#32
  let arg16 : BitVec 32 := Scf.iv c0_i32_509 c1_i32_511 k1_t12
  let c128_i32 : BitVec 32 := 128#32
  let v1058 : BitVec 32 := Scalar.muli arg16 c128_i32
  let v1079 : Index := Scalar.indexCast v1058
  ![0, v1079.toNat]
def k1_dev13 (d0 : Dev nD) : Nat :=
  let c0_i32_581 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_580 : BitVec 32 := 1#32
  let v494 : BitVec 32 := Scalar.muli v8 c1_i32_580
  let v495 : BitVec 32 := Scalar.addi c0_i32_581 v494
  v495.toNat
def k1_dev14 (d0 : Dev nD) : Nat :=
  let c0_i32_591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_590 : BitVec 32 := 1#32
  let v504 : BitVec 32 := Scalar.muli v5 c1_i32_590
  let v505 : BitVec 32 := Scalar.addi c0_i32_591 v504
  v505.toNat
@[reducible] def k1_t13_loop : Scf.Loop 32 :=
  let c0_i32_599 : BitVec 32 := 0#32
  let c8_i32_600 : BitVec 32 := 8#32
  let v518 : BitVec 32 := Scalar.addi c0_i32_599 c8_i32_600
  let c1_i32_601 : BitVec 32 := 1#32
  ⟨c0_i32_599, v518, c1_i32_601⟩
def k1_off37 (d0 : Dev nD) (k1_t13 : Fin k1_t13_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v514 : BitVec 32 := Scalar.subi v2 c6_i32
  let c8_i32_596 : BitVec 32 := 8#32
  let v515 : BitVec 32 := Scalar.addi v514 c8_i32_596
  let c8_i32_597 : BitVec 32 := 8#32
  let v516 : BitVec 32 := Scalar.remsi v515 c8_i32_597
  let c256_i32_598 : BitVec 32 := 256#32
  let v517 : BitVec 32 := Scalar.muli v516 c256_i32_598
  let v1059 : Index := Scalar.indexCast v517
  let c0_i32_599 : BitVec 32 := 0#32
  let c1_i32_601 : BitVec 32 := 1#32
  let arg16 : BitVec 32 := Scf.iv c0_i32_599 c1_i32_601 k1_t13
  let c128_i32 : BitVec 32 := 128#32
  let v1058 : BitVec 32 := Scalar.muli arg16 c128_i32
  let v1060 : Index := Scalar.indexCast v1058
  ![v1059.toNat, v1060.toNat]
def k1_off38 (k1_t13 : Fin k1_t13_loop.trips) : Fin 2 → Nat :=
  let c0_1137 : Index := 0#32
  let c0_i32_599 : BitVec 32 := 0#32
  let c1_i32_601 : BitVec 32 := 1#32
  let arg16 : BitVec 32 := Scf.iv c0_i32_599 c1_i32_601 k1_t13
  let c128_i32 : BitVec 32 := 128#32
  let v1058 : BitVec 32 := Scalar.muli arg16 c128_i32
  let v1063 : Index := Scalar.indexCast v1058
  ![0, v1063.toNat]
def k1_off39 (k1_t13 : Fin k1_t13_loop.trips) : Fin 2 → Nat :=
  let c0_1142 : Index := 0#32
  let c0_i32_599 : BitVec 32 := 0#32
  let c1_i32_601 : BitVec 32 := 1#32
  let arg16 : BitVec 32 := Scf.iv c0_i32_599 c1_i32_601 k1_t13
  let c128_i32 : BitVec 32 := 128#32
  let v1058 : BitVec 32 := Scalar.muli arg16 c128_i32
  let v1079 : Index := Scalar.indexCast v1058
  ![0, v1079.toNat]
@[reducible] def k1_t14_loop : Scf.Loop 32 :=
  let c0_i32_616 : BitVec 32 := 0#32
  let c8_i32_617 : BitVec 32 := 8#32
  let v532 : BitVec 32 := Scalar.addi c0_i32_616 c8_i32_617
  let c1_i32_618 : BitVec 32 := 1#32
  ⟨c0_i32_616, v532, c1_i32_618⟩
def k1_off40 (d0 : Dev nD) (k1_t14 : Fin k1_t14_loop.trips) : Fin 2 → Nat :=
  let c2048_i32_615 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_611 : BitVec 32 := 6#32
  let v527 : BitVec 32 := Scalar.addi v2 c6_i32_611
  let c8_i32_612 : BitVec 32 := 8#32
  let v528 : BitVec 32 := Scalar.addi v527 c8_i32_612
  let c8_i32_613 : BitVec 32 := 8#32
  let v529 : BitVec 32 := Scalar.remsi v528 c8_i32_613
  let c256_i32_614 : BitVec 32 := 256#32
  let v530 : BitVec 32 := Scalar.muli v529 c256_i32_614
  let v531 : BitVec 32 := Scalar.addi c2048_i32_615 v530
  let v1059 : Index := Scalar.indexCast v531
  let c0_i32_616 : BitVec 32 := 0#32
  let c1_i32_618 : BitVec 32 := 1#32
  let arg16 : BitVec 32 := Scf.iv c0_i32_616 c1_i32_618 k1_t14
  let c128_i32 : BitVec 32 := 128#32
  let v1058 : BitVec 32 := Scalar.muli arg16 c128_i32
  let v1060 : Index := Scalar.indexCast v1058
  ![v1059.toNat, v1060.toNat]
def k1_off41 (k1_t14 : Fin k1_t14_loop.trips) : Fin 2 → Nat :=
  let c0_1137 : Index := 0#32
  let c0_i32_616 : BitVec 32 := 0#32
  let c1_i32_618 : BitVec 32 := 1#32
  let arg16 : BitVec 32 := Scf.iv c0_i32_616 c1_i32_618 k1_t14
  let c128_i32 : BitVec 32 := 128#32
  let v1058 : BitVec 32 := Scalar.muli arg16 c128_i32
  let v1063 : Index := Scalar.indexCast v1058
  ![0, v1063.toNat]
def k1_off42 (k1_t14 : Fin k1_t14_loop.trips) : Fin 2 → Nat :=
  let c0_1142 : Index := 0#32
  let c0_i32_616 : BitVec 32 := 0#32
  let c1_i32_618 : BitVec 32 := 1#32
  let arg16 : BitVec 32 := Scf.iv c0_i32_616 c1_i32_618 k1_t14
  let c128_i32 : BitVec 32 := 128#32
  let v1058 : BitVec 32 := Scalar.muli arg16 c128_i32
  let v1079 : Index := Scalar.indexCast v1058
  ![0, v1079.toNat]
def k1_dev15 (d0 : Dev nD) : Nat :=
  let c0_i32_688 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_687 : BitVec 32 := 1#32
  let v585 : BitVec 32 := Scalar.muli v8 c1_i32_687
  let v586 : BitVec 32 := Scalar.addi c0_i32_688 v585
  v586.toNat
def k1_dev16 (d0 : Dev nD) : Nat :=
  let c0_i32_698 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_697 : BitVec 32 := 1#32
  let v595 : BitVec 32 := Scalar.muli v5 c1_i32_697
  let v596 : BitVec 32 := Scalar.addi c0_i32_698 v595
  v596.toNat
@[reducible] def k1_t15_loop : Scf.Loop 32 :=
  let c0_i32_707 : BitVec 32 := 0#32
  let c8_i32_708 : BitVec 32 := 8#32
  let v609 : BitVec 32 := Scalar.addi c0_i32_707 c8_i32_708
  let c1_i32_709 : BitVec 32 := 1#32
  ⟨c0_i32_707, v609, c1_i32_709⟩
def k1_off43 (d0 : Dev nD) (k1_t15 : Fin k1_t15_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_703 : BitVec 32 := 1#32
  let v605 : BitVec 32 := Scalar.addi v2 c1_i32_703
  let c8_i32_704 : BitVec 32 := 8#32
  let v606 : BitVec 32 := Scalar.addi v605 c8_i32_704
  let c8_i32_705 : BitVec 32 := 8#32
  let v607 : BitVec 32 := Scalar.remsi v606 c8_i32_705
  let c256_i32_706 : BitVec 32 := 256#32
  let v608 : BitVec 32 := Scalar.muli v607 c256_i32_706
  let v1059 : Index := Scalar.indexCast v608
  let c0_i32_707 : BitVec 32 := 0#32
  let c1_i32_709 : BitVec 32 := 1#32
  let arg16 : BitVec 32 := Scf.iv c0_i32_707 c1_i32_709 k1_t15
  let c128_i32 : BitVec 32 := 128#32
  let v1058 : BitVec 32 := Scalar.muli arg16 c128_i32
  let v1060 : Index := Scalar.indexCast v1058
  ![v1059.toNat, v1060.toNat]
def k1_off44 (k1_t15 : Fin k1_t15_loop.trips) : Fin 2 → Nat :=
  let c0_1137 : Index := 0#32
  let c0_i32_707 : BitVec 32 := 0#32
  let c1_i32_709 : BitVec 32 := 1#32
  let arg16 : BitVec 32 := Scf.iv c0_i32_707 c1_i32_709 k1_t15
  let c128_i32 : BitVec 32 := 128#32
  let v1058 : BitVec 32 := Scalar.muli arg16 c128_i32
  let v1063 : Index := Scalar.indexCast v1058
  ![0, v1063.toNat]
def k1_off45 (k1_t15 : Fin k1_t15_loop.trips) : Fin 2 → Nat :=
  let c0_1142 : Index := 0#32
  let c0_i32_707 : BitVec 32 := 0#32
  let c1_i32_709 : BitVec 32 := 1#32
  let arg16 : BitVec 32 := Scf.iv c0_i32_707 c1_i32_709 k1_t15
  let c128_i32 : BitVec 32 := 128#32
  let v1058 : BitVec 32 := Scalar.muli arg16 c128_i32
  let v1079 : Index := Scalar.indexCast v1058
  ![0, v1079.toNat]
@[reducible] def k1_t16_loop : Scf.Loop 32 :=
  let c0_i32_724 : BitVec 32 := 0#32
  let c8_i32_725 : BitVec 32 := 8#32
  let v623 : BitVec 32 := Scalar.addi c0_i32_724 c8_i32_725
  let c1_i32_726 : BitVec 32 := 1#32
  ⟨c0_i32_724, v623, c1_i32_726⟩
def k1_off46 (d0 : Dev nD) (k1_t16 : Fin k1_t16_loop.trips) : Fin 2 → Nat :=
  let c2048_i32_723 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_719 : BitVec 32 := 1#32
  let v618 : BitVec 32 := Scalar.subi v2 c1_i32_719
  let c8_i32_720 : BitVec 32 := 8#32
  let v619 : BitVec 32 := Scalar.addi v618 c8_i32_720
  let c8_i32_721 : BitVec 32 := 8#32
  let v620 : BitVec 32 := Scalar.remsi v619 c8_i32_721
  let c256_i32_722 : BitVec 32 := 256#32
  let v621 : BitVec 32 := Scalar.muli v620 c256_i32_722
  let v622 : BitVec 32 := Scalar.addi c2048_i32_723 v621
  let v1059 : Index := Scalar.indexCast v622
  let c0_i32_724 : BitVec 32 := 0#32
  let c1_i32_726 : BitVec 32 := 1#32
  let arg16 : BitVec 32 := Scf.iv c0_i32_724 c1_i32_726 k1_t16
  let c128_i32 : BitVec 32 := 128#32
  let v1058 : BitVec 32 := Scalar.muli arg16 c128_i32
  let v1060 : Index := Scalar.indexCast v1058
  ![v1059.toNat, v1060.toNat]
def k1_off47 (k1_t16 : Fin k1_t16_loop.trips) : Fin 2 → Nat :=
  let c0_1137 : Index := 0#32
  let c0_i32_724 : BitVec 32 := 0#32
  let c1_i32_726 : BitVec 32 := 1#32
  let arg16 : BitVec 32 := Scf.iv c0_i32_724 c1_i32_726 k1_t16
  let c128_i32 : BitVec 32 := 128#32
  let v1058 : BitVec 32 := Scalar.muli arg16 c128_i32
  let v1063 : Index := Scalar.indexCast v1058
  ![0, v1063.toNat]
def k1_off48 (k1_t16 : Fin k1_t16_loop.trips) : Fin 2 → Nat :=
  let c0_1142 : Index := 0#32
  let c0_i32_724 : BitVec 32 := 0#32
  let c1_i32_726 : BitVec 32 := 1#32
  let arg16 : BitVec 32 := Scf.iv c0_i32_724 c1_i32_726 k1_t16
  let c128_i32 : BitVec 32 := 128#32
  let v1058 : BitVec 32 := Scalar.muli arg16 c128_i32
  let v1079 : Index := Scalar.indexCast v1058
  ![0, v1079.toNat]
def k1_off49 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_787 : BitVec 32 := 1#32
  let v676 : BitVec 32 := Scalar.addi v2 c1_i32_787
  let c8_i32_788 : BitVec 32 := 8#32
  let v677 : BitVec 32 := Scalar.addi v676 c8_i32_788
  let c8_i32_789 : BitVec 32 := 8#32
  let v678 : BitVec 32 := Scalar.remsi v677 c8_i32_789
  let c256_i32_793 : BitVec 32 := 256#32
  let v682 : BitVec 32 := Scalar.muli v678 c256_i32_793
  let v683 : Index := Scalar.indexCast v682
  let c0_794 : Index := 0#32
  ![v683.toNat, 0]
def k1_off50 (d0 : Dev nD) : Fin 2 → Nat :=
  let c2048_i32_798 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_790 : BitVec 32 := 1#32
  let v679 : BitVec 32 := Scalar.subi v2 c1_i32_790
  let c8_i32_791 : BitVec 32 := 8#32
  let v680 : BitVec 32 := Scalar.addi v679 c8_i32_791
  let c8_i32_792 : BitVec 32 := 8#32
  let v681 : BitVec 32 := Scalar.remsi v680 c8_i32_792
  let c256_i32_797 : BitVec 32 := 256#32
  let v695 : BitVec 32 := Scalar.muli v681 c256_i32_797
  let v696 : BitVec 32 := Scalar.addi c2048_i32_798 v695
  let v697 : Index := Scalar.indexCast v696
  let c0_799 : Index := 0#32
  ![v697.toNat, 0]
def k1_off51 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_803 : BitVec 32 := 1#32
  let v710 : BitVec 32 := Scalar.addi v2 c1_i32_803
  let c8_i32_804 : BitVec 32 := 8#32
  let v711 : BitVec 32 := Scalar.addi v710 c8_i32_804
  let c8_i32_805 : BitVec 32 := 8#32
  let v712 : BitVec 32 := Scalar.remsi v711 c8_i32_805
  let c256_i32_810 : BitVec 32 := 256#32
  let v717 : BitVec 32 := Scalar.muli v712 c256_i32_810
  let c0_i32_819 : BitVec 32 := 0#32
  ![v717.toNat, 0]
def k1_dev17 (d0 : Dev nD) : Nat :=
  let c0_i32_818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_817 : BitVec 32 := 1#32
  let v722 : BitVec 32 := Scalar.muli v8 c1_i32_817
  let v723 : BitVec 32 := Scalar.addi c0_i32_818 v722
  v723.toNat
def k1_off52 (d0 : Dev nD) : Fin 2 → Nat :=
  let c2048_i32_814 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_806 : BitVec 32 := 1#32
  let v713 : BitVec 32 := Scalar.subi v2 c1_i32_806
  let c8_i32_807 : BitVec 32 := 8#32
  let v714 : BitVec 32 := Scalar.addi v713 c8_i32_807
  let c8_i32_808 : BitVec 32 := 8#32
  let v715 : BitVec 32 := Scalar.remsi v714 c8_i32_808
  let c256_i32_813 : BitVec 32 := 256#32
  let v720 : BitVec 32 := Scalar.muli v715 c256_i32_813
  let v721 : BitVec 32 := Scalar.addi c2048_i32_814 v720
  let c0_i32_825 : BitVec 32 := 0#32
  ![v721.toNat, 0]
def k1_dev18 (d0 : Dev nD) : Nat :=
  let c0_i32_824 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_823 : BitVec 32 := 1#32
  let v730 : BitVec 32 := Scalar.muli v5 c1_i32_823
  let v731 : BitVec 32 := Scalar.addi c0_i32_824 v730
  v731.toNat
def k1_off53 (d0 : Dev nD) (c1_i32_850 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_849 : BitVec 32 := 1#32
  let v758 : BitVec 32 := Scalar.addi v2 c1_i32_849
  let v759 : BitVec 32 := Scalar.subi v758 c1_i32_850
  let c8_i32_851 : BitVec 32 := 8#32
  let v760 : BitVec 32 := Scalar.addi v759 c8_i32_851
  let c8_i32_852 : BitVec 32 := 8#32
  let v761 : BitVec 32 := Scalar.remsi v760 c8_i32_852
  let c256_i32_858 : BitVec 32 := 256#32
  let v767 : BitVec 32 := Scalar.muli v761 c256_i32_858
  let c0_i32_867 : BitVec 32 := 0#32
  ![v767.toNat, 0]
def k1_dev19 (d0 : Dev nD) : Nat :=
  let c0_i32_866 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_865 : BitVec 32 := 1#32
  let v772 : BitVec 32 := Scalar.muli v8 c1_i32_865
  let v773 : BitVec 32 := Scalar.addi c0_i32_866 v772
  v773.toNat
def k1_off54 (d0 : Dev nD) (c1_i32_854 : BitVec 32) : Fin 2 → Nat :=
  let c2048_i32_862 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_853 : BitVec 32 := 1#32
  let v762 : BitVec 32 := Scalar.subi v2 c1_i32_853
  let v763 : BitVec 32 := Scalar.addi v762 c1_i32_854
  let c8_i32_855 : BitVec 32 := 8#32
  let v764 : BitVec 32 := Scalar.addi v763 c8_i32_855
  let c8_i32_856 : BitVec 32 := 8#32
  let v765 : BitVec 32 := Scalar.remsi v764 c8_i32_856
  let c256_i32_861 : BitVec 32 := 256#32
  let v770 : BitVec 32 := Scalar.muli v765 c256_i32_861
  let v771 : BitVec 32 := Scalar.addi c2048_i32_862 v770
  let c0_i32_873 : BitVec 32 := 0#32
  ![v771.toNat, 0]
def k1_dev20 (d0 : Dev nD) : Nat :=
  let c0_i32_872 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_871 : BitVec 32 := 1#32
  let v780 : BitVec 32 := Scalar.muli v5 c1_i32_871
  let v781 : BitVec 32 := Scalar.addi c0_i32_872 v780
  v781.toNat
def k1_dev21 (d0 : Dev nD) : Nat :=
  let c0_i32_914 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_913 : BitVec 32 := 1#32
  let v822 : BitVec 32 := Scalar.muli v8 c1_i32_913
  let v823 : BitVec 32 := Scalar.addi c0_i32_914 v822
  v823.toNat
def k1_dev22 (d0 : Dev nD) : Nat :=
  let c0_i32_920 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_919 : BitVec 32 := 1#32
  let v830 : BitVec 32 := Scalar.muli v5 c1_i32_919
  let v831 : BitVec 32 := Scalar.addi c0_i32_920 v830
  v831.toNat
def k1_dev23 (d0 : Dev nD) : Nat :=
  let c0_i32_962 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_961 : BitVec 32 := 1#32
  let v872 : BitVec 32 := Scalar.muli v8 c1_i32_961
  let v873 : BitVec 32 := Scalar.addi c0_i32_962 v872
  v873.toNat
def k1_dev24 (d0 : Dev nD) : Nat :=
  let c0_i32_968 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_967 : BitVec 32 := 1#32
  let v880 : BitVec 32 := Scalar.muli v5 c1_i32_967
  let v881 : BitVec 32 := Scalar.addi c0_i32_968 v880
  v881.toNat
def k1_dev25 (d0 : Dev nD) : Nat :=
  let c0_i32_1010 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_1009 : BitVec 32 := 1#32
  let v922 : BitVec 32 := Scalar.muli v8 c1_i32_1009
  let v923 : BitVec 32 := Scalar.addi c0_i32_1010 v922
  v923.toNat
def k1_dev26 (d0 : Dev nD) : Nat :=
  let c0_i32_1016 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1015 : BitVec 32 := 1#32
  let v930 : BitVec 32 := Scalar.muli v5 c1_i32_1015
  let v931 : BitVec 32 := Scalar.addi c0_i32_1016 v930
  v931.toNat
def k1_dev27 (d0 : Dev nD) : Nat :=
  let c0_i32_1058 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_1057 : BitVec 32 := 1#32
  let v972 : BitVec 32 := Scalar.muli v8 c1_i32_1057
  let v973 : BitVec 32 := Scalar.addi c0_i32_1058 v972
  v973.toNat
def k1_dev28 (d0 : Dev nD) : Nat :=
  let c0_i32_1064 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1063 : BitVec 32 := 1#32
  let v980 : BitVec 32 := Scalar.muli v5 c1_i32_1063
  let v981 : BitVec 32 := Scalar.addi c0_i32_1064 v980
  v981.toNat
def k1_dev29 (d0 : Dev nD) : Nat :=
  let c0_i32_1106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_1105 : BitVec 32 := 1#32
  let v1022 : BitVec 32 := Scalar.muli v8 c1_i32_1105
  let v1023 : BitVec 32 := Scalar.addi c0_i32_1106 v1022
  v1023.toNat
def k1_dev30 (d0 : Dev nD) : Nat :=
  let c0_i32_1112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1111 : BitVec 32 := 1#32
  let v1030 : BitVec 32 := Scalar.muli v5 c1_i32_1111
  let v1031 : BitVec 32 := Scalar.addi c0_i32_1112 v1030
  v1031.toNat
def k1_dev31 (d0 : Dev nD) : Nat :=
  let c0_i32_1139_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1138_r0 : BitVec 32 := 1#32
  let v1059_r0 : BitVec 32 := Scalar.muli v5 c1_i32_1138_r0
  let v1060_r0 : BitVec 32 := Scalar.addi c0_i32_1139_r0 v1059_r0
  v1060_r0.toNat
def k1_dev32 (d0 : Dev nD) : Nat :=
  let c0_i32_1142_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_1141_r0 : BitVec 32 := 1#32
  let v1061_r0 : BitVec 32 := Scalar.muli v8 c1_i32_1141_r0
  let v1062_r0 : BitVec 32 := Scalar.addi c0_i32_1142_r0 v1061_r0
  v1062_r0.toNat
abbrev stage1_0 : Fin 1 → Memref sig .tc .vmem S4096x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S4096x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S4096x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev grid2 : Pipeline.Grid := .none

def k2_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_7 : BitVec 32 := 1#32
  let v10 : BitVec 32 := Scalar.muli v5 c1_i32_7
  let v11 : BitVec 32 := Scalar.addi c0_i32 v10
  v11.toNat
def k2_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_9 : BitVec 32 := 1#32
  let v12 : BitVec 32 := Scalar.muli v8 c1_i32_9
  let v13 : BitVec 32 := Scalar.addi c0_i32_10 v12
  v13.toNat
def k2_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_11 : BitVec 32 := 8#32
  let v14 : BitVec 32 := Scalar.addi v2 c8_i32_11
  let c8_i32_12 : BitVec 32 := 8#32
  let v15 : BitVec 32 := Scalar.remsi v14 c8_i32_12
  let c256_i32 : BitVec 32 := 256#32
  let v16 : BitVec 32 := Scalar.muli v15 c256_i32
  let v17 : Index := Scalar.indexCast v16
  let c0 : Index := 0#32
  ![v17.toNat, 0]
def k2_off2 (d0 : Dev nD) : Fin 2 → Nat :=
  let c2048_i32 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_31 : BitVec 32 := 8#32
  let v65 : BitVec 32 := Scalar.addi v2 c8_i32_31
  let c8_i32_32 : BitVec 32 := 8#32
  let v66 : BitVec 32 := Scalar.remsi v65 c8_i32_32
  let c256_i32_33 : BitVec 32 := 256#32
  let v67 : BitVec 32 := Scalar.muli v66 c256_i32_33
  let v68 : BitVec 32 := Scalar.addi c2048_i32 v67
  let v69 : Index := Scalar.indexCast v68
  let c0_34 : Index := 0#32
  ![v69.toNat, 0]
def k2_dev3 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_58 : BitVec 32 := 1#32
  let v117 : BitVec 32 := Scalar.muli v8 c1_i32_58
  let v118 : BitVec 32 := Scalar.addi c0_i32_59 v117
  v118.toNat
def k2_dev4 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_68 : BitVec 32 := 1#32
  let v127 : BitVec 32 := Scalar.muli v5 c1_i32_68
  let v128 : BitVec 32 := Scalar.addi c0_i32_69 v127
  v128.toNat
def k2_off3 (d0 : Dev nD) (c1_i32_74 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v137 : BitVec 32 := Scalar.subi v2 c1_i32_74
  let c8_i32_75 : BitVec 32 := 8#32
  let v138 : BitVec 32 := Scalar.addi v137 c8_i32_75
  let c8_i32_76 : BitVec 32 := 8#32
  let v139 : BitVec 32 := Scalar.remsi v138 c8_i32_76
  let c256_i32_77 : BitVec 32 := 256#32
  let v140 : BitVec 32 := Scalar.muli v139 c256_i32_77
  let v141 : Index := Scalar.indexCast v140
  let c0_78 : Index := 0#32
  ![v141.toNat, 0]
def k2_off4 (d0 : Dev nD) (c1_i32_97 : BitVec 32) : Fin 2 → Nat :=
  let c2048_i32_101 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v189 : BitVec 32 := Scalar.addi v2 c1_i32_97
  let c8_i32_98 : BitVec 32 := 8#32
  let v190 : BitVec 32 := Scalar.addi v189 c8_i32_98
  let c8_i32_99 : BitVec 32 := 8#32
  let v191 : BitVec 32 := Scalar.remsi v190 c8_i32_99
  let c256_i32_100 : BitVec 32 := 256#32
  let v192 : BitVec 32 := Scalar.muli v191 c256_i32_100
  let v193 : BitVec 32 := Scalar.addi c2048_i32_101 v192
  let v194 : Index := Scalar.indexCast v193
  let c0_102 : Index := 0#32
  ![v194.toNat, 0]
def k2_dev5 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_182 : BitVec 32 := 1#32
  let v286 : BitVec 32 := Scalar.muli v8 c1_i32_182
  let v287 : BitVec 32 := Scalar.addi c0_i32_183 v286
  v287.toNat
def k2_dev6 (d0 : Dev nD) : Nat :=
  let c0_i32_193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_192 : BitVec 32 := 1#32
  let v296 : BitVec 32 := Scalar.muli v5 c1_i32_192
  let v297 : BitVec 32 := Scalar.addi c0_i32_193 v296
  v297.toNat
def k2_dev7 (d0 : Dev nD) : Nat :=
  let c0_i32_308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_307 : BitVec 32 := 1#32
  let v455 : BitVec 32 := Scalar.muli v8 c1_i32_307
  let v456 : BitVec 32 := Scalar.addi c0_i32_308 v455
  v456.toNat
def k2_dev8 (d0 : Dev nD) : Nat :=
  let c0_i32_318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_317 : BitVec 32 := 1#32
  let v465 : BitVec 32 := Scalar.muli v5 c1_i32_317
  let v466 : BitVec 32 := Scalar.addi c0_i32_318 v465
  v466.toNat
def k2_dev9 (d0 : Dev nD) : Nat :=
  let c0_i32_431 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_430 : BitVec 32 := 1#32
  let v624 : BitVec 32 := Scalar.muli v8 c1_i32_430
  let v625 : BitVec 32 := Scalar.addi c0_i32_431 v624
  v625.toNat
def k2_dev10 (d0 : Dev nD) : Nat :=
  let c0_i32_441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_440 : BitVec 32 := 1#32
  let v634 : BitVec 32 := Scalar.muli v5 c1_i32_440
  let v635 : BitVec 32 := Scalar.addi c0_i32_441 v634
  v635.toNat
def k2_dev11 (d0 : Dev nD) : Nat :=
  let c0_i32_554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_553 : BitVec 32 := 1#32
  let v793 : BitVec 32 := Scalar.muli v8 c1_i32_553
  let v794 : BitVec 32 := Scalar.addi c0_i32_554 v793
  v794.toNat
def k2_dev12 (d0 : Dev nD) : Nat :=
  let c0_i32_564 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_563 : BitVec 32 := 1#32
  let v803 : BitVec 32 := Scalar.muli v5 c1_i32_563
  let v804 : BitVec 32 := Scalar.addi c0_i32_564 v803
  v804.toNat
def k2_dev13 (d0 : Dev nD) : Nat :=
  let c0_i32_677 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_676 : BitVec 32 := 1#32
  let v962 : BitVec 32 := Scalar.muli v8 c1_i32_676
  let v963 : BitVec 32 := Scalar.addi c0_i32_677 v962
  v963.toNat
def k2_dev14 (d0 : Dev nD) : Nat :=
  let c0_i32_687 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_686 : BitVec 32 := 1#32
  let v972 : BitVec 32 := Scalar.muli v5 c1_i32_686
  let v973 : BitVec 32 := Scalar.addi c0_i32_687 v972
  v973.toNat
def k2_dev15 (d0 : Dev nD) : Nat :=
  let c0_i32_800 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_799 : BitVec 32 := 1#32
  let v1131 : BitVec 32 := Scalar.muli v8 c1_i32_799
  let v1132 : BitVec 32 := Scalar.addi c0_i32_800 v1131
  v1132.toNat
def k2_dev16 (d0 : Dev nD) : Nat :=
  let c0_i32_810 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_809 : BitVec 32 := 1#32
  let v1141 : BitVec 32 := Scalar.muli v5 c1_i32_809
  let v1142 : BitVec 32 := Scalar.addi c0_i32_810 v1141
  v1142.toNat
def k2_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_815 : BitVec 32 := 1#32
  let v1151 : BitVec 32 := Scalar.addi v2 c1_i32_815
  let c8_i32_816 : BitVec 32 := 8#32
  let v1152 : BitVec 32 := Scalar.addi v1151 c8_i32_816
  let c8_i32_817 : BitVec 32 := 8#32
  let v1153 : BitVec 32 := Scalar.remsi v1152 c8_i32_817
  let c256_i32_818 : BitVec 32 := 256#32
  let v1154 : BitVec 32 := Scalar.muli v1153 c256_i32_818
  let v1155 : Index := Scalar.indexCast v1154
  let c0_819 : Index := 0#32
  ![v1155.toNat, 0]
def k2_off6 (d0 : Dev nD) : Fin 2 → Nat :=
  let c2048_i32_843 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_839 : BitVec 32 := 1#32
  let v1203 : BitVec 32 := Scalar.subi v2 c1_i32_839
  let c8_i32_840 : BitVec 32 := 8#32
  let v1204 : BitVec 32 := Scalar.addi v1203 c8_i32_840
  let c8_i32_841 : BitVec 32 := 8#32
  let v1205 : BitVec 32 := Scalar.remsi v1204 c8_i32_841
  let c256_i32_842 : BitVec 32 := 256#32
  let v1206 : BitVec 32 := Scalar.muli v1205 c256_i32_842
  let v1207 : BitVec 32 := Scalar.addi c2048_i32_843 v1206
  let v1208 : Index := Scalar.indexCast v1207
  let c0_844 : Index := 0#32
  ![v1208.toNat, 0]
def k2_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_931 : BitVec 32 := 1#32
  let v1334 : BitVec 32 := Scalar.addi v2 c1_i32_931
  let c8_i32_932 : BitVec 32 := 8#32
  let v1335 : BitVec 32 := Scalar.addi v1334 c8_i32_932
  let c8_i32_933 : BitVec 32 := 8#32
  let v1336 : BitVec 32 := Scalar.remsi v1335 c8_i32_933
  let c256_i32_938 : BitVec 32 := 256#32
  let v1341 : BitVec 32 := Scalar.muli v1336 c256_i32_938
  let c0_i32_947 : BitVec 32 := 0#32
  ![v1341.toNat, 0]
def k2_dev17 (d0 : Dev nD) : Nat :=
  let c0_i32_946 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_945 : BitVec 32 := 1#32
  let v1346 : BitVec 32 := Scalar.muli v8 c1_i32_945
  let v1347 : BitVec 32 := Scalar.addi c0_i32_946 v1346
  v1347.toNat
def k2_off8 (d0 : Dev nD) : Fin 2 → Nat :=
  let c2048_i32_942 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_934 : BitVec 32 := 1#32
  let v1337 : BitVec 32 := Scalar.subi v2 c1_i32_934
  let c8_i32_935 : BitVec 32 := 8#32
  let v1338 : BitVec 32 := Scalar.addi v1337 c8_i32_935
  let c8_i32_936 : BitVec 32 := 8#32
  let v1339 : BitVec 32 := Scalar.remsi v1338 c8_i32_936
  let c256_i32_941 : BitVec 32 := 256#32
  let v1344 : BitVec 32 := Scalar.muli v1339 c256_i32_941
  let v1345 : BitVec 32 := Scalar.addi c2048_i32_942 v1344
  let c0_i32_953 : BitVec 32 := 0#32
  ![v1345.toNat, 0]
def k2_dev18 (d0 : Dev nD) : Nat :=
  let c0_i32_952 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_951 : BitVec 32 := 1#32
  let v1354 : BitVec 32 := Scalar.muli v5 c1_i32_951
  let v1355 : BitVec 32 := Scalar.addi c0_i32_952 v1354
  v1355.toNat
def k2_off9 (d0 : Dev nD) (c1_i32_978 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_977 : BitVec 32 := 1#32
  let v1382 : BitVec 32 := Scalar.addi v2 c1_i32_977
  let v1383 : BitVec 32 := Scalar.subi v1382 c1_i32_978
  let c8_i32_979 : BitVec 32 := 8#32
  let v1384 : BitVec 32 := Scalar.addi v1383 c8_i32_979
  let c8_i32_980 : BitVec 32 := 8#32
  let v1385 : BitVec 32 := Scalar.remsi v1384 c8_i32_980
  let c256_i32_986 : BitVec 32 := 256#32
  let v1391 : BitVec 32 := Scalar.muli v1385 c256_i32_986
  let c0_i32_995 : BitVec 32 := 0#32
  ![v1391.toNat, 0]
def k2_dev19 (d0 : Dev nD) : Nat :=
  let c0_i32_994 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_993 : BitVec 32 := 1#32
  let v1396 : BitVec 32 := Scalar.muli v8 c1_i32_993
  let v1397 : BitVec 32 := Scalar.addi c0_i32_994 v1396
  v1397.toNat
def k2_off10 (d0 : Dev nD) (c1_i32_982 : BitVec 32) : Fin 2 → Nat :=
  let c2048_i32_990 : BitVec 32 := 2048#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_981 : BitVec 32 := 1#32
  let v1386 : BitVec 32 := Scalar.subi v2 c1_i32_981
  let v1387 : BitVec 32 := Scalar.addi v1386 c1_i32_982
  let c8_i32_983 : BitVec 32 := 8#32
  let v1388 : BitVec 32 := Scalar.addi v1387 c8_i32_983
  let c8_i32_984 : BitVec 32 := 8#32
  let v1389 : BitVec 32 := Scalar.remsi v1388 c8_i32_984
  let c256_i32_989 : BitVec 32 := 256#32
  let v1394 : BitVec 32 := Scalar.muli v1389 c256_i32_989
  let v1395 : BitVec 32 := Scalar.addi c2048_i32_990 v1394
  let c0_i32_1001 : BitVec 32 := 0#32
  ![v1395.toNat, 0]
def k2_dev20 (d0 : Dev nD) : Nat :=
  let c0_i32_1000 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_999 : BitVec 32 := 1#32
  let v1404 : BitVec 32 := Scalar.muli v5 c1_i32_999
  let v1405 : BitVec 32 := Scalar.addi c0_i32_1000 v1404
  v1405.toNat
def k2_dev21 (d0 : Dev nD) : Nat :=
  let c0_i32_1042 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_1041 : BitVec 32 := 1#32
  let v1446 : BitVec 32 := Scalar.muli v8 c1_i32_1041
  let v1447 : BitVec 32 := Scalar.addi c0_i32_1042 v1446
  v1447.toNat
def k2_dev22 (d0 : Dev nD) : Nat :=
  let c0_i32_1048 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1047 : BitVec 32 := 1#32
  let v1454 : BitVec 32 := Scalar.muli v5 c1_i32_1047
  let v1455 : BitVec 32 := Scalar.addi c0_i32_1048 v1454
  v1455.toNat
def k2_dev23 (d0 : Dev nD) : Nat :=
  let c0_i32_1090 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_1089 : BitVec 32 := 1#32
  let v1496 : BitVec 32 := Scalar.muli v8 c1_i32_1089
  let v1497 : BitVec 32 := Scalar.addi c0_i32_1090 v1496
  v1497.toNat
def k2_dev24 (d0 : Dev nD) : Nat :=
  let c0_i32_1096 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1095 : BitVec 32 := 1#32
  let v1504 : BitVec 32 := Scalar.muli v5 c1_i32_1095
  let v1505 : BitVec 32 := Scalar.addi c0_i32_1096 v1504
  v1505.toNat
def k2_dev25 (d0 : Dev nD) : Nat :=
  let c0_i32_1138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_1137 : BitVec 32 := 1#32
  let v1546 : BitVec 32 := Scalar.muli v8 c1_i32_1137
  let v1547 : BitVec 32 := Scalar.addi c0_i32_1138 v1546
  v1547.toNat
def k2_dev26 (d0 : Dev nD) : Nat :=
  let c0_i32_1144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1143 : BitVec 32 := 1#32
  let v1554 : BitVec 32 := Scalar.muli v5 c1_i32_1143
  let v1555 : BitVec 32 := Scalar.addi c0_i32_1144 v1554
  v1555.toNat
def k2_dev27 (d0 : Dev nD) : Nat :=
  let c0_i32_1186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_1185 : BitVec 32 := 1#32
  let v1596 : BitVec 32 := Scalar.muli v8 c1_i32_1185
  let v1597 : BitVec 32 := Scalar.addi c0_i32_1186 v1596
  v1597.toNat
def k2_dev28 (d0 : Dev nD) : Nat :=
  let c0_i32_1192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1191 : BitVec 32 := 1#32
  let v1604 : BitVec 32 := Scalar.muli v5 c1_i32_1191
  let v1605 : BitVec 32 := Scalar.addi c0_i32_1192 v1604
  v1605.toNat
def k2_dev29 (d0 : Dev nD) : Nat :=
  let c0_i32_1234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_1233 : BitVec 32 := 1#32
  let v1646 : BitVec 32 := Scalar.muli v8 c1_i32_1233
  let v1647 : BitVec 32 := Scalar.addi c0_i32_1234 v1646
  v1647.toNat
def k2_dev30 (d0 : Dev nD) : Nat :=
  let c0_i32_1240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1239 : BitVec 32 := 1#32
  let v1654 : BitVec 32 := Scalar.muli v5 c1_i32_1239
  let v1655 : BitVec 32 := Scalar.addi c0_i32_1240 v1654
  v1655.toNat
def k2_dev31 (d0 : Dev nD) : Nat :=
  let c0_i32_1267_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_1266_r0 : BitVec 32 := 1#32
  let v1683_r0 : BitVec 32 := Scalar.muli v5 c1_i32_1266_r0
  let v1684_r0 : BitVec 32 := Scalar.addi c0_i32_1267_r0 v1683_r0
  v1684_r0.toNat
def k2_dev32 (d0 : Dev nD) : Nat :=
  let c0_i32_1270_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.addi v6 c8_i32_4
  let c8_i32_5 : BitVec 32 := 8#32
  let v8 : BitVec 32 := Scalar.remsi v7 c8_i32_5
  let c1_i32_1269_r0 : BitVec 32 := 1#32
  let v1685_r0 : BitVec 32 := Scalar.muli v8 c1_i32_1269_r0
  let v1686_r0 : BitVec 32 := Scalar.addi c0_i32_1270_r0 v1685_r0
  v1686_r0.toNat
abbrev stage2_0 : Fin 1 → Memref sig .tc .vmem S4096x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1024x512 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S512x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S4096x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
-- ==== ReferenceIdeal.lean ====
abbrev S1x4096x1024 : Shape := ⟨3, ![1, 4096, 1024]⟩
abbrev S1024x8192 : Shape := ⟨2, ![1024, 8192]⟩
abbrev S8192x1024 : Shape := ⟨2, ![8192, 1024]⟩
abbrev S1x128 : Shape := ⟨2, ![1, 128]⟩
abbrev S128x6144 : Shape := ⟨2, ![128, 6144]⟩
abbrev S1024x4096 : Shape := ⟨2, ![1024, 4096]⟩
abbrev S4096x1024 : Shape := ⟨2, ![4096, 1024]⟩
abbrev S1x6144 : Shape := ⟨2, ![1, 6144]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x8192 : Shape := ⟨2, ![4096, 8192]⟩
abbrev S4096x64x128 : Shape := ⟨3, ![4096, 64, 128]⟩
abbrev S64x4096x4096 : Shape := ⟨3, ![64, 4096, 4096]⟩
abbrev S64x4096 : Shape := ⟨2, ![64, 4096]⟩
abbrev S64x4096x1 : Shape := ⟨3, ![64, 4096, 1]⟩
abbrev S64x128x4096 : Shape := ⟨3, ![64, 128, 4096]⟩
abbrev S4096x64x1 : Shape := ⟨3, ![4096, 64, 1]⟩
abbrev S4096x4096 : Shape := ⟨2, ![4096, 4096]⟩

abbrev nBuf : Space → Nat
  | .hbm => 167
  | .vmem => 0
  | .smem => 0
  | _ => 0

abbrev hbmTy0_0 (i : Nat) : BufTy := match i % 128 with
  | 0 => ⟨S1x4096x1024, .bf16⟩
  | 1 => ⟨S1024x8192, .bf16⟩
  | 2 => ⟨S1024x8192, .bf16⟩
  | 3 => ⟨S1024x8192, .bf16⟩
  | 4 => ⟨S8192x1024, .bf16⟩
  | 5 => ⟨S1x128, .bf16⟩
  | 6 => ⟨S128x6144, .bf16⟩
  | 7 => ⟨S1024x4096, .bf16⟩
  | 8 => ⟨S4096x1024, .bf16⟩
  | 9 => ⟨S1x6144, .f32⟩
  | 10 => ⟨S1x6144, .bf16⟩
  | 11 => ⟨S1x1024, .bf16⟩
  | 12 => ⟨S1x1024, .bf16⟩
  | 13 => ⟨S1x1024, .bf16⟩
  | 14 => ⟨S1x1024, .bf16⟩
  | 15 => ⟨S1x1024, .bf16⟩
  | 16 => ⟨S1x1024, .bf16⟩
  | 17 => ⟨S4096x1024, .bf16⟩
  | 18 => ⟨S4096x1024, .f32⟩
  | 19 => ⟨S_, .f32⟩
  | 20 => ⟨S4096, .f32⟩
  | 21 => ⟨S4096x1, .f32⟩
  | 22 => ⟨S_, .f32⟩
  | 23 => ⟨S4096x1, .f32⟩
  | 24 => ⟨S4096x1, .f32⟩
  | 25 => ⟨S4096x1, .bf16⟩
  | 26 => ⟨S_, .i32⟩
  | 27 => ⟨S4096x1024, .f32⟩
  | 28 => ⟨S_, .f32⟩
  | 29 => ⟨S4096, .f32⟩
  | 30 => ⟨S4096x1, .f32⟩
  | 31 => ⟨S_, .f32⟩
  | 32 => ⟨S4096x1, .f32⟩
  | 33 => ⟨S4096x1, .f32⟩
  | 34 => ⟨S4096x1024, .f32⟩
  | 35 => ⟨S4096x1024, .f32⟩
  | 36 => ⟨S4096x1024, .f32⟩
  | 37 => ⟨S_, .f32⟩
  | 38 => ⟨S_, .f32⟩
  | 39 => ⟨S_, .f32⟩
  | 40 => ⟨S_, .f32⟩
  | 41 => ⟨S4096, .f32⟩
  | 42 => ⟨S4096x1, .f32⟩
  | 43 => ⟨S4096x1, .f32⟩
  | 44 => ⟨S4096x1, .f32⟩
  | 45 => ⟨S4096x1, .bf16⟩
  | 46 => ⟨S_, .f32⟩
  | 47 => ⟨S_, .i1⟩
  | 48 => ⟨S_, .f32⟩
  | 49 => ⟨S_, .bf16⟩
  | 50 => ⟨S4096x1, .bf16⟩
  | 51 => ⟨S4096x1, .bf16⟩
  | 52 => ⟨S4096x1024, .bf16⟩
  | 53 => ⟨S4096x1024, .bf16⟩
  | 54 => ⟨S_, .bf16⟩
  | 55 => ⟨S4096x1, .bf16⟩
  | 56 => ⟨S4096x1, .bf16⟩
  | 57 => ⟨S4096x1, .bf16⟩
  | 58 => ⟨S4096x1024, .bf16⟩
  | 59 => ⟨S4096x1024, .bf16⟩
  | 60 => ⟨S_, .bf16⟩
  | 61 => ⟨S1x1024, .bf16⟩
  | 62 => ⟨S1x1024, .bf16⟩
  | 63 => ⟨S4096x1024, .bf16⟩
  | 64 => ⟨S4096x1024, .bf16⟩
  | 65 => ⟨S4096x1024, .bf16⟩
  | 66 => ⟨S4096x1024, .bf16⟩
  | 67 => ⟨S4096x8192, .f32⟩
  | 68 => ⟨S4096x8192, .bf16⟩
  | 69 => ⟨S4096x64x128, .bf16⟩
  | 70 => ⟨S4096x8192, .f32⟩
  | 71 => ⟨S4096x8192, .bf16⟩
  | 72 => ⟨S4096x64x128, .bf16⟩
  | 73 => ⟨S4096x8192, .f32⟩
  | 74 => ⟨S4096x8192, .bf16⟩
  | 75 => ⟨S4096x64x128, .bf16⟩
  | 76 => ⟨S64x4096x4096, .f32⟩
  | 77 => ⟨S64x4096x4096, .bf16⟩
  | 78 => ⟨S64x4096x4096, .f32⟩
  | 79 => ⟨S_, .f32⟩
  | 80 => ⟨S64x4096x4096, .f32⟩
  | 81 => ⟨S64x4096x4096, .f32⟩
  | 82 => ⟨S_, .f32⟩
  | 83 => ⟨S64x4096, .f32⟩
  | 84 => ⟨S64x4096x1, .f32⟩
  | 85 => ⟨S64x4096x4096, .f32⟩
  | 86 => ⟨S64x4096x4096, .f32⟩
  | 87 => ⟨S64x4096x4096, .f32⟩
  | 88 => ⟨S_, .f32⟩
  | 89 => ⟨S64x4096, .f32⟩
  | 90 => ⟨S64x4096x1, .f32⟩
  | 91 => ⟨S4096x64x128, .f32⟩
  | 92 => ⟨S64x128x4096, .f32⟩
  | 93 => ⟨S4096x64x128, .f32⟩
  | 94 => ⟨S4096x64x1, .f32⟩
  | 95 => ⟨S4096x64x128, .f32⟩
  | 96 => ⟨S4096x64x128, .f32⟩
  | 97 => ⟨S4096x8192, .f32⟩
  | 98 => ⟨S8192x1024, .f32⟩
  | 99 => ⟨S4096x1024, .f32⟩
  | 100 => ⟨S1x1024, .f32⟩
  | 101 => ⟨S4096x1024, .f32⟩
  | 102 => ⟨S4096x1024, .f32⟩
  | 103 => ⟨S4096x1024, .f32⟩
  | 104 => ⟨S4096x1024, .f32⟩
  | 105 => ⟨S_, .f32⟩
  | 106 => ⟨S4096, .f32⟩
  | 107 => ⟨S4096x1, .f32⟩
  | 108 => ⟨S_, .f32⟩
  | 109 => ⟨S4096x1, .f32⟩
  | 110 => ⟨S4096x1, .f32⟩
  | 111 => ⟨S_, .i32⟩
  | 112 => ⟨S_, .f32⟩
  | 113 => ⟨S4096, .f32⟩
  | 114 => ⟨S4096x1, .f32⟩
  | 115 => ⟨S_, .f32⟩
  | 116 => ⟨S4096x1, .f32⟩
  | 117 => ⟨S4096x1, .f32⟩
  | 118 => ⟨S4096x1024, .f32⟩
  | 119 => ⟨S4096x1024, .f32⟩
  | 120 => ⟨S4096x1024, .f32⟩
  | 121 => ⟨S_, .f32⟩
  | 122 => ⟨S_, .f32⟩
  | 123 => ⟨S_, .f32⟩
  | 124 => ⟨S_, .f32⟩
  | 125 => ⟨S4096, .f32⟩
  | 126 => ⟨S4096x1, .f32⟩
  | 127 => ⟨S4096x1, .f32⟩
  | _ => ⟨S1x4096x1024, .bf16⟩

abbrev hbmTy0_1 (i : Nat) : BufTy := match i % 128 with
  | 0 => ⟨S4096x1, .f32⟩
  | 1 => ⟨S_, .f32⟩
  | 2 => ⟨S_, .i1⟩
  | 3 => ⟨S_, .f32⟩
  | 4 => ⟨S_, .f32⟩
  | 5 => ⟨S4096x1, .f32⟩
  | 6 => ⟨S4096x1, .f32⟩
  | 7 => ⟨S4096x1024, .f32⟩
  | 8 => ⟨S4096x1024, .f32⟩
  | 9 => ⟨S_, .f32⟩
  | 10 => ⟨S4096x1, .f32⟩
  | 11 => ⟨S4096x1, .f32⟩
  | 12 => ⟨S4096x1, .f32⟩
  | 13 => ⟨S4096x1024, .f32⟩
  | 14 => ⟨S4096x1024, .f32⟩
  | 15 => ⟨S_, .bf16⟩
  | 16 => ⟨S1x1024, .bf16⟩
  | 17 => ⟨S1x1024, .bf16⟩
  | 18 => ⟨S1x1024, .f32⟩
  | 19 => ⟨S4096x1024, .f32⟩
  | 20 => ⟨S4096x1024, .f32⟩
  | 21 => ⟨S1x1024, .f32⟩
  | 22 => ⟨S4096x1024, .f32⟩
  | 23 => ⟨S4096x1024, .f32⟩
  | 24 => ⟨S1024x4096, .f32⟩
  | 25 => ⟨S4096x4096, .f32⟩
  | 26 => ⟨S4096x4096, .f32⟩
  | 27 => ⟨S4096x4096, .f32⟩
  | 28 => ⟨S_, .f32⟩
  | 29 => ⟨S4096x4096, .f32⟩
  | 30 => ⟨S4096x4096, .f32⟩
  | 31 => ⟨S4096x4096, .f32⟩
  | 32 => ⟨S4096x1024, .f32⟩
  | 33 => ⟨S4096x1024, .f32⟩
  | 34 => ⟨S1x1024, .f32⟩
  | 35 => ⟨S4096x1024, .f32⟩
  | 36 => ⟨S4096x1024, .f32⟩
  | 37 => ⟨S4096x1024, .f32⟩
  | 38 => ⟨S1x4096x1024, .f32⟩
  | _ => ⟨S1x4096x1024, .bf16⟩

abbrev hbmTy (i : Nat) : BufTy := match i / 128 with
  | 0 => hbmTy0_0 i
  | 1 => hbmTy0_1 i
  | _ => ⟨S1x4096x1024, .bf16⟩

abbrev bufTy : (tb : Table) → Fin (tcTables nBuf tb) → BufTy
  | .hbm, ⟨i, _⟩ => hbmTy i
  | _, _ => ⟨S1x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_call0_v0 : Ref sig .tc := ⟨.hbm, 27, rfl⟩
abbrev main_call0_cst : Ref sig .tc := ⟨.hbm, 28, rfl⟩
abbrev main_call0_v1 : Ref sig .tc := ⟨.hbm, 29, rfl⟩
abbrev main_call0_v2 : Ref sig .tc := ⟨.hbm, 30, rfl⟩
abbrev main_call0_cst_0 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_cst_1 : Ref sig .tc := ⟨.hbm, 38, rfl⟩
abbrev main_call0_v9 : Ref sig .tc := ⟨.hbm, 39, rfl⟩
abbrev main_call0_cst_2 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst_3 : Ref sig .tc := ⟨.hbm, 46, rfl⟩
abbrev main_call0_v15 : Ref sig .tc := ⟨.hbm, 47, rfl⟩
abbrev main_call0_cst_4 : Ref sig .tc := ⟨.hbm, 48, rfl⟩
abbrev main_call0_call0_v0 : Ref sig .tc := ⟨.hbm, 49, rfl⟩
abbrev main_call0_call0_v1 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_cst_1 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_cst_2 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_3 : Ref sig .tc := ⟨.hbm, 79, rfl⟩
abbrev main_v41 : Ref sig .tc := ⟨.hbm, 80, rfl⟩
abbrev main_v42 : Ref sig .tc := ⟨.hbm, 81, rfl⟩
abbrev main_cst_4 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_cst_5 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_6 : Ref sig .tc := ⟨.hbm, 105, rfl⟩
abbrev main_v64 : Ref sig .tc := ⟨.hbm, 106, rfl⟩
abbrev main_v65 : Ref sig .tc := ⟨.hbm, 107, rfl⟩
abbrev main_cst_7 : Ref sig .tc := ⟨.hbm, 108, rfl⟩
abbrev main_v66 : Ref sig .tc := ⟨.hbm, 109, rfl⟩
abbrev main_v67 : Ref sig .tc := ⟨.hbm, 110, rfl⟩
abbrev main_c_8 : Ref sig .tc := ⟨.hbm, 111, rfl⟩
abbrev main_call1_cst : Ref sig .tc := ⟨.hbm, 112, rfl⟩
abbrev main_call1_v0 : Ref sig .tc := ⟨.hbm, 113, rfl⟩
abbrev main_call1_v1 : Ref sig .tc := ⟨.hbm, 114, rfl⟩
abbrev main_call1_cst_0 : Ref sig .tc := ⟨.hbm, 115, rfl⟩
abbrev main_call1_v2 : Ref sig .tc := ⟨.hbm, 116, rfl⟩
abbrev main_call1_v3 : Ref sig .tc := ⟨.hbm, 117, rfl⟩
abbrev main_call1_v4 : Ref sig .tc := ⟨.hbm, 118, rfl⟩
abbrev main_call1_v5 : Ref sig .tc := ⟨.hbm, 119, rfl⟩
abbrev main_call1_v6 : Ref sig .tc := ⟨.hbm, 120, rfl⟩
abbrev main_call1_v7 : Ref sig .tc := ⟨.hbm, 121, rfl⟩
abbrev main_call1_cst_1 : Ref sig .tc := ⟨.hbm, 122, rfl⟩
abbrev main_call1_v8 : Ref sig .tc := ⟨.hbm, 123, rfl⟩
abbrev main_call1_cst_2 : Ref sig .tc := ⟨.hbm, 124, rfl⟩
abbrev main_call1_v9 : Ref sig .tc := ⟨.hbm, 125, rfl⟩
abbrev main_call1_v10 : Ref sig .tc := ⟨.hbm, 126, rfl⟩
abbrev main_call1_v11 : Ref sig .tc := ⟨.hbm, 127, rfl⟩
abbrev main_call1_v12 : Ref sig .tc := ⟨.hbm, 128, rfl⟩
abbrev main_call1_cst_3 : Ref sig .tc := ⟨.hbm, 129, rfl⟩
abbrev main_call1_v13 : Ref sig .tc := ⟨.hbm, 130, rfl⟩
abbrev main_call1_cst_4 : Ref sig .tc := ⟨.hbm, 131, rfl⟩
abbrev main_call1_call0_v0 : Ref sig .tc := ⟨.hbm, 132, rfl⟩
abbrev main_call1_call0_v1 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_cst_9 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_cst_10 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_cst_11 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩

abbrev nD : Nat := 1
abbrev τ : Topo := Topo.v7x

variable {F : FTy → Type} [FloatOps F]
-- ==== Proof.Math.lean ====
/- The arithmetic of the block over extended reals: normalising a row, the softmax, the activation. -/
module

public import Idealize.ShloMosaic.Lib.Pointwise
public import Idealize.ShloMosaic.Lib.IdealHost

@[expose] public section

noncomputable section

namespace Cert.Math

open Idealize.ShloMosaic

/-- The length of a row, as the float word for it. -/
def kW : EReal := Ideal.ofBits .f32 0x44800000#32
/-- The small term under the root, in the two formats. -/
def eB : EReal := Ideal.ofBits .bf16 0x3728#16
def eW : EReal := Ideal.ofBits .f32 0x3727C5AC#32
/-- The scale of the scores. -/
def cS : EReal := Ideal.ofBits .f32 0x3DB504F3#32

theorem kW_eq : kW = ((1024 : ℝ) : EReal) := by
  unfold kW
  simp [Ideal.ofBits, Ideal.ieee, -EReal.coe_mul]; norm_num
theorem eW_pos : 0 < eW := by
  unfold eW
  simp [Ideal.ofBits, Ideal.ieee, -EReal.coe_mul]
theorem eB_pos : 0 < eB := by
  unfold eB
  simp [Ideal.ofBits, Ideal.ieee, -EReal.coe_mul]
theorem eB_real : ∃ r : ℝ, eB = r := by
  unfold eB
  simp only [Ideal.ofBits, Ideal.ieee]
  exact ⟨_, rfl⟩
theorem cS_real : ∃ r : ℝ, cS = r := by
  unfold cS
  simp only [Ideal.ofBits, Ideal.ieee]
  exact ⟨_, rfl⟩
theorem cS_pos : 0 < cS := by
  unfold cS
  simp [Ideal.ofBits, Ideal.ieee, -EReal.coe_mul]

theorem sq_nonneg (x : EReal) : 0 ≤ x * x := by
  induction x with
  | bot => simp
  | top => simp
  | coe r => rw [← EReal.coe_mul]; exact_mod_cast mul_self_nonneg r

/-! ## Real terms -/

/-- An extended real that is a real. -/
def IsR (x : EReal) : Prop := ∃ r : ℝ, x = r

theorem IsR.add {x y : EReal} : IsR x → IsR y → IsR (x + y) := fun ⟨a, ha⟩ ⟨b, hb⟩ => ⟨a + b, by rw [ha, hb, EReal.coe_add]⟩
theorem IsR.mul {x y : EReal} : IsR x → IsR y → IsR (x * y) := fun ⟨a, ha⟩ ⟨b, hb⟩ => ⟨a * b, by rw [ha, hb, EReal.coe_mul]⟩
theorem isR_zero : IsR 0 := ⟨0, rfl⟩
theorem isR_one : IsR 1 := ⟨1, rfl⟩
theorem isR_sum {ι : Type} (s : Finset ι) (f : ι → EReal) (h : ∀ i, IsR (f i)) : IsR (∑ i ∈ s, f i) := by
  classical
  induction s using Finset.induction_on with
  | empty => exact isR_zero
  | insert a s ha ih => rw [Finset.sum_insert ha]; exact (h a).add ih
theorem isR_of {x : EReal} (h1 : x ≠ ⊥) (h2 : x ≠ ⊤) : IsR x := by
  induction x with
  | bot => exact absurd rfl h1
  | top => exact absurd rfl h2
  | coe r => exact ⟨r, rfl⟩
/-- What a number whose absolute value is below infinity is. -/
theorem isR_of_abs {x : EReal} (h : max x (-x) < ⊤) : IsR x := by
  induction x with
  | bot => exact absurd h (by simp)
  | top => exact absurd h (by simp)
  | coe r => exact ⟨r, rfl⟩

/-- A positive real goes through a sum. -/
theorem sum_scale {ι : Type} (s : Finset ι) (f : ι → EReal) {c : EReal} (h0 : 0 ≤ c) (h1 : c ≠ ⊤) : (∑ i ∈ s, f i) * c = ∑ i ∈ s, f i * c := by
  classical
  induction s using Finset.induction_on with
  | empty => simp
  | insert a s ha ih => rw [Finset.sum_insert ha, Finset.sum_insert ha, ← ih, mul_comm, EReal.left_distrib_of_nonneg_of_ne_top h0 h1, mul_comm c, mul_comm c]

/-! ## A row normalised -/

section
variable (e : EReal) (ρ sm sh : Fin 1024 → EReal)

def mean : EReal := Ideal.div (∑ k, ρ k) kW
def var : EReal := Ideal.div (∑ k, (ρ k - mean ρ) * (ρ k - mean ρ)) kW
/-- A row normalised, scaled and shifted. -/
def nrm (a : Fin 1024) : EReal := (ρ a - mean ρ) * Ideal.rsqrt (var ρ + e) * (1 + sm a) + sh a
def hid (w : Fin 1024 → EReal) : EReal := ∑ a, nrm e ρ sm sh a * w a
def act (h : EReal) : EReal := h * Ideal.logistic h

theorem sum_sq_nonneg : 0 ≤ ∑ k, (ρ k - mean ρ) * (ρ k - mean ρ) := Finset.sum_nonneg fun k _ => sq_nonneg _
theorem var_nonneg : 0 ≤ var ρ := by
  unfold var
  rw [kW_eq, Ideal.div_coe (by norm_num)]
  exact mul_nonneg (sum_sq_nonneg ρ) (by exact_mod_cast (by norm_num : (0 : ℝ) ≤ 1 / 1024))

/-- Dividing by the root is multiplying by the inverse root, above zero. -/
theorem div_sqrt (x : EReal) {v : EReal} (hv : 0 < v) : Ideal.div x (Ideal.sqrt v) = x * Ideal.rsqrt v := by
  induction v with
  | bot => exact absurd hv (by simp)
  | top => simp [Ideal.div]
  | coe r =>
    have hr : 0 < r := by exact_mod_cast hv
    have hs : Real.sqrt r ≠ 0 := (Real.sqrt_pos.mpr hr).ne'
    rw [Ideal.sqrt_coe, Ideal.rsqrt_coe, if_neg (not_lt.mpr hr.le), if_neg (not_lt.mpr hr.le), if_neg hr.ne', Ideal.div_coe hs, one_div]

theorem exp_nonneg (x : EReal) : 0 ≤ Ideal.exp x := by
  induction x with
  | bot => simp
  | top => simp
  | coe r => rw [Ideal.exp_coe]; exact_mod_cast (Real.exp_pos r).le
theorem act_eq (h : EReal) : Ideal.div h (1 + Ideal.exp (-h)) = act h := by
  unfold act Ideal.logistic
  refine (Ideal.mul_one_div fun e => ?_).symm
  have h1 : (1 : EReal) ≤ 1 + Ideal.exp (-h) := le_add_of_nonneg_right (exp_nonneg _)
  rw [e] at h1
  exact absurd h1 (by simp)

/-- The count of a row less nothing. -/
theorem kW_sub (b : BitVec 32) (hb : b = 0#32) : kW - FloatOps.sitofp (F := Ideal) .f32 b = kW := by
  subst hb
  show kW - (((0#32).toInt : ℝ) : EReal) = kW
  simp
theorem kW_pos : 0 < kW := by rw [kW_eq]; exact_mod_cast (by norm_num : (0 : ℝ) < 1024)

/-- The reference's spelling of a normalised row. -/
theorem nrm_ref (he : 0 < e) (a : Fin 1024) (y : EReal) :
    Ideal.div (ρ a - mean ρ) (Ideal.sqrt ((if 0 < kW - FloatOps.sitofp (F := Ideal) .f32 0#32 then Ideal.div (∑ k, (ρ k - mean ρ) * (ρ k - mean ρ)) (kW - FloatOps.sitofp (F := Ideal) .f32 0#32) else y) + e))
      * (1 + sm a) + sh a = nrm e ρ sm sh a := by
  rw [kW_sub _ rfl, if_pos kW_pos]
  show Ideal.div _ (Ideal.sqrt (var ρ + e)) * _ + _ = _
  rw [div_sqrt _ (lt_of_lt_of_le he (le_add_of_nonneg_left (var_nonneg ρ)))]
  rfl

/-- Whatever the row is, a normalised term is real: where the variance is infinite it is zero. -/
theorem unit_real (he : 0 < e) (hr : IsR e) (a : Fin 1024) : IsR ((ρ a - mean ρ) * Ideal.rsqrt (var ρ + e)) := by
  obtain ⟨r, rfl⟩ := hr
  have hr0 : 0 < r := by exact_mod_cast he
  have hv := var_nonneg ρ
  by_cases ht : var ρ = ⊤
  · rw [ht, EReal.top_add_coe]
    show IsR (_ * 0)
    rw [mul_zero]; exact isR_zero
  · obtain ⟨v, hv'⟩ := isR_of (fun h => absurd (h ▸ hv) (by simp)) ht
    have hv0 : 0 ≤ v := by rw [hv'] at hv; exact_mod_cast hv
    refine IsR.mul ?_ ?_
    · have hs : ∑ k, (ρ k - mean ρ) * (ρ k - mean ρ) ≠ ⊤ := fun h => ht (by
        unfold var
        rw [h, kW_eq, Ideal.div_coe (by norm_num)]
        exact EReal.top_mul_coe_of_pos (by norm_num))
      have hle : (ρ a - mean ρ) * (ρ a - mean ρ) ≤ ∑ k, (ρ k - mean ρ) * (ρ k - mean ρ) :=
        Finset.single_le_sum (f := fun k => (ρ k - mean ρ) * (ρ k - mean ρ)) (fun k _ => sq_nonneg _) (Finset.mem_univ a)
      have hne : (ρ a - mean ρ) * (ρ a - mean ρ) ≠ ⊤ := fun h => hs (top_le_iff.mp (h ▸ hle))
      exact isR_of (fun h => hne (by rw [h]; rfl)) (fun h => hne (by rw [h]; rfl))
    · rw [hv', ← EReal.coe_add, Ideal.rsqrt_coe, if_neg (by linarith), if_neg (by linarith)]
      exact ⟨_, rfl⟩
theorem nrm_real (he : 0 < e) (hr : IsR e) (hm : ∀ a, IsR (sm a)) (hs : ∀ a, IsR (sh a)) (a : Fin 1024) : IsR (nrm e ρ sm sh a) :=
  ((unit_real e ρ he hr a).mul (isR_one.add (hm a))).add (hs a)
theorem hid_real (he : 0 < e) (hr : IsR e) (hm : ∀ a, IsR (sm a)) (hs : ∀ a, IsR (sh a)) (w : Fin 1024 → EReal) (hw : ∀ a, IsR (w a)) :
    IsR (hid e ρ sm sh w) := isR_sum _ _ fun a => (nrm_real e ρ sm sh he hr hm hs a).mul (hw a)

end

/-! ## The softmax -/

section
variable {n : ℕ}

/-- The weighted mean of `v` by the exponentials of the scores. -/
def soft (s v : Fin n → EReal) : EReal := Ideal.div (∑ j, Ideal.exp (s j) * v j) (∑ j, Ideal.exp (s j))

/-- The greatest of real scores is real. -/
theorem top_real (s : Fin n → EReal) (hn : 0 < n) (h : ∀ j, IsR (s j)) : IsR (Finset.univ.fold max ⊥ s) := by
  refine isR_of (fun hb => ?_) (fun ht => ?_)
  · have := (Finset.le_fold_max (s := Finset.univ) (f := s) (b := ⊥) (s ⟨0, hn⟩)).mpr (Or.inr ⟨_, Finset.mem_univ _, le_rfl⟩)
    rw [hb] at this
    obtain ⟨r, hr⟩ := h ⟨0, hn⟩
    rw [hr] at this
    exact absurd this (by simp)
  · have : Finset.univ.fold max ⊥ s < ⊤ := (Finset.fold_max_lt (s := Finset.univ) (f := s) (b := ⊥) ⊤).mpr
      ⟨by simp, fun j _ => by obtain ⟨r, hr⟩ := h j; rw [hr]; exact EReal.coe_lt_top r⟩
    rw [ht] at this
    exact absurd this (lt_irrefl _)

/-- Taking a real off every score changes nothing. -/
theorem soft_shift (s v : Fin n → EReal) (hn : 0 < n) (h : ∀ j, IsR (s j)) {M : EReal} (hM : IsR M) :
    Ideal.div (∑ j, v j * Ideal.exp (s j - M)) (∑ j, Ideal.exp (s j - M)) = soft s v := by
  obtain ⟨μ, rfl⟩ := hM
  choose r hr using h
  unfold soft
  simp only [hr, ← EReal.coe_sub, Ideal.exp_coe]
  have hc : 0 < Real.exp μ := Real.exp_pos μ
  have hL : 0 < ∑ j, Real.exp (r j - μ) := Finset.sum_pos (fun j _ => Real.exp_pos _) ⟨⟨0, hn⟩, Finset.mem_univ _⟩
  have hK : 0 < ∑ j, Real.exp (r j) := Finset.sum_pos (fun j _ => Real.exp_pos _) ⟨⟨0, hn⟩, Finset.mem_univ _⟩
  have e1 : ∀ j, Real.exp (r j) = Real.exp (r j - μ) * Real.exp μ := fun j => by rw [← Real.exp_add, sub_add_cancel]
  have cs : ∀ f : Fin n → ℝ, ∑ j, ((f j : ℝ) : EReal) = ((∑ j, f j : ℝ) : EReal) := fun f => by
    induction (Finset.univ : Finset (Fin n)) using Finset.induction_on with
    | empty => simp
    | insert a t ha ih => rw [Finset.sum_insert ha, Finset.sum_insert ha, ih, EReal.coe_add]
  rw [cs, cs, Ideal.div_coe hL.ne', Ideal.div_coe hK.ne']
  have e2 : ∑ j, ((Real.exp (r j) : ℝ) : EReal) * v j = (∑ j, v j * ((Real.exp (r j - μ) : ℝ) : EReal)) * ((Real.exp μ : ℝ) : EReal) := by
    rw [sum_scale _ _ (by exact_mod_cast hc.le) (EReal.coe_ne_top _)]
    refine Finset.sum_congr rfl fun j _ => ?_
    rw [e1 j, EReal.coe_mul]
    ac_rfl
  rw [e2, mul_assoc, ← EReal.coe_mul]
  congr 2
  have e3 : ∑ j, Real.exp (r j) = (∑ j, Real.exp (r j - μ)) * Real.exp μ := by rw [Finset.sum_mul]; exact Finset.sum_congr rfl fun j _ => e1 j
  rw [e3]
  field_simp

/-- Scaling one side of each product scales the score. -/
theorem score_scale {d : ℕ} (q k : Fin d → EReal) : ∑ a, q a * cS * k a = (∑ a, q a * k a) * cS := by
  obtain ⟨c, hc⟩ := cS_real
  rw [sum_scale _ _ cS_pos.le (by rw [hc]; exact EReal.coe_ne_top c)]
  exact Finset.sum_congr rfl fun a _ => by ac_rfl

end

end Cert.Math
-- ==== Proof.Ring.lean ====
/- A ring of eight devices that reduces and gathers in both directions at once: its cells, what a device pays into them, and the levels
   of its waits. Nothing here names a program: a program gives the semaphores and the buffers (`Geo`). -/
module

public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic
public import Idealize.ShloMosaic.PureOps
public import Idealize.ShloMosaic.Harness.Basic

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

abbrev nD : Nat := 8
abbrev τ : Topo := Topo.v7x
abbrev SU : Shape := ⟨2, ![256, 1024]⟩

/-! ## The ring: direction `false` sends to the next device, `true` to the previous one -/

/-- The device a transfer of direction `d` goes to. -/
def peer (c : Dev nD) (d : Bool) : Dev nD := ⟨(c.val + if d then 7 else 1) % 8, Nat.mod_lt _ (by decide)⟩
theorem peer_peer (c : Dev nD) (d : Bool) : peer (peer c d) (!d) = c := by revert c d; decide
theorem peer_peer' (c : Dev nD) (d : Bool) : peer (peer c (!d)) d = c := by revert c d; decide
/-- The chunk device `c` gathers at step `t`. -/
def chunkAt (c : Dev nD) (d : Bool) (t : ℕ) : Fin 8 := ⟨(c.val + (if d then 7 + t else 1 + 7 * t)) % 8, Nat.mod_lt _ (by decide)⟩
theorem chunkAt_peer (c : Dev nD) (d : Bool) (t : ℕ) : chunkAt (peer c (!d)) d t = chunkAt c d (t + 1) := by
  unfold chunkAt peer
  cases d <;> simp only [Bool.not_true, Bool.not_false, if_true, if_false, Fin.mk.injEq, Bool.false_eq_true] <;> omega

/-- The slot of step `q` (the seven cells of a direction serve twice). -/
def s7 (q : ℕ) : Fin 7 := ⟨q % 7, Nat.mod_lt _ (by decide)⟩

variable (sig : RefSig)

/-- A window of one chunk. -/
abbrev MR : Type := Memref sig .tc .vmem SU .bf16

/-- The semaphores and the buffers of one ring. -/
structure Geo where
  bar : Sem sig
  ex : Sem sig
  sS : Bool → Fin 7 → DmaSem sig
  vS : Bool → Fin 7 → DmaSem sig
  pb : Bool → Fin 2 → MR sig
  cm : Bool → Fin 7 → MR sig
  out : Bool → Fin 8 → MR sig

inductive Role where
  | bar | ex
  | snd (d : Bool) (s : Fin 7)
  | rcv (d : Bool) (s : Fin 7)
deriving DecidableEq

/-- The roles as a sum, to count them by. -/
def Role.equiv : Role ≃ Bool ⊕ (Bool × Bool × Fin 7) where
  toFun | .bar => .inl false | .ex => .inl true | .snd d s => .inr (false, d, s) | .rcv d s => .inr (true, d, s)
  invFun | .inl false => .bar | .inl true => .ex | .inr (false, d, s) => .snd d s | .inr (true, d, s) => .rcv d s
  left_inv ρ := by cases ρ <;> rfl
  right_inv x := by rcases x with (_ | _) | ⟨_ | _, _, _⟩ <;> rfl
instance : Fintype Role := Fintype.ofEquiv _ Role.equiv.symm

variable {sig}

def Geo.sem (G : Geo sig) : Role → SemLoc sig
  | .bar => .reg G.bar
  | .ex => .reg G.ex
  | .snd d s => .dma (G.sS d s)
  | .rcv d s => .dma (G.vS d s)

/-- What the copy of step `q` reads on its own device, and what it fills on the other. -/
def Geo.src (G : Geo sig) (c : Dev nD) (d : Bool) (q : ℕ) : MR sig :=
  if q < 7 then (if q = 0 then G.pb d 0 else G.cm d (s7 (q - 1))) else G.out d (chunkAt c d (q - 7))
def Geo.dst (G : Geo sig) (c : Dev nD) (d : Bool) (q : ℕ) : MR sig :=
  if q < 7 then G.cm d (s7 q) else G.out d (chunkAt c d (q - 7))

/-- Several rings over one signature, on distinct semaphores. -/
structure Rings (sig : RefSig) (nJ : ℕ) where
  geo : Fin nJ → Geo sig
  N : ℕ
  N_pos : 0 < N
  inj : Function.Injective fun x : Fin nJ × Role => (geo x.1).sem x.2
  hpb : ∀ j d s, ((geo j).pb d s).view.dmaCredit = N
  hcm : ∀ j d s, ((geo j).cm d s).view.dmaCredit = N
  hout : ∀ j d k, ((geo j).out d k).view.dmaCredit = N

variable {nJ : ℕ} (P : Rings sig nJ)

open Classical in
/-- Which ring and which part of it a semaphore serves. -/
def Rings.find (sm : SemLoc sig) : Option (Fin nJ × Role) :=
  if h : ∃ x : Fin nJ × Role, (P.geo x.1).sem x.2 = sm then some h.choose else none
theorem Rings.find_sem (j : Fin nJ) (ρ : Role) : P.find ((P.geo j).sem ρ) = some (j, ρ) := by
  have h : ∃ x : Fin nJ × Role, (P.geo x.1).sem x.2 = (P.geo j).sem ρ := ⟨(j, ρ), rfl⟩
  unfold Rings.find
  rw [dif_pos h]
  exact congrArg some (P.inj h.choose_spec)

abbrev UU (sig : RefSig) : Type := UR sig nD τ × Rounds.URounds (GSem nD τ sig) Bool

variable {F : FTy → Type}

local notation "𝕄" => MT nD τ sig ℕ (Elt F) ℕ (UU sig) ℕ

abbrev EP : Emb (UR sig nD τ) (MT nD τ sig ℕ (Elt F) ℕ (UU sig) ℕ) := embL
abbrev ER : Emb (Rounds.URounds (GSem nD τ sig) Bool) (MT nD τ sig ℕ (Elt F) ℕ (UU sig) ℕ) := embR

/-! ## Cells and contents -/

abbrev cell (G : Geo sig) (c : Dev nD) (ρ : Role) : GSem nD τ sig := ((c : Thread nD τ), G.sem ρ)

variable (F)
abbrev Vec : Type := SU.Idx → Elt F .bf16
variable {F}

/-- The window at some contents, and at contents that read `v`. -/
def anyAt (c : Dev nD) (w : MR sig) : sProp 𝕄 :=
  iprop(∃ f : Buf (Elt F) (w.view.loc (c : Thread nD τ)), w.view.loc (c : Thread nD τ) ↦[w.view.set]{fullShare} f)
def holds (c : Dev nD) (w : MR sig) (v : Vec F) : sProp 𝕄 :=
  iprop(∃ f : Buf (Elt F) (w.view.loc (c : Thread nD τ)), ⌜w.view.read (Elt F) f = v⌝ ∗ w.view.loc (c : Thread nD τ) ↦[w.view.set]{fullShare} f)

theorem holds_any (c : Dev nD) (w : MR sig) (v : Vec F) : holds c w v ⊢ anyAt c w := by
  unfold holds anyAt
  iintro ⟨%f, -, H⟩; iexists f; iexact H

instance anyAt_storable (c : Dev nD) (w : MR sig) : BI.Storable (upEmb : UEmb _ 𝕄) (anyAt c w) := by unfold anyAt; infer_instance
instance holds_storable (c : Dev nD) (w : MR sig) (v : Vec F) : BI.Storable (upEmb : UEmb _ 𝕄) (holds c w v) := by unfold holds; infer_instance

/-! ## The schedule -/

/-- What a device pays into the entry semaphore of its peer: its windows of the peer's transfers, and that its cells are open. -/
def grant (G : Geo sig) (c : Dev nD) (d : Bool) : sProp 𝕄 :=
  iprop((bigSep (Finset.Ico 0 14) fun q => anyAt (peer c d) (G.dst c d q))
    ∗ (bigSep (Finset.Ico 0 7) fun q => reached ER (cell G (peer c d) (.rcv d (s7 q))) 0)
    ∗ reached ER (cell G (peer c d) .ex) 0)

/-- The step before `q` of the other direction has been received on `p`. -/
def fb (G : Geo sig) (p : Dev nD) (d : Bool) (q : ℕ) : sProp 𝕄 :=
  if q = 0 then iprop(emp) else reached ER (cell G p (.rcv (!d) (s7 (q - 1)))) ((q - 1) / 7 + 1)

/-- The values in flight: ring, sender, direction, step. -/
abbrev Vals (F : FTy → Type) (nJ : ℕ) : Type := Fin nJ → Dev nD → Bool → ℕ → Vec F

variable (v : Vals F nJ)

def pay (j : Fin nJ) (c : Dev nD) : Role → ℕ → Bool → sProp 𝕄
  | .bar, _, d => grant (P.geo j) c d
  | .ex, _, _ => iprop(emp)
  | .snd d s, r, _ => holds c ((P.geo j).src c d (7 * r + s.val)) (v j c d (7 * r + s.val))
  | .rcv d s, r, _ => iprop(holds c ((P.geo j).dst (peer c (!d)) d (7 * r + s.val)) (v j (peer c (!d)) d (7 * r + s.val))
      ∗ fb (P.geo j) (peer c (!d)) d (7 * r + s.val))

instance grant_storable (G : Geo sig) (c : Dev nD) (d : Bool) : BI.Storable (upEmb : UEmb _ 𝕄) (grant (F := F) G c d) := by unfold grant; infer_instance
instance fb_storable (G : Geo sig) (c : Dev nD) (d : Bool) (q : ℕ) : BI.Storable (upEmb : UEmb _ 𝕄) (fb (F := F) G c d q) := by
  unfold fb; split <;> infer_instance
instance fb_persistent (G : Geo sig) (c : Dev nD) (d : Bool) (q : ℕ) : BI.Persistent (fb (F := F) G c d q) := by
  unfold fb; split <;> infer_instance

def dutiesOf : Role → ℕ → Finset Bool
  | .bar, r => if r = 0 then Finset.univ else ∅
  | .ex, r => if r = 0 then Finset.univ else ∅
  | .snd _ _, r => if r < 2 then {false} else ∅
  | .rcv _ _, r => if r < 2 then {false} else ∅
def amountOf (N : ℕ) : Role → ℕ
  | .bar | .ex => 1
  | .snd _ _ | .rcv _ _ => N

def rd : Rounds.Schedule (GSem nD τ sig) Bool 𝕄 where
  duties g r := if g.1.2 = .tc then (match P.find g.2 with | some (_, ρ) => dutiesOf ρ r | none => ∅) else ∅
  unitless _ := False
  amount g _ _ := match P.find g.2 with | some (_, ρ) => amountOf P.N ρ | none => 1
  payload g r d := match P.find g.2 with | some (j, ρ) => pay P v j g.1.1 ρ r d | none => iprop(emp)
  amount_pos g _ _ _ := by
    have := P.N_pos
    split
    · next ρ _ => cases ρ <;> simp only [amountOf] <;> omega
    · exact Nat.one_pos

instance rd_storable (g : GSem nD τ sig) (r : ℕ) (d : Bool) : BI.Storable (upEmb : UEmb _ 𝕄) ((rd P v).payload g r d) := by
  show BI.Storable upEmb (match P.find g.2 with | some (j, ρ) => pay P v j g.1.1 ρ r d | none => iprop(emp))
  split
  · next ρ _ => cases ρ <;> simp only [pay] <;> infer_instance
  · infer_instance

section Sched
variable (j : Fin nJ) (c : Dev nD) (ρ : Role)

theorem duties_cell (r : ℕ) : (rd P v).duties (cell (P.geo j) c ρ) r = dutiesOf ρ r := by
  dsimp only [rd, cell]; rw [if_pos rfl, P.find_sem]
theorem amount_cell (r : ℕ) (d : Bool) : (rd P v).amount (cell (P.geo j) c ρ) r d = amountOf P.N ρ := by
  dsimp only [rd, cell]; rw [P.find_sem]
theorem payload_cell (r : ℕ) (d : Bool) : (rd P v).payload (cell (P.geo j) c ρ) r d = pay P v j c ρ r d := by
  dsimp only [rd, cell]; rw [P.find_sem]
theorem expect_cell (r : ℕ) : (rd P v).expect (cell (P.geo j) c ρ) r = (dutiesOf ρ r).card * amountOf P.N ρ := by
  unfold Schedule.expect Schedule.amountOf
  rw [duties_cell, Finset.sum_congr rfl fun d _ => amount_cell P v j c ρ r d, Finset.sum_const, smul_eq_mul]
theorem rest_cell (r : ℕ) : bigSep ((rd P v).duties (cell (P.geo j) c ρ) r \ ∅) (fun d => (rd P v).payload (cell (P.geo j) c ρ) r d)
    = bigSep (dutiesOf ρ r) (fun d => pay P v j c ρ r d) := by
  rw [Finset.sdiff_empty, duties_cell]
  exact bigSep_congr fun d _ => payload_cell P v j c ρ r d
theorem duties_late (r : ℕ) (hr : 2 ≤ r) : (rd P v).duties (cell (P.geo j) c ρ) r = ∅ := by
  rw [duties_cell]; cases ρ <;> simp only [dutiesOf] <;> exact if_neg (by omega)
theorem duties_late1 (hρ : ρ = .bar ∨ ρ = .ex) (r : ℕ) (hr : 1 ≤ r) : (rd P v).duties (cell (P.geo j) c ρ) r = ∅ := by
  rw [duties_cell]; rcases hρ with rfl | rfl <;> simp only [dutiesOf] <;> exact if_neg (by omega)
end Sched

/-! ## Levels -/

/-- Every tally carries its level as its index. -/
def L (g : GSem nD τ sig) : Finset ℕ := if g.1.2 = .tc then Finset.range 1000 else ∅
def lv (_ : GSem nD τ sig) (i : ℕ) : ℕ := i
theorem L_of_ne (g : GSem nD τ sig) (h : g.1.2 ≠ .tc) : L g = ∅ := if_neg h
theorem L_tc (c : Dev nD) (sm : SemLoc sig) : L ((c : Thread nD τ), sm) = Finset.range 1000 := if_pos rfl

/-- All that is owed lies on TensorCore cells above level `n`. -/
def Above (n : ℕ) (O : CellTallies nD τ sig ℕ) : Prop := ∀ g i, 0 < O g i → g.1.2 = .tc ∧ n < i ∧ i < 1000

theorem Above.mono {n n' : ℕ} {O : CellTallies nD τ sig ℕ} (h : Above n O) (hn : n' ≤ n) : Above n' O :=
  fun g i hi => ⟨(h g i hi).1, lt_of_le_of_lt hn (h g i hi).2.1, (h g i hi).2.2⟩
theorem Above.zero (n : ℕ) : Above n (0 : CellTallies nD τ sig ℕ) := fun _ _ h => absurd h (Nat.lt_irrefl 0)
theorem Above.add {n : ℕ} {O O' : CellTallies nD τ sig ℕ} (h : Above n O) (h' : Above n O') : Above n (O + O') := fun g i hi => by
  rw [Pi.add_apply, Finsupp.add_apply] at hi
  rcases Nat.add_pos_iff_pos_or_pos.mp hi with hi | hi
  · exact h g i hi
  · exact h' g i hi
theorem Above.tally {n : ℕ} (c : Dev nD) (sm : SemLoc sig) (i k : ℕ) (h : n < i) (h' : i < 1000) :
    Above n (tallyAt ((c : Thread nD τ), sm) i k : CellTallies nD τ sig ℕ) := fun g i' hi => by
  rw [tallyAt_apply] at hi
  split at hi
  · next e => obtain ⟨rfl, rfl⟩ := e; exact ⟨rfl, h, h'⟩
  · exact absurd hi (Nat.lt_irrefl 0)
theorem Above.sum {α : Type} {n : ℕ} (s : Finset α) (O : α → CellTallies nD τ sig ℕ) (h : ∀ a ∈ s, Above n (O a)) : Above n (∑ a ∈ s, O a) := by
  classical
  induction s using Finset.induction_on with
  | empty => rw [Finset.sum_empty]; exact Above.zero n
  | insert a s ha ih =>
    rw [Finset.sum_insert ha]
    exact (h a (Finset.mem_insert_self a s)).add (ih fun b hb => h b (Finset.mem_insert_of_mem hb))

theorem Above.mayWait {n : ℕ} {O : CellTallies nD τ sig ℕ} (h : Above n O) (hn : n < 1000) (c : Dev nD) (sm : SemLoc sig) :
    (levAts L lv : sProp 𝕄) ⊢ MayWait (c : Thread nD τ) sm n O :=
  MayOwe.of_cut (L := L) (lev := lv) n
    (fun p hp => by rw [Finset.mem_singleton.mp hp, L_tc]; exact Finset.mem_range.mpr hn)
    (fun g i hi => by unfold L; rw [if_pos (h g i hi).1]; exact Finset.mem_range.mpr (h g i hi).2.2)
    (fun p hp => by rw [Finset.mem_singleton.mp hp]; exact le_rfl)
    (fun g i hi => (h g i hi).2.1)

/-! ## What a device owes -/

/-- The first level of ring `j`. -/
def base (j : Fin nJ) : ℕ := 30 * j.val

section Owed
variable (j : Fin nJ) (c : Dev nD)

/-- Where the payments of device `c` go and at what level: entry, the copy of step `q`, exit. -/
def tB (d : Bool) : CellTallies nD τ sig ℕ := tallyAt (cell (P.geo j) (peer c d) .bar) (base j + 1) 1
def tV (d : Bool) (q : ℕ) : CellTallies nD τ sig ℕ := tallyAt (cell (P.geo j) (peer c d) (.rcv d (s7 q))) (base j + 2 + q) P.N
def tX (d : Bool) : CellTallies nD τ sig ℕ := tallyAt (cell (P.geo j) (peer c d) .ex) (base j + 20) 1

/-- From step `q` of the copies on. -/
def oT (q : ℕ) : CellTallies nD τ sig ℕ := (tX P j c false + tX P j c true) + ∑ i ∈ Finset.Ico q 14, (tV P j c true i + tV P j c false i)
/-- All of it. -/
def due : CellTallies nD τ sig ℕ := (oT P j c 0 + tB P j c false) + tB P j c true

theorem Ico_step {q n : ℕ} (hq : q < n) : Finset.Ico q n = insert q (Finset.Ico (q + 1) n) := by
  ext i; simp only [Finset.mem_Ico, Finset.mem_insert]; omega
theorem Ico_not_mem (q n : ℕ) : q ∉ Finset.Ico (q + 1) n := fun h => by have := Finset.mem_Ico.mp h; omega

theorem oT_step (q : ℕ) (hq : q < 14) : oT P j c q = (oT P j c (q + 1) + tV P j c true q) + tV P j c false q := by
  unfold oT
  rw [Ico_step hq, Finset.sum_insert (Ico_not_mem q 14), add_comm (tV P j c true q + tV P j c false q), ← add_assoc, ← add_assoc]
theorem oT_end : oT P j c 14 = tX P j c false + tX P j c true := by
  unfold oT; rw [Finset.Ico_self, Finset.sum_empty, add_zero]
theorem base_lt (h : nJ ≤ 30) : base j + 21 < 1000 := by have := j.isLt; unfold base; omega

theorem above_X (h : nJ ≤ 30) (d : Bool) : Above (base j + 19) (tX P j c d) := by
  have := base_lt j h; exact Above.tally _ _ _ _ (by omega) (by omega)
theorem above_T (h : nJ ≤ 30) (q : ℕ) : Above (base j + min 19 (1 + q)) (oT P j c q) := by
  have := base_lt j h
  unfold oT
  refine (((above_X P j c h false).add (above_X P j c h true)).mono (by omega)).add (Above.sum _ _ fun i hi => ?_)
  have := Finset.mem_Ico.mp hi
  exact (Above.tally _ _ _ _ (by omega) (by omega)).add (Above.tally _ _ _ _ (by omega) (by omega))
theorem above_due (h : nJ ≤ 30) : Above (base j) (due P j c) := by
  have := base_lt j h
  exact (((above_T P j c h 0).mono (by omega)).add (Above.tally _ _ _ _ (by omega) (by omega))).add (Above.tally _ _ _ _ (by omega) (by omega))
end Owed

end Cert.Ring

end
-- ==== Proof.RingStep.lean ====
/- One step of the ring: the two copies a device issues, and the four waits that end it. -/
module

public import proofs.«01_k».proof.Proof.Ring

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {sig : RefSig} {F : FTy → Type} {Λ : Labels} {nJ : ℕ}

local notation "𝕄" => MT nD τ sig ℕ (Elt F) ℕ (UU sig) ℕ

abbrev Pg (sig : RefSig) (F : FTy → Type) (Λ : Labels) : Type 1 := Prog (TpuEff nD τ sig (Elt F) Λ .tc) PUnit.{1}

/-- The windows and targets of the copies as a program spells them. -/
structure Flat (sig : RefSig) where
  dv : Dev nD → Bool → Dev nD
  src : Dev nD → Bool → ℕ → MR sig
  dst : Dev nD → Bool → ℕ → MR sig
  hsrc : ∀ c d q, (src c d q).view.WordExact
  hdst : ∀ c d q, (dst c d q).view.WordExact

/-- The program's spelling agrees with the ring's. -/
structure Flat.Of (T : Flat sig) (G : Geo sig) : Prop where
  dv : ∀ c d, T.dv c d = peer c d
  src : ∀ c d q, T.src c d q = G.src c d q
  dst : ∀ c d q, T.dst c d q = G.dst c d q

section Program
variable (G : Geo sig) (T : Flat sig)

def send (c : Dev nD) (d : Bool) (q : ℕ) (k : Pg sig F Λ) : Pg sig F Λ :=
  .op (.enqueueDma (T.src c d q) (.remote (Dev.tc (T.dv c d)) (T.dst c d q) (.dma (G.sS d (s7 q)))) (.dma (G.vS d (s7 q)))
    (T.hsrc c d q) (T.hdst c d q) ⟨⟨rfl, Or.inl rfl⟩, trivial⟩) fun _ => k
def waitS (c : Dev nD) (d : Bool) (q : ℕ) (k : Pg sig F Λ) : Pg sig F Λ :=
  .op (.waitDma2 (G.sS d (s7 q)) (T.dst c d q) (T.src c d q) (T.hdst c d q) (T.hsrc c d q)) fun _ => k
def waitV (c : Dev nD) (d : Bool) (q : ℕ) (k : Pg sig F Λ) : Pg sig F Λ :=
  .op (.waitDma2 (G.vS d (s7 q)) (T.src c d q) (T.dst c d q) (T.hsrc c d q) (T.hdst c d q)) fun _ => k
def send2 (c : Dev nD) (q : ℕ) (k : Pg sig F Λ) : Pg sig F Λ := send G T c false q (send G T c true q k)
def wait4 (c : Dev nD) (q : ℕ) (k : Pg sig F Λ) : Pg sig F Λ :=
  waitS G T c false q (waitV G T c false q (waitS G T c true q (waitV G T c true q k)))
end Program

variable (P : Rings sig nJ) (v : Vals F nJ) (K : GSem nD τ sig → ℕ) (j : Fin nJ)

/-! ## Resources -/

/-- The invariants of all the cells. -/
def recs : sProp 𝕄 := bigSep Finset.univ fun x : Dev nD × (Fin nJ × Role) =>
  cellInv ER (rd P v) (K (cell (P.geo x.2.1) x.1 x.2.2)) (cell (P.geo x.2.1) x.1 x.2.2)
instance recs_persistent : BI.Persistent (recs P v K) := by unfold recs; infer_instance
theorem recs_at (c : Dev nD) (ρ : Role) : recs P v K ⊢ cellInv ER (rd P v) (K (cell (P.geo j) c ρ)) (cell (P.geo j) c ρ) :=
  bigSep_elim (Φ := fun x : Dev nD × (Fin nJ × Role) =>
    cellInv ER (rd P v) (K (cell (P.geo x.2.1) x.1 x.2.2)) (cell (P.geo x.2.1) x.1 x.2.2)) (i := (c, (j, ρ))) (Finset.mem_univ _)

def owing (c : Dev nD) (O : CellTallies nD τ sig ℕ) : sProp 𝕄 := iprop(∃ W, owes (c : Thread nD τ) O W)
def both (Φ : Bool → sProp 𝕄) : sProp 𝕄 := iprop(Φ false ∗ Φ true)

section Pieces
variable (G : Geo sig) (c : Dev nD) (d : Bool)

def at_ (ρ : Role) (r : ℕ) : sProp 𝕄 := iprop(atPos ER (cell G c ρ) r ∅ 0 ∗ reached ER (cell G c ρ) r)
def posn (s : Fin 7) (r : ℕ) : sProp 𝕄 := iprop(at_ G c (.snd d s) r ∗ at_ G c (.rcv d s) r)
end Pieces

section Pieces
variable (c : Dev nD) (q : ℕ) (d : Bool)
/-- What the copy of step `q` is paid with, and what its counterpart on this device is waited for with. -/
def tk : sProp 𝕄 :=
  iprop((dutyTok ER (cell (P.geo j) c (.snd d (s7 q))) (q / 7) false ∗ dutyTok ER (cell (P.geo j) (peer c d) (.rcv d (s7 q))) (q / 7) false)
    ∗ cred (tallyAt (cell (P.geo j) c (.rcv d (s7 q))) (base j + 2 + q) P.N))
def ready : sProp 𝕄 :=
  iprop(tk P j c q d ∗ anyAt (peer c d) ((P.geo j).dst c d q) ∗ posn (P.geo j) c d (s7 q) (q / 7)
    ∗ reached ER (cell (P.geo j) (peer c d) (.rcv d (s7 q))) (q / 7) ∗ fb (P.geo j) c d q ∗ holds c ((P.geo j).src c d q) (v j c d q))
def fly : sProp 𝕄 :=
  iprop(cred (tallyAt (cell (P.geo j) c (.snd d (s7 q))) (base j + 2 + q) P.N) ∗ cred (tallyAt (cell (P.geo j) c (.rcv d (s7 q))) (base j + 2 + q) P.N)
    ∗ posn (P.geo j) c d (s7 q) (q / 7))
def got : sProp 𝕄 :=
  iprop(holds c ((P.geo j).src c d q) (v j c d q)
    ∗ holds c ((P.geo j).dst (peer c (!d)) d q) (v j (peer c (!d)) d q) ∗ fb (P.geo j) (peer c (!d)) d q
    ∗ posn (P.geo j) c d (s7 q) (q / 7 + 1))
end Pieces

theorem dst_credit (c : Dev nD) (d : Bool) (q : ℕ) : ((P.geo j).dst c d q).view.dmaCredit = P.N := by
  unfold Geo.dst; split
  · exact P.hcm j d _
  · exact P.hout j d _
theorem src_credit (c : Dev nD) (d : Bool) (q : ℕ) : ((P.geo j).src c d q).view.dmaCredit = P.N := by
  unfold Geo.src; split
  · split
    · exact P.hpb j d _
    · exact P.hcm j d _
  · exact P.hout j d _

theorem q_split (q : ℕ) : 7 * (q / 7) + (s7 q).val = q := Nat.div_add_mod q 7

variable (defs : Defs nD τ sig (Elt F) Λ) (𝒱 : Variants)

section Rules
variable (c : Dev nD) (Kq : PUnit.{1} → sProp (MT nD τ sig ℕ (Elt F) ℕ (UU sig) ℕ))

/-- A copy of step `q`. -/
theorem wp_send1 (T : Flat sig) (hT : T.Of (P.geo j)) (d : Bool) (q : ℕ) (hq : q < 14) (O : CellTallies nD τ sig ℕ) (k : Pg sig F Λ) :
    iprop(recs P v K ∗ ready P v j c q d ∗ owing c (O + tV P j c d q)
        ∗ ((fly P j c q d ∗ owing c O) -∗ wp frame (wpE defs 𝒱 (c : Thread nD τ) none) Set.univ k Kq))
      ⊢ wp frame (wpE defs 𝒱 (c : Thread nD τ) none) Set.univ (send (P.geo j) T c d q k) Kq := by
  obtain ⟨dv, src, dst, hsrc, hdst⟩ := T
  obtain ⟨h1, h2, h3⟩ := hT
  obtain rfl : dv = peer := funext fun c => funext fun d => h1 c d
  obtain rfl : src = (P.geo j).src := funext fun c => funext fun d => funext fun q => h2 c d q
  obtain rfl : dst = (P.geo j).dst := funext fun c => funext fun d => funext fun q => h3 c d q
  unfold send ready tk holds anyAt posn at_ owing
  have hr : q / 7 < 2 := by omega
  iintro ⟨#HR, ⟨⟨⟨Ht1, Ht2⟩, Hcr⟩, ⟨%fd, Hd⟩, ⟨⟨HaS, #HrS⟩, HaV⟩, #HrP, #Hfb, ⟨%fs, %hfs, Hs⟩⟩, ⟨%W, HO⟩, Hk⟩
  iapply (Rounds.wp_send_pointsTo_with 𝒱 ER (rd P v) (c : Thread nD τ) none (c' := (peer c d : Thread nD τ)) (src := (P.geo j).src c d q) (dst := (P.geo j).dst c d q)
      (sS := .dma ((P.geo j).sS d (s7 q))) (sem := .dma ((P.geo j).vS d (s7 q))) (q := fullShare) (fs := fs) (fd := fd) (F := fb (P.geo j) c d q)
      (κ₁ := K (cell (P.geo j) c (.snd d (s7 q)))) (κ₂ := K (cell (P.geo j) (peer c d) (.rcv d (s7 q))))
      (r₁ := q / 7) (r₂ := q / 7) (d₁ := false) (d₂ := false)
      (by rw [show ((c : Thread nD τ), SemLoc.dma ((P.geo j).sS d (s7 q))) = cell (P.geo j) c (.snd d (s7 q)) from rfl, duties_cell]
          simp only [dutiesOf]; rw [if_pos hr]; exact Finset.mem_singleton_self _)
      (by rw [show ((peer c d : Thread nD τ), SemLoc.dma ((P.geo j).vS d (s7 q))) = cell (P.geo j) (peer c d) (.rcv d (s7 q)) from rfl, duties_cell]
          simp only [dutiesOf]; rw [if_pos hr]; exact Finset.mem_singleton_self _)
      (base j + 2 + q) (base j + 2 + q) P.N (dst_credit P j c d q) (amount_cell P v j c (.snd d (s7 q)) _ _) (amount_cell P v j (peer c d) (.rcv d (s7 q)) _ _)
      O rfl (W := W)
      (by rw [show ((c : Thread nD τ), SemLoc.dma ((P.geo j).sS d (s7 q))) = cell (P.geo j) c (.snd d (s7 q)) from rfl, payload_cell]
          simp only [pay]; rw [q_split]; unfold holds
          iintro H; iexists fs; isplitr; · ipureintro; exact hfs
          iexact H)
      (by rw [show ((peer c d : Thread nD τ), SemLoc.dma ((P.geo j).vS d (s7 q))) = cell (P.geo j) (peer c d) (.rcv d (s7 q)) from rfl, payload_cell]
          simp only [pay]; rw [q_split, peer_peer]; unfold holds
          iintro ⟨H, #Hf⟩
          isplitl [H]
          · iexists _; isplitr [H]; rotate_left
            · iexact H
            ipureintro; rw [← hfs]; exact View.read_write_univ _ _
          · iexact Hf)) $$ [Ht1 Ht2 Hd Hs HO]
  · isplitr; · iapply (recs_at P v K j c (.snd d (s7 q))); iexact HR
    isplitr; · iapply (recs_at P v K j (peer c d) (.rcv d (s7 q))); iexact HR
    isplitl [Hs]; · iexact Hs
    isplitl [Hd]
    · isplitl [Hd]; · iexact Hd
      iexact Hfb
    isplitl [HO]; · iexact HO
    isplitl [Ht1]; · iexact Ht1
    isplitr; · iexact HrS
    isplitl [Ht2]; · iexact Ht2
    iexact HrP
  iintro ⟨HcS, HO⟩
  iapply Hk
  unfold fly posn at_
  isplitr [HO]
  · isplitl [HcS]; · iexact HcS
    isplitl [Hcr]; · iexact Hcr
    isplitr [HaV]
    · isplitl [HaS]; · iexact HaS
      iexact HrS
    iexact HaV
  iexists W; iexact HO

/-- A wait for a whole round of a cell. -/
theorem wp_wait1 (ρ : Role) (r n k' : ℕ) (O : CellTallies nD τ sig ℕ) (hO : Above n O) (hn : n < 1000)
    {w : TpuEff nD τ sig (Elt F) Λ .tc PUnit}
    (hw : ∀ Kt : PUnit → sProp 𝕄, wpE defs 𝒱 (c : Thread nD τ) none Set.univ w Kt = waitSpec (c : Thread nD τ) Set.univ ((P.geo j).sem ρ) k' Kt)
    (hk : k' = (dutiesOf ρ r).card * amountOf P.N ρ) (k : Pg sig F Λ) :
    iprop(recs P v K ∗ levAts L lv ∗ cred (tallyAt (cell (P.geo j) c ρ) n k') ∗ at_ (P.geo j) c ρ r ∗ owing c O
        ∗ ((owing c O ∗ at_ (P.geo j) c ρ (r + 1) ∗ bigSep (dutiesOf ρ r) (fun d => pay P v j c ρ r d))
            -∗ wp frame (wpE defs 𝒱 (c : Thread nD τ) none) Set.univ k Kq))
      ⊢ wp frame (wpE defs 𝒱 (c : Thread nD τ) none) Set.univ (.op w fun _ => k) Kq := by
  unfold at_ owing
  iintro ⟨#HR, #Hlev, Hc, ⟨Ha, -⟩, ⟨%W, HO⟩, Hk⟩
  iapply (Rounds.wp_wait_rest_token 𝒱 ER (rd P v) (c : Thread nD τ) none (κ := K (cell (P.geo j) c ρ))
      (sm := (P.geo j).sem ρ) hw (Set.mem_univ _) n (O := O) (W := W) (R := r) (m := 0) (T := ∅)
      ((Nat.zero_add _).trans (hk.trans (expect_cell P v j c ρ r).symm))) $$ [Hc HO Ha]
  · isplitr; · iapply (recs_at P v K j c ρ); iexact HR
    isplitl [Hc]; · iexact Hc
    isplitl [HO]; · iexact HO
    isplitr; · iapply (hO.mayWait hn c); iexact Hlev
    iexact Ha
  iintro ⟨HO, Ha, #Hr, Hpay⟩
  ihave Hp := (Entails.of_eq (rest_cell P v j c ρ r)) $$ Hpay
  iapply Hk
  isplitl [HO]; · iexists _; iexact HO
  isplitl [Ha]
  · isplitl [Ha]; · iexact Ha
    iexact Hr
  iexact Hp

theorem wp_waitS (T : Flat sig) (hT : T.Of (P.geo j)) (d : Bool) (q : ℕ) (hq : q < 14) (O : CellTallies nD τ sig ℕ) (hO : Above (base j + 2 + q) O)
    (hn : base j + 2 + q < 1000) (k : Pg sig F Λ) :
    iprop(recs P v K ∗ levAts L lv ∗ cred (tallyAt (cell (P.geo j) c (.snd d (s7 q))) (base j + 2 + q) P.N) ∗ at_ (P.geo j) c (.snd d (s7 q)) (q / 7) ∗ owing c O
        ∗ ((owing c O ∗ at_ (P.geo j) c (.snd d (s7 q)) (q / 7 + 1) ∗ holds c ((P.geo j).src c d q) (v j c d q))
            -∗ wp frame (wpE defs 𝒱 (c : Thread nD τ) none) Set.univ k Kq))
      ⊢ wp frame (wpE defs 𝒱 (c : Thread nD τ) none) Set.univ (waitS (P.geo j) T c d q k) Kq := by
  unfold waitS
  have hr : dutiesOf (.snd d (s7 q)) (q / 7) = {false} := if_pos (by omega)
  iintro ⟨#HR, #Hlev, Hc, Ha, HO, Hk⟩
  iapply (wp_wait1 P v K j defs 𝒱 c Kq (.snd d (s7 q)) (q / 7) (base j + 2 + q) P.N O hO hn
    (w := .waitDma2 ((P.geo j).sS d (s7 q)) (T.dst c d q) (T.src c d q) (T.hdst c d q) (T.hsrc c d q))
    (fun Kt => by rw [wpE_waitDma2_eq, hT.src, src_credit]; rfl)
    (by rw [hr, Finset.card_singleton, one_mul]; rfl) k)
  isplitr; · iexact HR
  isplitr; · iexact Hlev
  isplitl [Hc]; · iexact Hc
  isplitl [Ha]; · iexact Ha
  isplitl [HO]; · iexact HO
  rw [hr, bigSep_singleton]
  simp only [pay]
  rw [q_split]
  iexact Hk

theorem wp_waitV (T : Flat sig) (hT : T.Of (P.geo j)) (d : Bool) (q : ℕ) (hq : q < 14) (O : CellTallies nD τ sig ℕ) (hO : Above (base j + 2 + q) O)
    (hn : base j + 2 + q < 1000) (k : Pg sig F Λ) :
    iprop(recs P v K ∗ levAts L lv ∗ cred (tallyAt (cell (P.geo j) c (.rcv d (s7 q))) (base j + 2 + q) P.N) ∗ at_ (P.geo j) c (.rcv d (s7 q)) (q / 7) ∗ owing c O
        ∗ ((owing c O ∗ at_ (P.geo j) c (.rcv d (s7 q)) (q / 7 + 1) ∗ (holds c ((P.geo j).dst (peer c (!d)) d q) (v j (peer c (!d)) d q) ∗ fb (P.geo j) (peer c (!d)) d q))
            -∗ wp frame (wpE defs 𝒱 (c : Thread nD τ) none) Set.univ k Kq))
      ⊢ wp frame (wpE defs 𝒱 (c : Thread nD τ) none) Set.univ (waitV (P.geo j) T c d q k) Kq := by
  unfold waitV
  have hr : dutiesOf (.rcv d (s7 q)) (q / 7) = {false} := if_pos (by omega)
  iintro ⟨#HR, #Hlev, Hc, Ha, HO, Hk⟩
  iapply (wp_wait1 P v K j defs 𝒱 c Kq (.rcv d (s7 q)) (q / 7) (base j + 2 + q) P.N O hO hn
    (w := .waitDma2 ((P.geo j).vS d (s7 q)) (T.src c d q) (T.dst c d q) (T.hsrc c d q) (T.hdst c d q))
    (fun Kt => by rw [wpE_waitDma2_eq, hT.dst, dst_credit]; rfl)
    (by rw [hr, Finset.card_singleton, one_mul]; rfl) k)
  isplitr; · iexact HR
  isplitr; · iexact Hlev
  isplitl [Hc]; · iexact Hc
  isplitl [Ha]; · iexact Ha
  isplitl [HO]; · iexact HO
  rw [hr, bigSep_singleton]
  simp only [pay]
  rw [q_split]
  iexact Hk

variable (T : Flat sig) (hT : T.Of (P.geo j)) (hJ : nJ ≤ 30) (D : CellTallies nD τ sig ℕ) (hD : Above (base j + 20) D)

include hT in
theorem wp_send2 (q : ℕ) (hq : q < 14) (k : Pg sig F Λ) :
    iprop(recs P v K ∗ both (ready P v j c q) ∗ owing c (D + oT P j c q)
        ∗ ((both (fly P j c q) ∗ owing c (D + oT P j c (q + 1))) -∗ wp frame (wpE defs 𝒱 (c : Thread nD τ) none) Set.univ k Kq))
      ⊢ wp frame (wpE defs 𝒱 (c : Thread nD τ) none) Set.univ (send2 (P.geo j) T c q k) Kq := by
  unfold send2 both
  rw [oT_step P j c q hq, ← add_assoc, ← add_assoc]
  iintro ⟨#HR, ⟨HF, HT⟩, HO, Hk⟩
  iapply (wp_send1 P v K j defs 𝒱 c Kq T hT false q hq _ _)
  isplitr; · iexact HR
  isplitl [HF]; · iexact HF
  isplitl [HO]; · iexact HO
  iintro ⟨HF, HO⟩
  iapply (wp_send1 P v K j defs 𝒱 c Kq T hT true q hq _ _)
  isplitr; · iexact HR
  isplitl [HT]; · iexact HT
  isplitl [HO]; · iexact HO
  iintro ⟨HT, HO⟩
  iapply Hk
  isplitr [HO]
  · isplitl [HF]; · iexact HF
    iexact HT
  iexact HO

include hT hJ hD in
theorem wp_wait4 (q : ℕ) (hq : q < 14) (k : Pg sig F Λ) :
    iprop(recs P v K ∗ levAts L lv ∗ both (fly P j c q) ∗ owing c (D + oT P j c (q + 1))
        ∗ ((both (got P v j c q) ∗ owing c (D + oT P j c (q + 1))) -∗ wp frame (wpE defs 𝒱 (c : Thread nD τ) none) Set.univ k Kq))
      ⊢ wp frame (wpE defs 𝒱 (c : Thread nD τ) none) Set.univ (wait4 (P.geo j) T c q k) Kq := by
  have hb := base_lt j hJ
  have hO : Above (base j + 2 + q) (D + oT P j c (q + 1)) := (hD.mono (by omega)).add ((above_T P j c hJ (q + 1)).mono (by omega))
  unfold wait4 both fly posn
  iintro ⟨#HR, #Hlev, ⟨⟨Hc1, Hc2, Ha1, Ha2⟩, ⟨Hc3, Hc4, Ha3, Ha4⟩⟩, HO, Hk⟩
  iapply (wp_waitS P v K j defs 𝒱 c Kq T hT false q hq _ hO (by omega) _)
  isplitr; · iexact HR
  isplitr; · iexact Hlev
  isplitl [Hc1]; · iexact Hc1
  isplitl [Ha1]; · iexact Ha1
  isplitl [HO]; · iexact HO
  iintro ⟨HO, Ha1, Hp1⟩
  iapply (wp_waitV P v K j defs 𝒱 c Kq T hT false q hq _ hO (by omega) _)
  isplitr; · iexact HR
  isplitr; · iexact Hlev
  isplitl [Hc2]; · iexact Hc2
  isplitl [Ha2]; · iexact Ha2
  isplitl [HO]; · iexact HO
  iintro ⟨HO, Ha2, ⟨Hp2, Hf2⟩⟩
  iapply (wp_waitS P v K j defs 𝒱 c Kq T hT true q hq _ hO (by omega) _)
  isplitr; · iexact HR
  isplitr; · iexact Hlev
  isplitl [Hc3]; · iexact Hc3
  isplitl [Ha3]; · iexact Ha3
  isplitl [HO]; · iexact HO
  iintro ⟨HO, Ha3, Hp3⟩
  iapply (wp_waitV P v K j defs 𝒱 c Kq T hT true q hq _ hO (by omega) _)
  isplitr; · iexact HR
  isplitr; · iexact Hlev
  isplitl [Hc4]; · iexact Hc4
  isplitl [Ha4]; · iexact Ha4
  isplitl [HO]; · iexact HO
  iintro ⟨HO, Ha4, ⟨Hp4, Hf4⟩⟩
  iapply Hk
  isplitr [HO]
  · unfold got posn
    isplitl [Hp1 Hp2 Hf2 Ha1 Ha2]
    · isplitl [Hp1]; · iexact Hp1
      isplitl [Hp2]; · iexact Hp2
      isplitl [Hf2]; · iexact Hf2
      isplitl [Ha1]; · iexact Ha1
      iexact Ha2
    · isplitl [Hp3]; · iexact Hp3
      isplitl [Hp4]; · iexact Hp4
      isplitl [Hf4]; · iexact Hf4
      isplitl [Ha3]; · iexact Ha3
      iexact Ha4
  iexact HO

end Rules

end Cert.Ring

end
-- ==== Proof.RingBody.lean ====
/- The whole body of a device: it enters, reduces over seven steps, finishes its two chunks, gathers over seven steps, and leaves. -/
module

public import proofs.«01_k».proof.Proof.RingStep
public import Idealize.SL.BI.BigOpNat

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {sig : RefSig} {F : FTy → Type} {Λ : Labels} {nJ : ℕ}

local notation "𝕄" => MT nD τ sig ℕ (Elt F) ℕ (UU sig) ℕ

/-- The local work of a program, before what follows it. -/
structure Ops (sig : RefSig) (F : FTy → Type) (Λ : Labels) where
  compute : Dev nD → Bool → ℕ → Pg sig F Λ → Pg sig F Λ
  acc : Dev nD → Bool → ℕ → Pg sig F Λ → Pg sig F Λ
  fin : Dev nD → Pg sig F Λ → Pg sig F Λ

/-- What the local work computes. -/
structure Vs (F : FTy → Type) where
  part : Dev nD → Bool → ℕ → Vec F
  add : Vec F → Vec F → Vec F
  fin : Dev nD → Bool → Vec F → Vec F → Vec F

def p2 (s : ℕ) : Fin 2 := ⟨s % 2, Nat.mod_lt _ (by decide)⟩

section Program
variable (G : Geo sig) (T : Flat sig) (A : Ops sig F Λ)

def signal (c : Dev nD) (d : Bool) (s : Sem sig) (k : Pg sig F Λ) : Pg sig F Λ := .op (.semSignal (Dev.tc (T.dv c d)) s 1) fun _ => k
def waitReg (s : Sem sig) (k : Pg sig F Λ) : Pg sig F Λ := .op (.semWait s 2) fun _ => k

/-- Step `s` of the reduction, the copy of step `s - 1` being under way. -/
def rsIter (c : Dev nD) (s : ℕ) (k : Pg sig F Λ) : Pg sig F Λ :=
  A.compute c false s <| A.compute c true s <| wait4 G T c (s - 1) <| A.acc c false s <| A.acc c true s <| send2 G T c s k
/-- Step `q` of the gathering. -/
def agIter (c : Dev nD) (q : ℕ) (k : Pg sig F Λ) : Pg sig F Λ := send2 G T c q <| wait4 G T c q k

def reduce (c : Dev nD) (k : Pg sig F Λ) : Pg sig F Λ :=
  rsIter G T A c 1 <| rsIter G T A c 2 <| rsIter G T A c 3 <| rsIter G T A c 4 <| rsIter G T A c 5 <| rsIter G T A c 6 k
def gather (c : Dev nD) (k : Pg sig F Λ) : Pg sig F Λ :=
  agIter G T c 7 <| agIter G T c 8 <| agIter G T c 9 <| agIter G T c 10 <| agIter G T c 11 <| agIter G T c 12 <| agIter G T c 13 k
def enter (c : Dev nD) (k : Pg sig F Λ) : Pg sig F Λ := signal T c true G.bar <| signal T c false G.bar <| waitReg G.bar k
def leave (c : Dev nD) (k : Pg sig F Λ) : Pg sig F Λ := signal T c true G.ex <| signal T c false G.ex <| waitReg G.ex k

/-- The body on device `c`. -/
def bodyOn (c : Dev nD) : Pg sig F Λ :=
  enter G T c <| A.compute c false 0 <| A.compute c true 0 <| send2 G T c 0 <| reduce G T A c <|
    A.compute c false 7 <| A.compute c true 7 <| wait4 G T c 6 <| A.fin c <| gather G T c <| leave G T c <| .ret ⟨⟩
def body : Pg sig F Λ := .op .deviceId fun c => bodyOn G T A c
end Program

variable (P : Rings sig nJ) (v : Vals F nJ) (K : GSem nD τ sig → ℕ) (j : Fin nJ)
variable (defs : Defs nD τ sig (Elt F) Λ) (𝒱 : Variants) (c : Dev nD)

/-- What the local work is proved to do, beside resources `I` it leaves as they are. -/
structure Specs (G : Geo sig) (A : Ops sig F Λ) (V : Vs F) (I : sProp (MT nD τ sig ℕ (Elt F) ℕ (UU sig) ℕ)) : Prop where
  compute : ∀ (d : Bool) (s : ℕ) (k : Pg sig F Λ) (Q : PUnit.{1} → sProp (MT nD τ sig ℕ (Elt F) ℕ (UU sig) ℕ)), s < 8 →
    iprop(I ∗ anyAt c (G.pb d (p2 s)) ∗ ((I ∗ holds c (G.pb d (p2 s)) (V.part c d s)) -∗ wp frame (wpE defs 𝒱 (c : Thread nD τ) none) Set.univ k Q))
      ⊢ wp frame (wpE defs 𝒱 (c : Thread nD τ) none) Set.univ (A.compute c d s k) Q
  acc : ∀ (d : Bool) (s : ℕ) (u w : Vec F) (k : Pg sig F Λ) (Q : PUnit.{1} → sProp (MT nD τ sig ℕ (Elt F) ℕ (UU sig) ℕ)), 1 ≤ s → s < 7 →
    iprop(holds c (G.cm d (s7 (s - 1))) u ∗ holds c (G.pb d (p2 s)) w
        ∗ ((holds c (G.cm d (s7 (s - 1))) (V.add u w) ∗ anyAt c (G.pb d (p2 s))) -∗ wp frame (wpE defs 𝒱 (c : Thread nD τ) none) Set.univ k Q))
      ⊢ wp frame (wpE defs 𝒱 (c : Thread nD τ) none) Set.univ (A.acc c d s k) Q
  fin : ∀ (u w : Bool → Vec F) (k : Pg sig F Λ) (Q : PUnit.{1} → sProp (MT nD τ sig ℕ (Elt F) ℕ (UU sig) ℕ)),
    iprop(I ∗ both (fun d => holds c (G.cm d (s7 6)) (u d)) ∗ both (fun d => holds c (G.pb d (p2 7)) (w d)) ∗ both (fun d => anyAt c (G.out d (chunkAt c d 0)))
        ∗ ((I ∗ both (fun d => anyAt c (G.cm d (s7 6))) ∗ both (fun d => anyAt c (G.pb d (p2 7))) ∗ both (fun d => holds c (G.out d (chunkAt c d 0)) (V.fin c d (u d) (w d))))
          -∗ wp frame (wpE defs 𝒱 (c : Thread nD τ) none) Set.univ k Q))
      ⊢ wp frame (wpE defs 𝒱 (c : Thread nD τ) none) Set.univ (A.fin c k) Q

/-- The values in flight are those the local work makes of the received ones. -/
structure Vals.Ok (V : Vs F) : Prop where
  first : ∀ c d, v j c d 0 = V.part c d 0
  step : ∀ c d q, q < 6 → v j c d (q + 1) = V.add (v j (peer c (!d)) d q) (V.part c d (q + 1))
  turn : ∀ c d, v j c d 7 = V.fin c d (v j (peer c (!d)) d 6) (V.part c d 7)
  on : ∀ c d q, 7 ≤ q → v j c d (q + 1) = v j (peer c (!d)) d q

theorem both_sep (Φ Ψ : Bool → sProp 𝕄) : both (fun d => iprop(Φ d ∗ Ψ d)) ⊣⊢ iprop(both Φ ∗ both Ψ) := by
  unfold both
  constructor
  · iintro ⟨⟨A, B⟩, ⟨C, D⟩⟩
    isplitl [A C]
    · isplitl [A]; · iexact A
      iexact C
    · isplitl [B]; · iexact B
      iexact D
  · iintro ⟨⟨A, B⟩, ⟨C, D⟩⟩
    isplitl [A C]
    · isplitl [A]; · iexact A
      iexact C
    · isplitl [B]; · iexact B
      iexact D
theorem both_mono {Φ Ψ : Bool → sProp 𝕄} (h : ∀ d, Φ d ⊢ Ψ d) : both Φ ⊢ both Ψ := BI.sep_mono (h false) (h true)
instance both_persistent (Φ : Bool → sProp 𝕄) [∀ d, BI.Persistent (Φ d)] : BI.Persistent (both Φ) := by unfold both; infer_instance
theorem both_bigSep {ι : Type} (s : Finset ι) (Φ : ι → Bool → sProp 𝕄) : (bigSep s fun i => both (Φ i)) = both fun d => bigSep s fun i => Φ i d := bigSep_sep' _ _ _
theorem bigSep_bool (Φ : Bool → sProp 𝕄) : bigSep Finset.univ Φ = both Φ := bigSep_univ_eq_bigSepL [false, true] (by decide) (by decide) Φ

section State

/-- Tokens, credits and the granted windows of the steps still to come. -/
def todo (a : ℕ) : sProp 𝕄 := bigSep (Finset.Ico a 14) fun q => both fun d => iprop(tk P j c q d ∗ anyAt (peer c d) ((P.geo j).dst c d q))
/-- Positions in the first round. -/
def pos0 (a : ℕ) : sProp 𝕄 :=
  bigSep (Finset.Ico a 7) fun q => both fun d => iprop(posn (P.geo j) c d (s7 q) 0 ∗ reached ER (cell (P.geo j) (peer c d) (.rcv d (s7 q))) 0)
/-- Positions past the first round. -/
def pos1 (a b : ℕ) : sProp 𝕄 := bigSep (Finset.Ico a b) fun q => both fun d => posn (P.geo j) c d (s7 q) 1
def pos2 (a b : ℕ) : sProp 𝕄 := bigSep (Finset.Ico a b) fun q => both fun d => posn (P.geo j) c d (s7 q) 2
/-- What the peers reported. -/
def told (n : ℕ) : sProp 𝕄 := bigSep (Finset.Ico 0 n) fun q => both fun d => fb (F := F) (P.geo j) (peer c (!d)) d q
instance told_persistent (n : ℕ) : BI.Persistent (told (F := F) P j c n) := by unfold told; infer_instance
/-- The windows come back from the first `n` steps, and the second partial buffers. -/
def bufs (n : ℕ) : sProp 𝕄 :=
  iprop((bigSep (Finset.Ico 0 n) fun q => both fun d => anyAt c ((P.geo j).src c d q)) ∗ both fun d => anyAt c ((P.geo j).pb d 1))

variable (D : CellTallies nD τ sig ℕ) (I : sProp (MT nD τ sig ℕ (Elt F) ℕ (UU sig) ℕ))

def RsInv (n : ℕ) : sProp 𝕄 :=
  iprop(I ∗ both (fly P j c n) ∗ owing c (D + oT P j c (n + 1)) ∗ todo P j c (n + 1) ∗ pos0 P j c (n + 1) ∗ pos1 P j c 0 n ∗ told P j c n ∗ bufs P j c n)

def AgInv (t : ℕ) : sProp 𝕄 :=
  iprop(owing c (D + oT P j c (7 + t)) ∗ todo P j c (7 + t) ∗ pos1 P j c t 7 ∗ pos2 P j c 0 t
    ∗ both (fun d => fb (P.geo j) c d (7 + t)) ∗ both (fun d => holds c ((P.geo j).src c d (7 + t)) (v j c d (7 + t)))
    ∗ bigSep (Finset.Ico 0 t) fun i => both fun d => holds c ((P.geo j).out d (chunkAt c d i)) (v j c d (7 + i)))
end State

theorem todo_step {a : ℕ} (h : a < 14) : todo (F := F) P j c a = iprop(both (fun d => iprop(tk P j c a d ∗ anyAt (peer c d) ((P.geo j).dst c d a))) ∗ todo P j c (a + 1)) :=
  bigSep_Ico_succ_bot h _
theorem pos0_step {a : ℕ} (h : a < 7) : pos0 (F := F) P j c a
    = iprop(both (fun d => iprop(posn (P.geo j) c d (s7 a) 0 ∗ reached ER (cell (P.geo j) (peer c d) (.rcv d (s7 a))) 0)) ∗ pos0 P j c (a + 1)) :=
  bigSep_Ico_succ_bot h _
theorem pos1_step {a b : ℕ} (h : a < b) : pos1 (F := F) P j c a b = iprop(both (fun d => posn (P.geo j) c d (s7 a) 1) ∗ pos1 P j c (a + 1) b) :=
  bigSep_Ico_succ_bot h _
theorem pos1_top (b : ℕ) : pos1 (F := F) P j c 0 (b + 1) = iprop(both (fun d => posn (P.geo j) c d (s7 b) 1) ∗ pos1 P j c 0 b) :=
  bigSep_Ico_succ_top (Nat.zero_le b) _
theorem pos2_top (b : ℕ) : pos2 (F := F) P j c 0 (b + 1) = iprop(both (fun d => posn (P.geo j) c d (s7 b) 2) ∗ pos2 P j c 0 b) :=
  bigSep_Ico_succ_top (Nat.zero_le b) _
theorem told_top (b : ℕ) : told (F := F) P j c (b + 1) = iprop(both (fun d => fb (P.geo j) (peer c (!d)) d b) ∗ told P j c b) :=
  bigSep_Ico_succ_top (Nat.zero_le b) _
theorem told_at {b i : ℕ} (h : i + 1 < b) : told (F := F) P j c b ⊢ both (fun d => fb (F := F) (P.geo j) (peer c (!d)) d (i + 1)) :=
  bigSep_elim (Φ := fun q => both fun d => fb (F := F) (P.geo j) (peer c (!d)) d q) (Finset.mem_Ico.mpr ⟨Nat.zero_le _, h⟩)
theorem bufs_top (b : ℕ) : iprop(bufs P j c b ∗ both (fun d => anyAt c ((P.geo j).src c d b))) ⊢ (bufs P j c (b + 1) : sProp 𝕄) := by
  unfold bufs
  rw [bigSep_Ico_succ_top (Nat.zero_le b)]
  iintro ⟨⟨A, B⟩, C⟩
  isplitr [B]; rotate_left
  · iexact B
  isplitl [C]; · iexact C
  iexact A

theorem bufs_acc (n : ℕ) : bufs P j c n ⊢ (iprop(both (fun d => anyAt c ((P.geo j).pb d (p2 (n + 1)))) ∗ (both (fun d => anyAt c ((P.geo j).pb d (p2 (n + 1)))) -∗ bufs P j c n)) : sProp 𝕄) := by
  unfold bufs
  rcases Nat.mod_two_eq_zero_or_one n with h | h
  · rw [show p2 (n + 1) = 1 from Fin.ext (by show (n + 1) % 2 = 1; omega)]
    iintro ⟨A, B⟩
    isplitl [B]; · iexact B
    iintro B
    isplitl [A]; · iexact A
    iexact B
  · rw [show p2 (n + 1) = 0 from Fin.ext (by show (n + 1) % 2 = 0; omega), bigSep_Ico_succ_bot (by omega)]
    have h0 : ∀ d, (P.geo j).src c d 0 = (P.geo j).pb d 0 := fun d => rfl
    simp only [h0]
    iintro ⟨⟨A, A'⟩, B⟩
    isplitl [A]; · iexact A
    iintro A
    isplitr [B]
    · isplitl [A]; · iexact A
      iexact A'
    iexact B

theorem fb_succ (G : Geo sig) (p : Dev nD) (d : Bool) (q : ℕ) :
    fb (F := F) G p d (q + 1) = reached ER (cell G p (.rcv (!d) (s7 q))) (q / 7 + 1) := by
  unfold fb; rw [if_neg (by omega), Nat.add_sub_cancel]

/-- A device at round `r + 1` of its receiving cell has told the other direction so. -/
theorem fb_of_posn (q : ℕ) : both (fun d => posn (P.geo j) c d (s7 q) (q / 7 + 1)) ⊢ (iprop(both (fun d => fb (P.geo j) c d (q + 1)) ∗ both (fun d => posn (P.geo j) c d (s7 q) (q / 7 + 1))) : sProp 𝕄) := by
  unfold both posn at_
  simp only [fb_succ]
  iintro ⟨⟨A, ⟨B, #R⟩⟩, ⟨A', ⟨B', #R'⟩⟩⟩
  isplitr
  · isplitr; · iexact R'
    iexact R
  isplitl [A B]
  · isplitl [A]; · iexact A
    isplitl [B]; · iexact B
    iexact R
  · isplitl [A']; · iexact A'
    isplitl [B']; · iexact B'
    iexact R'

/-- A report of step `i + 1` is that the peer has received step `i`. -/
theorem reached_of_fb (i : ℕ) : both (fun d => fb (P.geo j) (peer c (!d)) d (i + 1)) ⊢ (both (fun d => reached ER (cell (P.geo j) (peer c d) (.rcv d (s7 i))) (i / 7 + 1)) : sProp 𝕄) := by
  unfold both
  simp only [fb_succ]
  iintro ⟨A, B⟩
  isplitl [B]; · iexact B
  iexact A

theorem ready_of (q : ℕ) : iprop(both (fun d => iprop(tk P j c q d ∗ anyAt (peer c d) ((P.geo j).dst c d q))) ∗ both (fun d => posn (P.geo j) c d (s7 q) (q / 7))
      ∗ both (fun d => reached ER (cell (P.geo j) (peer c d) (.rcv d (s7 q))) (q / 7)) ∗ both (fun d => fb (P.geo j) c d q)
      ∗ both (fun d => holds c ((P.geo j).src c d q) (v j c d q)))
    ⊢ both (ready P v j c q) := by
  unfold both ready
  iintro ⟨⟨⟨A1, A2⟩, ⟨B1, B2⟩⟩, ⟨A3, B3⟩, ⟨A4, B4⟩, ⟨A5, B5⟩, ⟨A6, B6⟩⟩
  isplitl [A1 A2 A3 A4 A5 A6]
  · isplitl [A1]; · iexact A1
    isplitl [A2]; · iexact A2
    isplitl [A3]; · iexact A3
    isplitl [A4]; · iexact A4
    isplitl [A5]; · iexact A5
    iexact A6
  · isplitl [B1]; · iexact B1
    isplitl [B2]; · iexact B2
    isplitl [B3]; · iexact B3
    isplitl [B4]; · iexact B4
    isplitl [B5]; · iexact B5
    iexact B6

theorem got_split (q : ℕ) : both (got P v j c q) ⊢ iprop(both (fun d => holds c ((P.geo j).src c d q) (v j c d q))
      ∗ both (fun d => holds c ((P.geo j).dst (peer c (!d)) d q) (v j (peer c (!d)) d q)) ∗ both (fun d => fb (P.geo j) (peer c (!d)) d q)
      ∗ both (fun d => posn (P.geo j) c d (s7 q) (q / 7 + 1))) := by
  unfold both got
  iintro ⟨⟨A1, A2, A3, A4⟩, ⟨B1, B2, B3, B4⟩⟩
  isplitl [A1 B1]
  · isplitl [A1]; · iexact A1
    iexact B1
  isplitl [A2 B2]
  · isplitl [A2]; · iexact A2
    iexact B2
  isplitl [A3 B3]
  · isplitl [A3]; · iexact A3
    iexact B3
  isplitl [A4]; · iexact A4
  iexact B4

section Run
variable (T : Flat sig) (hT : T.Of (P.geo j)) (hJ : nJ ≤ 30) (D : CellTallies nD τ sig ℕ) (hD : Above (base j + 20) D)
variable (A : Ops sig F Λ) (V : Vs F) (hV : v.Ok j V)
variable (I : sProp (MT nD τ sig ℕ (Elt F) ℕ (UU sig) ℕ)) (hA : Specs defs 𝒱 c (P.geo j) A V I)
variable (Q : PUnit.{1} → sProp (MT nD τ sig ℕ (Elt F) ℕ (UU sig) ℕ))

include hA in
theorem wp_compute2 (s : ℕ) (hs : s < 8) (k : Pg sig F Λ) :
    iprop(I ∗ both (fun d => anyAt c ((P.geo j).pb d (p2 s)))
        ∗ ((I ∗ both (fun d => holds c ((P.geo j).pb d (p2 s)) (V.part c d s))) -∗ wp frame (wpE defs 𝒱 (c : Thread nD τ) none) Set.univ k Q))
      ⊢ wp frame (wpE defs 𝒱 (c : Thread nD τ) none) Set.univ (A.compute c false s <| A.compute c true s k) Q := by
  unfold both
  iintro ⟨HI, ⟨H1, H2⟩, Hk⟩
  iapply (hA.compute false s _ Q hs)
  isplitl [HI]; · iexact HI
  isplitl [H1]; · iexact H1
  iintro ⟨HI, H1⟩
  iapply (hA.compute true s _ Q hs)
  isplitl [HI]; · iexact HI
  isplitl [H2]; · iexact H2
  iintro ⟨HI, H2⟩
  iapply Hk
  isplitl [HI]; · iexact HI
  isplitl [H1]; · iexact H1
  iexact H2

include hA in
theorem wp_acc2 (s : ℕ) (h1 : 1 ≤ s) (h7 : s < 7) (u w : Bool → Vec F) (k : Pg sig F Λ) :
    iprop(both (fun d => holds c ((P.geo j).cm d (s7 (s - 1))) (u d)) ∗ both (fun d => holds c ((P.geo j).pb d (p2 s)) (w d))
        ∗ ((both (fun d => holds c ((P.geo j).cm d (s7 (s - 1))) (V.add (u d) (w d))) ∗ both (fun d => anyAt c ((P.geo j).pb d (p2 s))))
            -∗ wp frame (wpE defs 𝒱 (c : Thread nD τ) none) Set.univ k Q))
      ⊢ wp frame (wpE defs 𝒱 (c : Thread nD τ) none) Set.univ (A.acc c false s <| A.acc c true s k) Q := by
  unfold both
  iintro ⟨⟨H1, H2⟩, ⟨G1, G2⟩, Hk⟩
  iapply (hA.acc false s _ _ _ Q h1 h7)
  isplitl [H1]; · iexact H1
  isplitl [G1]; · iexact G1
  iintro ⟨H1, G1⟩
  iapply (hA.acc true s _ _ _ Q h1 h7)
  isplitl [H2]; · iexact H2
  isplitl [G2]; · iexact G2
  iintro ⟨H2, G2⟩
  iapply Hk
  isplitl [H1 H2]
  · isplitl [H1]; · iexact H1
    iexact H2
  · isplitl [G1]; · iexact G1
    iexact G2

include hT hJ hD hV hA in
theorem wp_rs (n : ℕ) (hn : n < 6) (k : Pg sig F Λ) :
    iprop(recs P v K ∗ levAts L lv ∗ RsInv P j c D I n ∗ (RsInv P j c D I (n + 1) -∗ wp frame (wpE defs 𝒱 (c : Thread nD τ) none) Set.univ k Q))
      ⊢ wp frame (wpE defs 𝒱 (c : Thread nD τ) none) Set.univ (rsIter (P.geo j) T A c (n + 1) k) Q := by
  unfold RsInv rsIter
  rw [Nat.add_sub_cancel]
  iintro ⟨#HR, #Hlev, ⟨HI, Hfly, HO, Htodo, Hp0, Hp1, #Htold, Hbuf⟩, Hk⟩
  ihave Hb := (bufs_acc P j c n) $$ Hbuf
  icases Hb with ⟨Hpb, Hback⟩
  iapply (wp_compute2 P j defs 𝒱 c A V I hA Q (n + 1) (by omega) _)
  isplitl [HI]; · iexact HI
  isplitl [Hpb]; · iexact Hpb
  iintro ⟨HI, Hpb⟩
  iapply (wp_wait4 P v K j defs 𝒱 c Q T hT hJ D hD n (by omega) _)
  isplitr; · iexact HR
  isplitr; · iexact Hlev
  isplitl [Hfly]; · iexact Hfly
  isplitl [HO]; · iexact HO
  iintro ⟨Hgot, HO⟩
  ihave Hg := (got_split P v j c n) $$ Hgot
  icases Hg with ⟨Hsrc, Hdst, #Hfb, Hpos⟩
  iapply (wp_acc2 P j defs 𝒱 c A V I hA Q (n + 1) (by omega) (by omega) (fun d => v j (peer c (!d)) d n) (fun d => V.part c d (n + 1)) _)
  isplitl [Hdst]
  · iapply (both_mono fun d => ?_) $$ Hdst
    rw [Nat.add_sub_cancel, Geo.dst, if_pos (by omega)]
  isplitl [Hpb]; · iexact Hpb
  iintro ⟨Hcm, Hpb⟩
  ihave Hbuf := Hback $$ Hpb
  ihave Hpf := (fb_of_posn P j c n) $$ Hpos
  icases Hpf with ⟨#Hmy, Hpos⟩
  ihave Htodo' := (Entails.of_eq (todo_step P j c (a := n + 1) (by omega))) $$ Htodo
  icases Htodo' with ⟨Ht, Htodo⟩
  ihave Hp0' := (Entails.of_eq (pos0_step P j c (a := n + 1) (by omega))) $$ Hp0
  icases Hp0' with ⟨Hp, Hp0⟩
  ihave Hp' := (both_sep _ _).1 $$ Hp
  icases Hp' with ⟨Hpn, #Hrn⟩
  have e0 : (n + 1) / 7 = 0 := by omega
  iapply (wp_send2 P v K j defs 𝒱 c Q T hT D (n + 1) (by omega) _)
  isplitr; · iexact HR
  isplitl [Ht Hpn Hcm]
  · iapply (ready_of P v j c (n + 1))
    rw [e0]
    isplitl [Ht]; · iexact Ht
    isplitl [Hpn]; · iexact Hpn
    isplitr; · iexact Hrn
    isplitr; · iexact Hmy
    iapply (both_mono fun d => ?_) $$ Hcm
    rw [hV.step c d n hn, Geo.src, if_pos (by omega), if_neg (by omega)]
  isplitl [HO]; · iexact HO
  iintro ⟨Hfly, HO⟩
  iapply Hk
  isplitl [HI]; · iexact HI
  isplitl [Hfly]; · iexact Hfly
  isplitl [HO]; · iexact HO
  isplitl [Htodo]; · iexact Htodo
  isplitl [Hp0]; · iexact Hp0
  isplitl [Hp1 Hpos]
  · rw [pos1_top, show n / 7 = 0 from by omega]
    isplitl [Hpos]; · iexact Hpos
    iexact Hp1
  isplitr
  · rw [told_top]
    isplitr; · iexact Hfb
    iexact Htold
  iapply (bufs_top P j c n)
  isplitl [Hbuf]; · iexact Hbuf
  iapply (both_mono fun d => ?_) $$ Hsrc
  exact holds_any _ _ _

include hT hJ hD hV in
theorem wp_ag (t : ℕ) (ht : t < 7) (k : Pg sig F Λ) :
    iprop(recs P v K ∗ levAts L lv ∗ AgInv P v j c D t ∗ both (fun d => reached ER (cell (P.geo j) (peer c d) (.rcv d (s7 t))) 1)
        ∗ ((AgInv P v j c D (t + 1) ∗ both (fun d => fb (P.geo j) (peer c (!d)) d (7 + t))) -∗ wp frame (wpE defs 𝒱 (c : Thread nD τ) none) Set.univ k Q))
      ⊢ wp frame (wpE defs 𝒱 (c : Thread nD τ) none) Set.univ (agIter (P.geo j) T c (7 + t) k) Q := by
  have e7 : s7 (7 + t) = s7 t := Fin.ext (Nat.add_mod_left 7 t)
  have e1 : (7 + t) / 7 = 1 := by omega
  unfold AgInv agIter
  iintro ⟨#HR, #Hlev, ⟨HO, Htodo, Hp1, Hp2, #Hmy, Hsrc, Hpile⟩, #Hr, Hk⟩
  ihave Htodo' := (Entails.of_eq (todo_step P j c (a := 7 + t) (by omega))) $$ Htodo
  icases Htodo' with ⟨Ht, Htodo⟩
  ihave Hp1' := (Entails.of_eq (pos1_step P j c (a := t) (b := 7) (by omega))) $$ Hp1
  icases Hp1' with ⟨Hp, Hp1⟩
  iapply (wp_send2 P v K j defs 𝒱 c Q T hT D (7 + t) (by omega) _)
  isplitr; · iexact HR
  isplitl [Ht Hp Hsrc]
  · iapply (ready_of P v j c (7 + t))
    rw [e1, e7]
    isplitl [Ht]; · iexact Ht
    isplitl [Hp]; · iexact Hp
    isplitr; · iexact Hr
    isplitr; · iexact Hmy
    iexact Hsrc
  isplitl [HO]; · iexact HO
  iintro ⟨Hfly, HO⟩
  iapply (wp_wait4 P v K j defs 𝒱 c Q T hT hJ D hD (7 + t) (by omega) _)
  isplitr; · iexact HR
  isplitr; · iexact Hlev
  isplitl [Hfly]; · iexact Hfly
  isplitl [HO]; · iexact HO
  iintro ⟨Hgot, HO⟩
  ihave Hg := (got_split P v j c (7 + t)) $$ Hgot
  icases Hg with ⟨Hsrc, Hdst, #Hfb, Hpos⟩
  ihave Hpf := (fb_of_posn P j c (7 + t)) $$ Hpos
  icases Hpf with ⟨#Hmy', Hpos⟩
  iapply Hk
  isplitr []; rotate_left
  · iexact Hfb
  isplitl [HO]; · iexact HO
  isplitl [Htodo]; · iexact Htodo
  isplitl [Hp1]; · iexact Hp1
  isplitl [Hp2 Hpos]
  · rw [pos2_top, e1, e7]
    isplitl [Hpos]; · iexact Hpos
    iexact Hp2
  isplitr; · iexact Hmy'
  isplitl [Hdst]
  · iapply (both_mono fun d => ?_) $$ Hdst
    rw [← Nat.add_assoc, hV.on c d (7 + t) (by omega), Geo.dst, if_neg (by omega), Geo.src, if_neg (by omega), Nat.add_sub_cancel_left,
      show 7 + t + 1 - 7 = t + 1 from by omega, chunkAt_peer]
  rw [bigSep_Ico_succ_top (Nat.zero_le t)]
  isplitl [Hsrc]
  · iapply (both_mono fun d => ?_) $$ Hsrc
    rw [Geo.src, if_neg (by omega), Nat.add_sub_cancel_left]
  iexact Hpile

end Run

end Cert.Ring

end
-- ==== Proof.RingMain.lean ====
/- A device's whole run of the ring, from the resources it enters with to those it leaves. -/
module

public import proofs.«01_k».proof.Proof.RingBody

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {sig : RefSig} {F : FTy → Type} {Λ : Labels} {nJ : ℕ}

local notation "𝕄" => MT nD τ sig ℕ (Elt F) ℕ (UU sig) ℕ

variable (P : Rings sig nJ) (v : Vals F nJ) (K : GSem nD τ sig → ℕ) (j : Fin nJ)
variable (defs : Defs nD τ sig (Elt F) Λ) (𝒱 : Variants) (c : Dev nD)

/-- What a device enters with, beside the invariants and what the local work uses. -/
def Pre (D : CellTallies nD τ sig ℕ) : sProp 𝕄 :=
  iprop(at_ (P.geo j) c .bar 0 ∗ at_ (P.geo j) c .ex 0
    ∗ both (fun d => dutyTok ER (cell (P.geo j) (peer c d) .bar) 0 (!d)) ∗ both (fun d => dutyTok ER (cell (P.geo j) (peer c d) .ex) 0 (!d))
    ∗ both (fun d => reached ER (cell (P.geo j) (peer c d) .bar) 0)
    ∗ (bigSep (Finset.Ico 0 14) fun q => both fun d => tk P j c q d)
    ∗ (bigSep (Finset.Ico 0 7) fun q => both fun d => posn (P.geo j) c d (s7 q) 0)
    ∗ cred (tallyAt (cell (P.geo j) c .bar) (base j + 1) 2) ∗ cred (tallyAt (cell (P.geo j) c .ex) (base j + 20) 2)
    ∗ owing c (D + due P j c)
    ∗ both (fun d => anyAt c ((P.geo j).pb d 0)) ∗ both (fun d => anyAt c ((P.geo j).pb d 1))
    ∗ both (fun d => bigSep (Finset.Ico 0 14) fun q => anyAt c ((P.geo j).dst (peer c (!d)) d q))
    ∗ both (fun d => anyAt c ((P.geo j).out d (chunkAt c d 0))))

/-- What it leaves: its semaphores at zero, its scratch, and every chunk at its value. -/
def Post (D : CellTallies nD τ sig ℕ) : sProp 𝕄 :=
  iprop(semVal (cell (P.geo j) c .bar) 0 ∗ semVal (cell (P.geo j) c .ex) 0
    ∗ (bigSep (Finset.Ico 0 7) fun q => both fun d => iprop(semVal (cell (P.geo j) c (.snd d (s7 q))) 0 ∗ semVal (cell (P.geo j) c (.rcv d (s7 q))) 0))
    ∗ owing c D
    ∗ both (fun d => anyAt c ((P.geo j).pb d 0)) ∗ both (fun d => anyAt c ((P.geo j).pb d 1))
    ∗ (bigSep (Finset.Ico 0 7) fun q => both fun d => anyAt c ((P.geo j).cm d (s7 q)))
    ∗ bigSep (Finset.Ico 0 8) fun i => both fun d => holds c ((P.geo j).out d (chunkAt c d i)) (v j c d (7 + i)))

/-! ## Closing -/

theorem bigSep_sep_join {M : Type} [URA M] {ι : Type} (s : Finset ι) (Φ Ψ : ι → sProp M) :
    iprop(bigSep s Φ ∗ bigSep s Ψ) ⊢ (bigSep s fun i => iprop(Φ i ∗ Ψ i) : sProp M) := Entails.of_eq (bigSep_sep' s Φ Ψ).symm

theorem join_both {ι : Type} (s : Finset ι) (Φ Ψ : ι → Bool → sProp 𝕄) :
    iprop((bigSep s fun i => both (Φ i)) ∗ bigSep s fun i => both (Ψ i)) ⊢ (bigSep s fun i => both fun d => iprop(Φ i d ∗ Ψ i d) : sProp 𝕄) :=
  BIBase.Entails.trans (bigSep_sep_join _ _ _) (bigSep_mono fun q _ => (both_sep _ _).2)

theorem close_one (ρ : Role) (r : ℕ) (h : ∀ r', r ≤ r' → (rd P v).duties (cell (P.geo j) c ρ) r' = ∅) :
    iprop(recs P v K ∗ at_ (P.geo j) c ρ r) ⊢ (|={Set.univ}=> semVal (cell (P.geo j) c ρ) 0 : sProp 𝕄) := by
  unfold at_
  iintro ⟨#HR, ⟨Ha, -⟩⟩
  iapply (Rounds.cell_close ER (rd P v) (Set.mem_univ (K (cell (P.geo j) c ρ))) id h)
  isplitr; · iapply (recs_at P v K j c ρ); iexact HR
  iexact Ha

theorem close_pair (d : Bool) (s : Fin 7) :
    iprop(recs P v K ∗ posn (P.geo j) c d s 2)
      ⊢ (|={Set.univ}=> (semVal (cell (P.geo j) c (.snd d s)) 0 ∗ semVal (cell (P.geo j) c (.rcv d s)) 0) : sProp 𝕄) := by
  unfold posn
  iintro ⟨#HR, ⟨H1, H2⟩⟩
  imod (close_one P v K j c (.snd d s) 2 (duties_late P v j c _)) $$ [H1] with H1
  · isplitr; · iexact HR
    iexact H1
  imod (close_one P v K j c (.rcv d s) 2 (duties_late P v j c _)) $$ [H2] with H2
  · isplitr; · iexact HR
    iexact H2
  imodintro
  isplitl [H1]; · iexact H1
  iexact H2

theorem close_all : iprop(recs P v K ∗ pos2 P j c 0 7)
    ⊢ (|={Set.univ}=> (bigSep (Finset.Ico 0 7) fun q => both fun d => iprop(semVal (cell (P.geo j) c (.snd d (s7 q))) 0 ∗ semVal (cell (P.geo j) c (.rcv d (s7 q))) 0)) : sProp 𝕄) := by
  unfold pos2
  refine (bigSep_with_persistent fun q _ => ?_).trans (bigSep_fupd _ _)
  unfold both
  iintro ⟨#HR, ⟨H1, H2⟩⟩
  imod (close_pair P v K j c false (s7 q)) $$ [H1] with H1
  · isplitr; · iexact HR
    iexact H1
  imod (close_pair P v K j c true (s7 q)) $$ [H2] with H2
  · isplitr; · iexact HR
    iexact H2
  imodintro
  isplitl [H1]; · iexact H1
  iexact H2

/-! ## Around the loops -/

/-- What stands in the positions can be shown to others. -/
theorem pos_reached : (bigSep (Finset.Ico 0 7) fun q => both fun d => posn (P.geo j) c d (s7 q) 0)
    ⊢ (iprop(both (fun d => bigSep (Finset.Ico 0 7) fun q => reached ER (cell (P.geo j) c (.rcv d (s7 q))) 0)
        ∗ bigSep (Finset.Ico 0 7) fun q => both fun d => posn (P.geo j) c d (s7 q) 0) : sProp 𝕄) := by
  rw [← both_bigSep, ← bigSep_sep']
  refine bigSep_mono fun q _ => ?_
  refine BIBase.Entails.trans (both_mono fun d => ?_) (both_sep _ _).1
  unfold posn at_
  iintro ⟨A, ⟨B, #R⟩⟩
  isplitr; · iexact R
  isplitl [A]; · iexact A
  isplitl [B]; · iexact B
  iexact R

theorem ico_shift {M : Type} [URA M] (B : ℕ → sProp M) (n : ℕ) : bigSep (Finset.Ico 1 (n + 1)) B = bigSep (Finset.Ico 0 n) fun g => B (g + 1) := by
  induction n with
  | zero => rw [Finset.Ico_self, Finset.Ico_self]; rfl
  | succ n ih => rw [bigSep_Ico_succ_top (by omega), bigSep_Ico_succ_top (Nat.zero_le n), ih]

theorem bufs_end : iprop(bufs P j c 7 ∗ both (fun d => anyAt c ((P.geo j).cm d (s7 6))))
    ⊢ (iprop(both (fun d => anyAt c ((P.geo j).pb d 0)) ∗ both (fun d => anyAt c ((P.geo j).pb d 1))
        ∗ bigSep (Finset.Ico 0 7) fun q => both fun d => anyAt c ((P.geo j).cm d (s7 q))) : sProp 𝕄) := by
  unfold bufs
  rw [bigSep_Ico_succ_bot (show 0 < 7 by decide), bigSep_Ico_succ_top (show 0 ≤ 6 by decide),
    ico_shift _ 6]
  have h0 : ∀ d, (P.geo j).src c d 0 = (P.geo j).pb d 0 := fun d => rfl
  have h1 : (bigSep (Finset.Ico 0 6) fun g => both fun d => anyAt (F := F) c ((P.geo j).src c d (g + 1)))
      = bigSep (Finset.Ico 0 6) fun g => both fun d => anyAt (F := F) c ((P.geo j).cm d (s7 g)) := by
    refine bigSep_congr fun g hg => ?_
    have := (Finset.mem_Ico.mp hg).2
    have e : ∀ d, (P.geo j).src c d (g + 1) = (P.geo j).cm d (s7 g) := fun d => by
      unfold Geo.src; rw [if_pos (by omega), if_neg (by omega), Nat.add_sub_cancel]
    simp only [e]
  simp only [h0]
  rw [h1]
  iintro ⟨⟨⟨A, B⟩, C⟩, E⟩
  isplitl [A]; · iexact A
  isplitl [C]; · iexact C
  isplitl [E]; · iexact E
  iexact B

/-- The grants of both peers, beside the tokens and the positions, are what the steps need. -/
theorem granted : iprop(both (grant (P.geo j) c) ∗ (bigSep (Finset.Ico 0 14) fun q => both fun d => tk P j c q d)
      ∗ (bigSep (Finset.Ico 0 7) fun q => both fun d => posn (P.geo j) c d (s7 q) 0))
    ⊢ (iprop(todo P j c 0 ∗ pos0 P j c 0 ∗ both (fun d => reached ER (cell (P.geo j) (peer c d) .ex) 0)) : sProp 𝕄) := by
  unfold grant
  iintro ⟨Hg, Ht, Hp⟩
  ihave Hg := (both_sep _ _).1 $$ Hg
  icases Hg with ⟨Hw, Hg⟩
  ihave Hg := (both_sep _ _).1 $$ Hg
  icases Hg with ⟨Hr, Hx⟩
  isplitl [Ht Hw]
  · unfold todo
    ihave Hw := (Entails.of_eq (both_bigSep (Finset.Ico 0 14) (fun q d => anyAt (F := F) (peer c d) ((P.geo j).dst c d q))).symm) $$ Hw
    iapply (join_both (Finset.Ico 0 14) (fun q d => tk P j c q d) (fun q d => anyAt (peer c d) ((P.geo j).dst c d q)))
    isplitl [Ht]; · iexact Ht
    iexact Hw
  isplitl [Hp Hr]
  · unfold pos0
    ihave Hr := (Entails.of_eq (both_bigSep (Finset.Ico 0 7) (fun q d => reached ER (cell (P.geo j) (peer c d) (.rcv d (s7 q))) 0)).symm) $$ Hr
    iapply (join_both (Finset.Ico 0 7) (fun q d => posn (P.geo j) c d (s7 q) 0) (fun q d => reached ER (cell (P.geo j) (peer c d) (.rcv d (s7 q))) 0))
    isplitl [Hp]; · iexact Hp
    iexact Hr
  iexact Hx

theorem at_dup (ρ : Role) (r : ℕ) : at_ (P.geo j) c ρ r ⊢ (iprop(reached ER (cell (P.geo j) c ρ) r ∗ at_ (P.geo j) c ρ r) : sProp 𝕄) := by
  unfold at_
  iintro ⟨A, #R⟩
  isplitr; · iexact R
  isplitl [A]; · iexact A
  iexact R

theorem fb_zero : ⊢ (both (fun d => fb (P.geo j) c d 0) : sProp 𝕄) := by
  unfold both fb
  simp only [if_true]
  isplitr; · iempintro
  iempintro

theorem empty_pos2 : ⊢ (pos2 P j c 0 0 : sProp 𝕄) := by
  unfold pos2; rw [Finset.Ico_self, bigSep_empty]; iempintro

theorem empty_piles : both (fun d => anyAt c ((P.geo j).pb d 1)) ⊢ (iprop(pos1 P j c 0 0 ∗ told P j c 0 ∗ bufs P j c 0) : sProp 𝕄) := by
  unfold pos1 told bufs
  rw [Finset.Ico_self, bigSep_empty, bigSep_empty, bigSep_empty]
  iintro H
  isplitr; · iempintro
  isplitr; · iempintro
  isplitr; · iempintro
  iexact H

/-- What a device pays into its peers' entry cells. -/
theorem pay_bars : iprop(both (fun d => dutyTok ER (cell (P.geo j) (peer c d) .bar) 0 (!d))
      ∗ both (fun d => bigSep (Finset.Ico 0 14) fun q => anyAt c ((P.geo j).dst (peer c (!d)) d q))
      ∗ both (fun d => reached ER (cell (P.geo j) (peer c d) .bar) 0)
      ∗ both (fun d => bigSep (Finset.Ico 0 7) fun q => reached ER (cell (P.geo j) c (.rcv d (s7 q))) 0)
      ∗ reached ER (cell (P.geo j) c .ex) 0)
    ⊢ (both (fun d => iprop(dutyTok ER (cell (P.geo j) (peer c d) .bar) 0 (!d) ∗ grant (P.geo j) (peer c d) (!d) ∗ reached ER (cell (P.geo j) (peer c d) .bar) 0)) : sProp 𝕄) := by
  have p1 : peer (peer c false) true = c := peer_peer c false
  have p2 : peer (peer c true) false = c := peer_peer c true
  unfold both grant
  simp only [Bool.not_true, Bool.not_false, p1, p2]
  iintro ⟨⟨A1, B1⟩, ⟨A2, B2⟩, ⟨A3, B3⟩, ⟨A4, B4⟩, #X⟩
  isplitl [A1 B2 A3 B4]
  · isplitl [A1]; · iexact A1
    isplitr [A3]
    · isplitl [B2]; · iexact B2
      isplitl [B4]; · iexact B4
      iexact X
    · iexact A3
  · isplitl [B1]; · iexact B1
    isplitr [B3]
    · isplitl [A2]; · iexact A2
      isplitl [A4]; · iexact A4
      iexact X
    · iexact B3

section Run
variable (T : Flat sig) (hT : T.Of (P.geo j)) (hJ : nJ ≤ 30) (D : CellTallies nD τ sig ℕ) (hD : Above (base j + 20) D)
variable (A : Ops sig F Λ) (V : Vs F) (hV : v.Ok j V)
variable (I : sProp (MT nD τ sig ℕ (Elt F) ℕ (UU sig) ℕ)) (hA : Specs defs 𝒱 c (P.geo j) A V I)
variable (Q : PUnit.{1} → sProp (MT nD τ sig ℕ (Elt F) ℕ (UU sig) ℕ))

include hT in
/-- A payment into a regular cell of a peer. -/
theorem wp_sig (d : Bool) (ρ : Role) (s : Sem sig) (hs : (P.geo j).sem ρ = .reg s) (hdut : dutiesOf ρ 0 = Finset.univ) (ham : amountOf P.N ρ = 1) (n : ℕ)
    (O : CellTallies nD τ sig ℕ) (k : Pg sig F Λ) :
    iprop(recs P v K ∗ owing c (O + tallyAt (cell (P.geo j) (peer c d) ρ) n 1) ∗ dutyTok ER (cell (P.geo j) (peer c d) ρ) 0 (!d)
        ∗ pay P v j (peer c d) ρ 0 (!d) ∗ reached ER (cell (P.geo j) (peer c d) ρ) 0
        ∗ (owing c O -∗ wp frame (wpE defs 𝒱 (c : Thread nD τ) none) Set.univ k Q))
      ⊢ wp frame (wpE defs 𝒱 (c : Thread nD τ) none) Set.univ (signal T c d s k) Q := by
  have hr := recs_at P v K j (peer c d) ρ
  have e1 := duties_cell P v j (peer c d) ρ 0
  have e2 := amount_cell P v j (peer c d) ρ 0 (!d)
  have e3 := payload_cell P v j (peer c d) ρ 0 (!d)
  rw [hdut] at e1
  rw [ham] at e2
  unfold cell at *
  rw [hs] at *
  unfold signal owing
  rw [hT.dv, ← e3]
  iintro ⟨#HR, ⟨%W, HO⟩, Ht, Hp, #Hr, Hk⟩
  iapply (Rounds.wp_signal 𝒱 ER (rd P v) (c : Thread nD τ) none (dst := (peer c d : Thread nD τ)) (sem := s) (r := 0) (d := !d)
      (κ := K ((peer c d : Thread nD τ), .reg s)) (by rw [e1]; exact Finset.mem_univ _) e2 n O rfl (W := W)) $$ [HO Ht Hp]
  · isplitr; · iapply hr; iexact HR
    isplitl [HO]; · iexact HO
    isplitl [Ht]; · iexact Ht
    isplitl [Hp]; · iexact Hp
    iexact Hr
  iintro HO
  iapply Hk
  iexists W; iexact HO

include hT hJ hD in
theorem wp_enter (k : Pg sig F Λ) :
    iprop(recs P v K ∗ levAts L lv ∗ owing c (D + due P j c)
        ∗ both (fun d => iprop(dutyTok ER (cell (P.geo j) (peer c d) .bar) 0 (!d) ∗ grant (P.geo j) (peer c d) (!d) ∗ reached ER (cell (P.geo j) (peer c d) .bar) 0))
        ∗ cred (tallyAt (cell (P.geo j) c .bar) (base j + 1) 2) ∗ at_ (P.geo j) c .bar 0
        ∗ ((owing c (D + oT P j c 0) ∗ at_ (P.geo j) c .bar 1 ∗ both (grant (P.geo j) c)) -∗ wp frame (wpE defs 𝒱 (c : Thread nD τ) none) Set.univ k Q))
      ⊢ wp frame (wpE defs 𝒱 (c : Thread nD τ) none) Set.univ (enter (P.geo j) T c k) Q := by
  have hb := base_lt j hJ
  have hO : Above (base j + 1) (D + oT P j c 0) := (hD.mono (by omega)).add ((above_T P j c hJ 0).mono (by omega))
  have hB : bigSep (dutiesOf .bar 0) (fun d => pay P v j c .bar 0 d) = iprop(grant (P.geo j) c false ∗ grant (P.geo j) c true) := bigSep_bool _
  have hG : ∀ d, grant (P.geo j) (peer c d) (!d) = pay P v j (peer c d) .bar 0 (!d) := fun d => rfl
  simp only [hG]
  unfold enter due both
  rw [← add_assoc, ← add_assoc]
  iintro ⟨#HR, #Hlev, HO, ⟨⟨Ht1, Hg1, #Hr1⟩, ⟨Ht2, Hg2, #Hr2⟩⟩, Hc, Ha, Hk⟩
  iapply (wp_sig P v K j defs 𝒱 c T hT Q true .bar (P.geo j).bar rfl rfl rfl (base j + 1) (D + oT P j c 0 + tB P j c false) _)
  isplitr; · iexact HR
  isplitl [HO]; · iexact HO
  isplitl [Ht2]; · iexact Ht2
  isplitl [Hg2]; · iexact Hg2
  isplitr; · iexact Hr2
  iintro HO
  iapply (wp_sig P v K j defs 𝒱 c T hT Q false .bar (P.geo j).bar rfl rfl rfl (base j + 1) (D + oT P j c 0) _)
  isplitr; · iexact HR
  isplitl [HO]; · iexact HO
  isplitl [Ht1]; · iexact Ht1
  isplitl [Hg1]; · iexact Hg1
  isplitr; · iexact Hr1
  iintro HO
  unfold waitReg
  iapply (wp_wait1 P v K j defs 𝒱 c Q .bar 0 (base j + 1) 2 _ hO (by omega) (w := .semWait (P.geo j).bar 2) (fun Kt => wpE_semWait_eq 𝒱 (c : Thread nD τ) none Set.univ Kt) rfl k)
  isplitr; · iexact HR
  isplitr; · iexact Hlev
  isplitl [Hc]; · iexact Hc
  isplitl [Ha]; · iexact Ha
  isplitl [HO]; · iexact HO
  iintro ⟨HO, Ha, Hp⟩
  ihave Hp := (Entails.of_eq hB) $$ Hp
  iapply Hk
  isplitl [HO]; · iexact HO
  isplitl [Ha]; · iexact Ha
  iexact Hp

include hT hJ hD in
theorem wp_leave (k : Pg sig F Λ) :
    iprop(recs P v K ∗ levAts L lv ∗ owing c (D + oT P j c 14)
        ∗ both (fun d => iprop(dutyTok ER (cell (P.geo j) (peer c d) .ex) 0 (!d) ∗ reached ER (cell (P.geo j) (peer c d) .ex) 0))
        ∗ cred (tallyAt (cell (P.geo j) c .ex) (base j + 20) 2) ∗ at_ (P.geo j) c .ex 0
        ∗ ((owing c D ∗ at_ (P.geo j) c .ex 1) -∗ wp frame (wpE defs 𝒱 (c : Thread nD τ) none) Set.univ k Q))
      ⊢ wp frame (wpE defs 𝒱 (c : Thread nD τ) none) Set.univ (leave (P.geo j) T c k) Q := by
  have hb := base_lt j hJ
  unfold leave both
  rw [oT_end, ← add_assoc]
  iintro ⟨#HR, #Hlev, HO, ⟨⟨Ht1, #Hr1⟩, ⟨Ht2, #Hr2⟩⟩, Hc, Ha, Hk⟩
  iapply (wp_sig P v K j defs 𝒱 c T hT Q true .ex (P.geo j).ex rfl rfl rfl (base j + 20) (D + tX P j c false) _)
  isplitr; · iexact HR
  isplitl [HO]; · iexact HO
  isplitl [Ht2]; · iexact Ht2
  isplitr; · simp only [pay]; iempintro
  isplitr; · iexact Hr2
  iintro HO
  iapply (wp_sig P v K j defs 𝒱 c T hT Q false .ex (P.geo j).ex rfl rfl rfl (base j + 20) D _)
  isplitr; · iexact HR
  isplitl [HO]; · iexact HO
  isplitl [Ht1]; · iexact Ht1
  isplitr; · simp only [pay]; iempintro
  isplitr; · iexact Hr1
  iintro HO
  unfold waitReg
  iapply (wp_wait1 P v K j defs 𝒱 c Q .ex 0 (base j + 20) 2 _ hD (by omega) (w := .semWait (P.geo j).ex 2) (fun Kt => wpE_semWait_eq 𝒱 (c : Thread nD τ) none Set.univ Kt) rfl k)
  isplitr; · iexact HR
  isplitr; · iexact Hlev
  isplitl [Hc]; · iexact Hc
  isplitl [Ha]; · iexact Ha
  isplitl [HO]; · iexact HO
  iintro ⟨HO, Ha, -⟩
  iapply Hk
  isplitl [HO]; · iexact HO
  iexact Ha

include hT hJ hD hV hA in
theorem wp_reduce (k : Pg sig F Λ) :
    iprop(recs P v K ∗ levAts L lv ∗ RsInv P j c D I 0 ∗ (RsInv P j c D I 6 -∗ wp frame (wpE defs 𝒱 (c : Thread nD τ) none) Set.univ k Q))
      ⊢ wp frame (wpE defs 𝒱 (c : Thread nD τ) none) Set.univ (reduce (P.geo j) T A c k) Q := by
  unfold reduce
  have step : ∀ n (hn : n < 6) (k : Pg sig F Λ), _ := wp_rs P v K j defs 𝒱 c T hT hJ D hD A V hV I hA Q
  iintro ⟨#HR, #Hlev, H, Hk⟩
  iapply (step 0 (by decide) _); isplitr; · iexact HR
  isplitr; · iexact Hlev
  isplitl [H]; · iexact H
  iintro H
  iapply (step 1 (by decide) _); isplitr; · iexact HR
  isplitr; · iexact Hlev
  isplitl [H]; · iexact H
  iintro H
  iapply (step 2 (by decide) _); isplitr; · iexact HR
  isplitr; · iexact Hlev
  isplitl [H]; · iexact H
  iintro H
  iapply (step 3 (by decide) _); isplitr; · iexact HR
  isplitr; · iexact Hlev
  isplitl [H]; · iexact H
  iintro H
  iapply (step 4 (by decide) _); isplitr; · iexact HR
  isplitr; · iexact Hlev
  isplitl [H]; · iexact H
  iintro H
  iapply (step 5 (by decide) _); isplitr; · iexact HR
  isplitr; · iexact Hlev
  isplitl [H]; · iexact H
  iexact Hk

theorem told_reached (t : ℕ) (ht : t < 6) : told P j c 7 ⊢ (both (fun d => reached ER (cell (P.geo j) (peer c d) (.rcv d (s7 t))) 1) : sProp 𝕄) := by
  refine (told_at P j c (b := 7) (i := t) (by omega)).trans ?_
  refine (reached_of_fb P j c t).trans ?_
  rw [show t / 7 = 0 from by omega]

include hT hJ hD hV in
theorem wp_gather (k : Pg sig F Λ) :
    iprop(recs P v K ∗ levAts L lv ∗ told P j c 7 ∗ AgInv P v j c D 0 ∗ (AgInv P v j c D 7 -∗ wp frame (wpE defs 𝒱 (c : Thread nD τ) none) Set.univ k Q))
      ⊢ wp frame (wpE defs 𝒱 (c : Thread nD τ) none) Set.univ (gather (P.geo j) T c k) Q := by
  unfold gather
  have step : ∀ n (hn : n < 7) (k : Pg sig F Λ), _ := wp_ag P v K j defs 𝒱 c T hT hJ D hD V hV Q
  iintro ⟨#HR, #Hlev, #Htold, H, Hk⟩
  iapply (step 0 (by decide) _); isplitr; · iexact HR
  isplitr; · iexact Hlev
  isplitl [H]; · iexact H
  isplitr; · iapply (told_reached P j c 0 (by decide)); iexact Htold
  iintro ⟨H, #Hlast⟩
  iapply (step 1 (by decide) _); isplitr; · iexact HR
  isplitr; · iexact Hlev
  isplitl [H]; · iexact H
  isplitr; · iapply (told_reached P j c 1 (by decide)); iexact Htold
  iintro ⟨H, -⟩
  iapply (step 2 (by decide) _); isplitr; · iexact HR
  isplitr; · iexact Hlev
  isplitl [H]; · iexact H
  isplitr; · iapply (told_reached P j c 2 (by decide)); iexact Htold
  iintro ⟨H, -⟩
  iapply (step 3 (by decide) _); isplitr; · iexact HR
  isplitr; · iexact Hlev
  isplitl [H]; · iexact H
  isplitr; · iapply (told_reached P j c 3 (by decide)); iexact Htold
  iintro ⟨H, -⟩
  iapply (step 4 (by decide) _); isplitr; · iexact HR
  isplitr; · iexact Hlev
  isplitl [H]; · iexact H
  isplitr; · iapply (told_reached P j c 4 (by decide)); iexact Htold
  iintro ⟨H, -⟩
  iapply (step 5 (by decide) _); isplitr; · iexact HR
  isplitr; · iexact Hlev
  isplitl [H]; · iexact H
  isplitr; · iapply (told_reached P j c 5 (by decide)); iexact Htold
  iintro ⟨H, -⟩
  iapply (step 6 (by decide) _); isplitr; · iexact HR
  isplitr; · iexact Hlev
  isplitl [H]; · iexact H
  isplitr; · iapply (reached_of_fb P j c 6); iexact Hlast
  iintro ⟨H, -⟩
  iapply Hk; iexact H

include hT hJ hD hV hA in
set_option maxHeartbeats 1600000 in
theorem wp_bodyOn :
    iprop(recs P v K ∗ levAts L lv ∗ I ∗ Pre P j c D ∗ ((I ∗ Post P v j c D) -∗ Q ⟨⟩))
      ⊢ wp frame (wpE defs 𝒱 (c : Thread nD τ) none) Set.univ (bodyOn (P.geo j) T A c) Q := by
  unfold bodyOn Pre
  iintro ⟨#HR, #Hlev, HI, ⟨HaB, HaX, HtB, HtX, #HrB, Htk, Hpos, HcB, HcX, HO, Hpb0, Hpb1, Hwin, Hout⟩, Hk⟩
  ihave Hpr := (pos_reached P j c) $$ Hpos
  icases Hpr with ⟨#Hrv, Hpos⟩
  ihave HaX' := (at_dup P j c .ex 0) $$ HaX
  icases HaX' with ⟨#HrX, HaX⟩
  iapply (wp_enter P v K j defs 𝒱 c T hT hJ D hD Q _)
  isplitr; · iexact HR
  isplitr; · iexact Hlev
  isplitl [HO]; · iexact HO
  isplitl [HtB Hwin]
  · iapply (pay_bars P j c)
    isplitl [HtB]; · iexact HtB
    isplitl [Hwin]; · iexact Hwin
    isplitr; · iexact HrB
    isplitr; · iexact Hrv
    iexact HrX
  isplitl [HcB]; · iexact HcB
  isplitl [HaB]; · iexact HaB
  iintro ⟨HO, HaB, Hg⟩
  ihave Hg := (granted P j c) $$ [Hg Htk Hpos]
  · isplitl [Hg]; · iexact Hg
    isplitl [Htk]; · iexact Htk
    iexact Hpos
  icases Hg with ⟨Htodo, Hp0, #HrX'⟩
  iapply (wp_compute2 P j defs 𝒱 c A V I hA Q 0 (by decide) _)
  isplitl [HI]; · iexact HI
  isplitl [Hpb0]; · iexact Hpb0
  iintro ⟨HI, Hpb0⟩
  ihave Htodo' := (Entails.of_eq (todo_step P j c (a := 0) (by decide))) $$ Htodo
  icases Htodo' with ⟨Ht, Htodo⟩
  ihave Hp0' := (Entails.of_eq (pos0_step P j c (a := 0) (by decide))) $$ Hp0
  icases Hp0' with ⟨Hp, Hp0⟩
  ihave Hp' := (both_sep _ _).1 $$ Hp
  icases Hp' with ⟨Hpn, #Hrn⟩
  iapply (wp_send2 P v K j defs 𝒱 c Q T hT D 0 (by decide) _)
  isplitr; · iexact HR
  isplitl [Ht Hpn Hpb0]
  · iapply (ready_of P v j c 0)
    isplitl [Ht]; · iexact Ht
    isplitl [Hpn]; · iexact Hpn
    isplitr; · iexact Hrn
    isplitr; · iapply (fb_zero P j c)
    iapply (both_mono fun d => ?_) $$ Hpb0
    rw [hV.first c d]; exact BIBase.Entails.refl
  isplitl [HO]; · iexact HO
  iintro ⟨Hfly, HO⟩
  iapply (wp_reduce P v K j defs 𝒱 c T hT hJ D hD A V hV I hA Q _)
  isplitr; · iexact HR
  isplitr; · iexact Hlev
  isplitl [HI Hfly HO Htodo Hp0 Hpb1]
  · unfold RsInv
    isplitl [HI]; · iexact HI
    isplitl [Hfly]; · iexact Hfly
    isplitl [HO]; · iexact HO
    isplitl [Htodo]; · iexact Htodo
    isplitl [Hp0]; · iexact Hp0
    iapply (empty_piles P j c)
    iexact Hpb1
  unfold RsInv
  iintro ⟨HI, Hfly, HO, Htodo, -, Hp1, #Htold, Hbuf⟩
  ihave Hb := (bufs_acc P j c 6) $$ Hbuf
  icases Hb with ⟨Hpb, Hback⟩
  iapply (wp_compute2 P j defs 𝒱 c A V I hA Q 7 (by decide) _)
  isplitl [HI]; · iexact HI
  isplitl [Hpb]; · iexact Hpb
  iintro ⟨HI, Hpb⟩
  iapply (wp_wait4 P v K j defs 𝒱 c Q T hT hJ D hD 6 (by decide) _)
  isplitr; · iexact HR
  isplitr; · iexact Hlev
  isplitl [Hfly]; · iexact Hfly
  isplitl [HO]; · iexact HO
  iintro ⟨Hgot, HO⟩
  ihave Hgs := (got_split P v j c 6) $$ Hgot
  icases Hgs with ⟨Hsrc, Hdst, #Hfb, Hpos⟩
  ihave Hpf := (fb_of_posn P j c 6) $$ Hpos
  icases Hpf with ⟨#Hmy, Hpos⟩
  iapply (hA.fin (fun d => v j (peer c (!d)) d 6) (fun d => V.part c d 7) _ Q)
  isplitl [HI]; · iexact HI
  isplitl [Hdst]; · iexact Hdst
  isplitl [Hpb]; · iexact Hpb
  isplitl [Hout]; · iexact Hout
  iintro ⟨HI, Hcm, Hpb, Hout⟩
  ihave Hbuf := Hback $$ Hpb
  ihave Hbuf := (bufs_top P j c 6) $$ [Hbuf Hsrc]
  · isplitl [Hbuf]; · iexact Hbuf
    iapply (both_mono fun d => ?_) $$ Hsrc
    exact holds_any _ _ _
  ihave Hend := (bufs_end P j c) $$ [Hbuf Hcm]
  · isplitl [Hbuf]; · iexact Hbuf
    iexact Hcm
  icases Hend with ⟨Hpb0, Hpb1, Hcm⟩
  iapply (wp_gather P v K j defs 𝒱 c T hT hJ D hD V hV Q _)
  isplitr; · iexact HR
  isplitr; · iexact Hlev
  isplitr
  · iapply (Entails.of_eq (told_top P j c 6).symm)
    isplitr; · iexact Hfb
    iexact Htold
  isplitl [HO Htodo Hp1 Hpos Hout]
  · unfold AgInv
    isplitl [HO]; · iexact HO
    isplitl [Htodo]; · iexact Htodo
    isplitl [Hp1 Hpos]
    · iapply (Entails.of_eq (pos1_top P j c 6).symm)
      isplitl [Hpos]; · iexact Hpos
      iexact Hp1
    isplitr; · iapply (empty_pos2 P j c)
    isplitr; · iexact Hmy
    isplitl [Hout]
    · iapply (both_mono fun d => ?_) $$ Hout
      rw [hV.turn c d]; exact BIBase.Entails.refl
    rw [Finset.Ico_self, bigSep_empty]
    iempintro
  unfold AgInv
  iintro ⟨HO, -, -, Hp2, -, Hlast, Hpile⟩
  iapply (wp_leave P v K j defs 𝒱 c T hT hJ D hD Q _)
  isplitr; · iexact HR
  isplitr; · iexact Hlev
  isplitl [HO]; · iexact HO
  isplitl [HtX]
  · iapply (both_sep _ _).2
    isplitl [HtX]; · iexact HtX
    iexact HrX'
  isplitl [HcX]; · iexact HcX
  isplitl [HaX]; · iexact HaX
  iintro ⟨HO, HaX⟩
  rw [wp_ret]
  imod (close_one P v K j c .bar 1 (duties_late1 P v j c .bar (.inl rfl))) $$ [HaB] with HsB
  · isplitr; · iexact HR
    iexact HaB
  imod (close_one P v K j c .ex 1 (duties_late1 P v j c .ex (.inr rfl))) $$ [HaX] with HsX
  · isplitr; · iexact HR
    iexact HaX
  imod (close_all P v K j c) $$ [Hp2] with Hs
  · isplitr; · iexact HR
    iexact Hp2
  imodintro
  iapply Hk
  isplitl [HI]; · iexact HI
  unfold Post
  isplitl [HsB]; · iexact HsB
  isplitl [HsX]; · iexact HsX
  isplitl [Hs]; · iexact Hs
  isplitl [HO]; · iexact HO
  isplitl [Hpb0]; · iexact Hpb0
  isplitl [Hpb1]; · iexact Hpb1
  isplitl [Hcm]; · iexact Hcm
  rw [bigSep_Ico_succ_top (show 0 ≤ 7 by decide)]
  isplitl [Hlast]; · iexact Hlast
  iexact Hpile

end Run

end Cert.Ring

end
-- ==== Proof.Views.lean ====
/- Loads and stores of windows of a memref, by what the windows read. -/
module

public import proofs.«01_k».proof.Proof.RingMain
public import Idealize.ShloMosaic.Lib.VecWindow

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {sig : RefSig} {F : FTy → Type} {Λ : Labels}

local notation "𝕄" => MT nD τ sig ℕ (Elt F) ℕ (UU sig) ℕ

/-- A view at contents that read `v`. -/
def has (c : Dev nD) {sp : Space} {s : Shape} {e : EltTy} (w : View sig .tc sp s e) (v : s.Idx → Elt F e) : sProp 𝕄 :=
  iprop(∃ f : Buf (Elt F) (w.loc (c : Thread nD τ)), ⌜w.read (Elt F) f = v⌝ ∗ w.loc (c : Thread nD τ) ↦[w.set]{fullShare} f)

theorem holds_has (c : Dev nD) (w : MR sig) (v : Vec F) : holds c w v = has c w.view v := rfl

variable (defs : Defs nD τ sig (Elt F) Λ) (𝒱 : Variants) (c : Dev nD)

section Load
variable {cs : CoreSpace} {s : Shape} {e : EltTy} {m : Memref sig .tc cs s e} {r : Rect s}
    {Q : PUnit.{1} → sProp (MT nD τ sig ℕ (Elt F) ℕ (UU sig) ℕ)}

/-- A load of part of what is held. -/
theorem wp_ld {hl : m.view.LoadsAt r.toLoadRect} {k : (r.shape.Idx → Elt F e) → Pg sig F Λ} (v : s.Idx → Elt F e) (v' : r.shape.Idx → Elt F e)
    (h : (fun x => v (r.emb x)) = v') :
    iprop(has c m.view v ∗ (has c m.view v -∗ wp frame (wpE defs 𝒱 (c : Thread nD τ) none) Set.univ (k v') Q))
      ⊢ wp frame (wpE defs 𝒱 (c : Thread nD τ) none) Set.univ (.op (.load m r.toLoadRect hl) k) Q := by
  unfold has
  iintro ⟨⟨%f, %hf, H⟩, HK⟩
  subst hf
  subst h
  iapply (wp_load_rect (defs := defs) 𝒱 (c : Thread nD τ) none Set.univ (m := m) (r := r) (hl := hl) (View.set_slice_subset m.view r)) $$ [H]
  · iexact H
  iintro H
  iapply HK
  iexists f
  isplitr
  · ipureintro; rfl
  iexact H

/-- A load of what is held. -/
theorem wp_ldw {hl : m.view.LoadsAt r.toLoadRect} {k : (r.shape.Idx → Elt F e) → Pg sig F Λ} (v : r.shape.Idx → Elt F e) :
    iprop(has c (m.access r) v ∗ (has c (m.access r) v -∗ wp frame (wpE defs 𝒱 (c : Thread nD τ) none) Set.univ (k v) Q))
      ⊢ wp frame (wpE defs 𝒱 (c : Thread nD τ) none) Set.univ (.op (.load m r.toLoadRect hl) k) Q := by
  unfold has
  iintro ⟨⟨%f, %hf, H⟩, HK⟩
  subst hf
  iapply (wp_load_rect (defs := defs) 𝒱 (c : Thread nD τ) none Set.univ (m := m) (r := r) (hl := hl) (Finset.Subset.refl _)) $$ [H]
  · iexact H
  iintro H
  iapply HK
  iexists f
  isplitr
  · ipureintro; rfl
  iexact H

/-- A store over what is held. -/
theorem wp_stw {w : r.shape.Idx → Elt F e} {hx : (m.access r).Stores Finset.univ} {hm : (Finset.univ : Finset r.shape.Idx) = Finset.univ ∨ ∀ a, r.stride a = 1}
    {k : PUnit → Pg sig F Λ} (v : r.shape.Idx → Elt F e) :
    iprop(has c (m.access r) v ∗ (has c (m.access r) w -∗ wp frame (wpE defs 𝒱 (c : Thread nD τ) none) Set.univ (k ⟨⟩) Q))
      ⊢ wp frame (wpE defs 𝒱 (c : Thread nD τ) none) Set.univ (.op (.store m r w Finset.univ hx hm) k) Q := by
  unfold has
  iintro ⟨⟨%f, -, H⟩, HK⟩
  iapply (wp_store (defs := defs) 𝒱 (c : Thread nD τ) none Set.univ (m := m) (r := r) (hx := hx) (hm := hm) (View.setOn_univ (m.access r)).le) $$ [H]
  · iexact H
  iintro H
  iapply HK
  iexists ((m.access r).write (Elt F) f w Finset.univ)
  isplitr
  · ipureintro; exact View.read_write_univ _ _
  iexact H
/-- A store over part of what is held. -/
theorem wp_st {w : r.shape.Idx → Elt F e} {hx : (m.access r).Stores Finset.univ} {hm : (Finset.univ : Finset r.shape.Idx) = Finset.univ ∨ ∀ a, r.stride a = 1}
    {k : PUnit → Pg sig F Λ} (v : s.Idx → Elt F e) :
    iprop(has c m.view v ∗ (∀ v' : s.Idx → Elt F e, ⌜(∀ x, v' (r.emb x) = w x) ∧ ∀ y, y ∉ r.set → v' y = v y⌝
          -∗ has c m.view v' -∗ wp frame (wpE defs 𝒱 (c : Thread nD τ) none) Set.univ (k ⟨⟩) Q))
      ⊢ wp frame (wpE defs 𝒱 (c : Thread nD τ) none) Set.univ (.op (.store m r w Finset.univ hx hm) k) Q := by
  unfold has
  iintro ⟨⟨%f, %hf, H⟩, HK⟩
  iapply (wp_store (defs := defs) 𝒱 (c : Thread nD τ) none Set.univ (m := m) (r := r) (hx := hx) (hm := hm)
    ((View.setOn_univ (m.access r)).le.trans (View.set_slice_subset m.view r))) $$ [H]
  · iexact H
  iintro H
  iapply HK $$ %(m.view.read (Elt F) ((m.access r).write (Elt F) f w Finset.univ))
  · ipureintro
    refine ⟨fun x => View.read_slice_write_emb (v := m.view) r f w (Finset.mem_univ x), fun y hy => ?_⟩
    rw [← hf]
    exact View.read_slice_write_of_not_mem (v := m.view) r f w Finset.univ (fun h => hy (by rwa [Rect.map_emb_univ] at h))
  iexists ((m.access r).write (Elt F) f w Finset.univ)
  isplitr
  · ipureintro; rfl
  iexact H
end Load

/-- A window whose slots have a leading axis of one, read without it. -/
def flat3 {α : Type} {s : Shape} (h : SU.numel = s.numel) (u : s.Idx → α) : SU.Idx → α := fun x => u (Shape.reshapeEquiv h x)
def fat3 {α : Type} {s : Shape} (h : SU.numel = s.numel) (v : SU.Idx → α) : s.Idx → α := fun x => v ((Shape.reshapeEquiv h).symm x)
theorem flat_fat {α : Type} {s : Shape} (h : SU.numel = s.numel) (v : SU.Idx → α) : flat3 h (fat3 h v) = v := by
  funext x; exact congrArg v (Equiv.symm_apply_apply _ x)
theorem fat_flat {α : Type} {s : Shape} (h : SU.numel = s.numel) (u : s.Idx → α) : fat3 h (flat3 h u) = u := by
  funext x; exact congrArg u (Equiv.apply_symm_apply _ x)

theorem has_reshape {sp : Space} {s : Shape} (w : View sig .tc sp s .bf16) (h : SU.numel = s.numel) (v : Vec F) :
    has c (w.reshape SU h) v = has c w (fat3 h v) := by
  have e : ∀ f : Buf (Elt F) (w.loc (c : Thread nD τ)), ((w.reshape SU h).read (Elt F) f = v) = (w.read (Elt F) f = fat3 h v) := by
    intro f
    refine propext ⟨fun hf => ?_, fun hf => ?_⟩
    · rw [← hf]; exact (fat_flat h (w.read (Elt F) f)).symm
    · show flat3 h (w.read (Elt F) f) = v
      rw [hf, flat_fat]
  unfold has
  rw [View.set_reshape]
  exact congrArg (fun g => BIBase.exists g) (funext fun f => congrArg (fun p => iprop(⌜p⌝ ∗ w.loc (c : Thread nD τ) ↦[w.set]{fullShare} f)) (e f))

theorem any_has (w : MR sig) : (anyAt c w : sProp 𝕄) ⊢ iprop(∃ v, holds c w v) := by
  unfold anyAt holds
  iintro ⟨%f, H⟩
  iexists (w.view.read (Elt F) f)
  iexists f
  isplitr
  · ipureintro; rfl
  iexact H

end Cert.Ring
-- ==== Proof.RingLaunch.lean ====
/- From the launch to the ring: every cell allocated, those of a call's own semaphores to be opened by the call, and every token dealt. -/
module

public import proofs.«01_k».proof.Proof.RingMain

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {sig : RefSig} {F : FTy → Type} {nJ : ℕ}

local notation "𝕄" => MT nD τ sig ℕ (Elt F) ℕ (UU sig) ℕ

/-! ## Families -/

theorem bigSep_sum_type {α β : Type} [Fintype α] [Fintype β] [DecidableEq α] [DecidableEq β] (Φ : α ⊕ β → sProp 𝕄) :
    bigSep Finset.univ Φ = iprop((bigSep Finset.univ fun a => Φ (.inl a)) ∗ bigSep Finset.univ fun b => Φ (.inr b)) := by
  have e : (Finset.univ : Finset (α ⊕ β)) = Finset.univ.map Function.Embedding.inl ∪ Finset.univ.map Function.Embedding.inr := by
    ext x; rcases x with a | b <;> simp
  have hd : Disjoint (Finset.univ.map (Function.Embedding.inl : α ↪ α ⊕ β)) (Finset.univ.map (Function.Embedding.inr : β ↪ α ⊕ β)) := by
    rw [Finset.disjoint_left]
    intro x h1 h2
    obtain ⟨a, -, rfl⟩ := Finset.mem_map.mp h1
    obtain ⟨b, -, h⟩ := Finset.mem_map.mp h2
    exact absurd h (by simp)
  rw [e, bigSep_union hd, BI.bigSep_map, BI.bigSep_map]
  rfl

theorem bigSep_fin_Ico (n : ℕ) (Φ : ℕ → sProp 𝕄) : (bigSep Finset.univ fun i : Fin n => Φ i.val) = bigSep (Finset.Ico 0 n) Φ := by
  have e : Finset.Ico 0 n = Finset.univ.map (Fin.valEmbedding (n := n)) := by
    ext x; simp only [Finset.mem_Ico, Finset.mem_map, Finset.mem_univ, true_and, Fin.valEmbedding_apply]
    exact ⟨fun h => ⟨⟨x, h.2⟩, rfl⟩, fun ⟨i, h⟩ => ⟨Nat.zero_le _, h ▸ i.isLt⟩⟩
  rw [e, BI.bigSep_map]; rfl

/-- The devices, one step on. -/
def ring (d : Bool) : Dev nD ≃ Dev nD := ⟨fun c => peer c d, fun c => peer c (!d), fun c => peer_peer c d, fun c => peer_peer' c d⟩

theorem around (Ψ : Bool → Dev nD → sProp 𝕄) :
    (bigSep Finset.univ fun c => both fun d => Ψ d c) = bigSep Finset.univ fun c => both fun d => Ψ d (peer c d) := by
  unfold both
  rw [bigSep_sep', bigSep_sep', bigSep_univ_equiv (ring false) (Ψ false), bigSep_univ_equiv (ring true) (Ψ true)]
  rfl

theorem both_swap (Φ : Bool → sProp 𝕄) : both Φ = both fun d => Φ (!d) := by
  unfold both; exact BI.Entails.antisymm BI.sep_comm BI.sep_comm

/-! ## The semaphores of a call and the tokens, counted -/

/-- The parts a call brings its own semaphores for. -/
abbrev Sc : Type := Unit ⊕ (Fin 7 × Bool × Bool)
def sc : Sc → Role
  | .inl _ => .ex
  | .inr (s, d, false) => .snd d s
  | .inr (s, d, true) => .rcv d s
theorem sc_inj : Function.Injective sc := by
  rintro (_ | ⟨s, d, _ | _⟩) (_ | ⟨s', d', _ | _⟩) h <;> simp_all [sc]
theorem sc_ne (k : Sc) : sc k ≠ .bar := by rcases k with _ | ⟨s, d, _ | _⟩ <;> simp [sc]
theorem sc_of (ρ : Role) (h : ρ ≠ .bar) : ∃ k, sc k = ρ := by
  cases ρ with
  | bar => exact absurd rfl h
  | ex => exact ⟨.inl (), rfl⟩
  | snd d s => exact ⟨.inr (s, d, false), rfl⟩
  | rcv d s => exact ⟨.inr (s, d, true), rfl⟩

theorem s7_fin (s : Fin 7) : s7 s.val = s := Fin.ext (Nat.mod_eq_of_lt s.isLt)

theorem bigSep_sc (Φ : Role → sProp 𝕄) : (bigSep Finset.univ fun k : Sc => Φ (sc k))
    = iprop(Φ .ex ∗ bigSep (Finset.Ico 0 7) fun q => both fun d => iprop(Φ (.snd d (s7 q)) ∗ Φ (.rcv d (s7 q)))) := by
  rw [bigSep_sum_type, ← bigSep_fin_Ico 7, bigSep_univ_prod,
    bigSep_univ_eq_bigSepL [()] (by decide) (by decide) (fun a : Unit => Φ (sc (.inl a)))]
  refine congrArg (fun X => iprop(Φ .ex ∗ X)) (bigSep_congr fun s _ => ?_)
  rw [bigSep_univ_prod, bigSep_bool]
  unfold both
  dsimp only
  rw [bigSep_bool, bigSep_bool, s7_fin]
  rfl

/-- The tokens of one device's cells. -/
abbrev TI : Type := (Bool × Bool) ⊕ (Fin 14 × Bool × Bool)
def ti : TI → Role × ℕ × Bool
  | .inl (false, d) => (.bar, 0, d)
  | .inl (true, d) => (.ex, 0, d)
  | .inr (q, d, false) => (.snd d (s7 q), q / 7, false)
  | .inr (q, d, true) => (.rcv d (s7 q), q / 7, false)
theorem fin14_ext (q q' : Fin 14) (h : s7 q = s7 q') (h' : q.val / 7 = q'.val / 7) : q = q' := by revert q q'; decide
theorem ti_inj : Function.Injective ti := by
  rintro (⟨_ | _, d⟩ | ⟨q, d, _ | _⟩) (⟨_ | _, d'⟩ | ⟨q', d', _ | _⟩) h <;>
    simp only [ti, Prod.mk.injEq, Role.snd.injEq, Role.rcv.injEq, reduceCtorEq, false_and, true_and, and_true] at h
  · rw [h]
  · rw [h]
  · obtain ⟨⟨rfl, h1⟩, h2⟩ := h; rw [fin14_ext q q' h1 h2]
  · obtain ⟨⟨rfl, h1⟩, h2⟩ := h; rw [fin14_ext q q' h1 h2]

theorem bigSep_ti (Φ : Role × ℕ × Bool → sProp 𝕄) : (bigSep Finset.univ fun t : TI => Φ (ti t))
    = iprop((both (fun d => Φ (.bar, 0, d)) ∗ both (fun d => Φ (.ex, 0, d)))
      ∗ bigSep (Finset.Ico 0 14) fun q => both fun d => iprop(Φ (.snd d (s7 q), q / 7, false) ∗ Φ (.rcv d (s7 q), q / 7, false))) := by
  rw [bigSep_sum_type, ← bigSep_fin_Ico 14, bigSep_univ_prod, bigSep_univ_prod, bigSep_bool]
  refine congr (congrArg (fun X Y => iprop(X ∗ Y)) ?_) (bigSep_congr fun q _ => ?_)
  · unfold both; dsimp only; rw [bigSep_bool, bigSep_bool]; rfl
  · rw [bigSep_univ_prod, bigSep_bool]
    unfold both
    dsimp only
    rw [bigSep_bool, bigSep_bool]
    rfl

variable (P : Rings sig nJ) (v : Vals F nJ)

def barEmb : Dev nD × Fin nJ ↪ GSem nD τ sig :=
  ⟨fun x => cell (P.geo x.2) x.1 .bar, fun x y h => Prod.ext (congrArg (fun g : GSem nD τ sig => g.1.1) h)
    (congrArg Prod.fst (P.inj (a₁ := (x.2, .bar)) (a₂ := (y.2, .bar)) (congrArg Prod.snd h)) :)⟩
def scEmb : Dev nD × Fin nJ × Sc ↪ GSem nD τ sig :=
  ⟨fun x => cell (P.geo x.2.1) x.1 (sc x.2.2), fun x y h => by
    have h1 := congrArg (fun g : GSem nD τ sig => g.1.1) h
    have h2 := P.inj (a₁ := (x.2.1, sc x.2.2)) (a₂ := (y.2.1, sc y.2.2)) (congrArg Prod.snd h)
    exact Prod.ext h1 (Prod.ext (congrArg Prod.fst h2 :) (sc_inj (congrArg Prod.snd h2 :)))⟩
def tokEmb : Dev nD × Fin nJ × TI ↪ GSem nD τ sig × ℕ × Bool :=
  ⟨fun x => (cell (P.geo x.2.1) x.1 (ti x.2.2).1, (ti x.2.2).2), fun x y h => by
    have h1 := congrArg (fun g : GSem nD τ sig × ℕ × Bool => g.1.1.1) h
    have h2 := P.inj (a₁ := (x.2.1, (ti x.2.2).1)) (a₂ := (y.2.1, (ti y.2.2).1)) (congrArg (fun g : GSem nD τ sig × ℕ × Bool => g.1.2) h)
    have h3 : (ti x.2.2).2 = (ti y.2.2).2 := congrArg (fun g : GSem nD τ sig × ℕ × Bool => g.2) h
    exact Prod.ext h1 (Prod.ext (congrArg Prod.fst h2 :) (ti_inj (Prod.ext (congrArg Prod.snd h2 :) h3)))⟩

abbrev barCells : Finset (GSem nD τ sig) := Finset.univ.map (barEmb P)
abbrev scCells : Finset (GSem nD τ sig) := Finset.univ.map (scEmb P)
abbrev talkToks : Finset (GSem nD τ sig × ℕ × Bool) := Finset.univ.map (tokEmb P)

theorem disjoint_cells : Disjoint (barCells P) (scCells P) := by
  rw [Finset.disjoint_left]
  rintro g h₁ h₂
  obtain ⟨x, -, rfl⟩ := Finset.mem_map.mp h₁
  obtain ⟨y, -, h⟩ := Finset.mem_map.mp h₂
  have := P.inj (a₁ := (y.2.1, sc y.2.2)) (a₂ := (x.2, .bar)) (congrArg Prod.snd h)
  exact sc_ne _ (congrArg Prod.snd this)

theorem mem_cells (c : Dev nD) (j : Fin nJ) (ρ : Role) : cell (P.geo j) c ρ ∈ barCells P ∪ scCells P := by
  by_cases h : ρ = .bar
  · subst h; exact Finset.mem_union_left _ (Finset.mem_map_of_mem (barEmb P) (Finset.mem_univ (c, j)))
  · obtain ⟨k, rfl⟩ := sc_of ρ h
    exact Finset.mem_union_right _ (Finset.mem_map_of_mem (scEmb P) (Finset.mem_univ (c, j, k)))

/-! ## What the launch gives a device for a ring, and the ring's call opened -/

/-- The tokens, the knowledge and the credit. -/
def hand (j : Fin nJ) (c : Dev nD) : sProp 𝕄 :=
  iprop(both (fun d => dutyTok ER (cell (P.geo j) (peer c d) .bar) 0 (!d)) ∗ both (fun d => dutyTok ER (cell (P.geo j) (peer c d) .ex) 0 (!d))
    ∗ both (fun d => reached ER (cell (P.geo j) (peer c d) .bar) 0)
    ∗ (bigSep (Finset.Ico 0 14) fun q => both fun d => tk P j c q d)
    ∗ cred (tallyAt (cell (P.geo j) c .bar) (base j + 1) 2) ∗ cred (tallyAt (cell (P.geo j) c .ex) (base j + 20) 2))

def Tk (j : Fin nJ) (c : Dev nD) : sProp 𝕄 :=
  iprop(∃ K, recs P v K ∗ at_ (P.geo j) c .bar 0 ∗ (bigSep Finset.univ fun k : Sc => openTok ER (cell (P.geo j) c (sc k))) ∗ hand P j c)

def Xk (j : Fin nJ) (c : Dev nD) : sProp 𝕄 :=
  iprop(∃ K, recs P v K ∗ levAts L lv ∗ at_ (P.geo j) c .bar 0 ∗ at_ (P.geo j) c .ex 0
    ∗ (bigSep (Finset.Ico 0 7) fun q => both fun d => posn (P.geo j) c d (s7 q) 0) ∗ hand P j c)

/-- The semaphores a call brings. -/
def osem (j : Fin nJ) (k : Sc) : SemLoc sig := (P.geo j).sem (sc k)

theorem open_one (K : GSem nD τ sig → ℕ) (j : Fin nJ) (c : Dev nD) (ρ : Role) :
    iprop(recs P v K ∗ (openTok ER (cell (P.geo j) c ρ) ∗ semVal (cell (P.geo j) c ρ) 0)) ⊢ (|={Set.univ}=> at_ (P.geo j) c ρ 0 : sProp 𝕄) := by
  unfold at_
  iintro ⟨#HR, Ho, Hs⟩
  iapply (Rounds.cell_open ER (rd P v) (g := cell (P.geo j) c ρ) (Set.mem_univ (K (cell (P.geo j) c ρ))))
  isplitr; · iapply (recs_at P v K j c ρ); iexact HR
  isplitl [Ho] <;> iassumption

theorem hopen (j : Fin nJ) (c : Dev nD) : iprop(Tk P v j c ∗ Pipeline.ownSems0 (osem P j) c ∗ levAts L lv) ⊢ (|={Set.univ}=> Xk P v j c : sProp 𝕄) := by
  unfold Tk Xk Pipeline.ownSems0
  iintro ⟨⟨%K, #HR, Hb, Ho, Hh⟩, Hs, #Hlev⟩
  ihave Hos := (bigSep_sep_join Finset.univ (fun k : Sc => (openTok ER (cell (P.geo j) c (sc k)) : sProp 𝕄)) (fun k : Sc => (semVal ((c : Thread nD τ), osem P j k) 0 : sProp 𝕄))) $$ [Ho Hs]
  · isplitl [Ho] <;> iassumption
  ihave H := (bigSep_with_persistent (R := recs P v K) (S := Finset.univ)
    (Ψ := fun k : Sc => (iprop(|={Set.univ}=> at_ (P.geo j) c (sc k) 0) : sProp 𝕄)) fun k _ => open_one P v K j c (sc k)) $$ [Hos]
  · isplitr; · iexact HR
    iexact Hos
  imod (bigSep_fupd _ _) $$ H with H
  imodintro
  ihave H := (Entails.of_eq (bigSep_sc fun ρ => at_ (P.geo j) c ρ 0)) $$ H
  icases H with ⟨Hx, Hp⟩
  iexists K
  isplitr; · iexact HR
  isplitr; · iexact Hlev
  isplitl [Hb]; · iexact Hb
  isplitl [Hx]; · iexact Hx
  isplitl [Hp]; · unfold posn; iexact Hp
  iexact Hh

/-! ## The launch credit -/

theorem cred_one (f : Dev nD → Dev nD) (finv : Dev nD → Dev nD) (h1 : ∀ c, f (finv c) = c) (h2 : ∀ d, finv (f d) = d) (sm : SemLoc sig) (i n : ℕ) (c : Dev nD) :
    (Pipeline.launchCred (fun d => tallyAt ((f d : Thread nD τ), sm) i n) c : sProp 𝕄) ⊢ cred (tallyAt ((c : Thread nD τ), sm) i n) :=
  Pipeline.launchCred_tallyAt sm f finv h1 h2 i n c

theorem cred_peer (d : Bool) (sm : SemLoc sig) (i n : ℕ) (c : Dev nD) :
    (Pipeline.launchCred (fun e => tallyAt ((peer e d : Thread nD τ), sm) i n) c : sProp 𝕄) ⊢ cred (tallyAt ((c : Thread nD τ), sm) i n) :=
  cred_one (fun e => peer e d) (fun e => peer e (!d)) (fun e => peer_peer' e d) (fun e => peer_peer e d) sm i n c

theorem cred_two (g : GSem nD τ sig) (i : ℕ) : iprop(cred (tallyAt g i 1) ∗ cred (tallyAt g i 1)) ⊢ (cred (tallyAt g i 2) : sProp 𝕄) :=
  BIBase.Entails.trans (cred_add _ _).2 (Entails.of_eq (by rw [tallyAt_add]))

def credit (j : Fin nJ) (c : Dev nD) : sProp 𝕄 :=
  iprop((bigSep (Finset.Ico 0 14) fun q => both fun d => cred (tallyAt (cell (P.geo j) c (.rcv d (s7 q))) (base j + 2 + q) P.N))
    ∗ cred (tallyAt (cell (P.geo j) c .bar) (base j + 1) 2) ∗ cred (tallyAt (cell (P.geo j) c .ex) (base j + 20) 2))

theorem creds_step (j : Fin nJ) (c : Dev nD) (q : ℕ) : (Pipeline.launchCred (fun e => tV P j e true q + tV P j e false q) c : sProp 𝕄)
    ⊢ both fun d => cred (tallyAt (cell (P.geo j) c (.rcv d (s7 q))) (base j + 2 + q) P.N) := by
  rw [Pipeline.launchCred_add (fun e => tV P j e true q) (fun e => tV P j e false q)]
  unfold both
  iintro ⟨H1, H0⟩
  isplitl [H0]
  · iapply (cred_peer false ((P.geo j).sem (.rcv false (s7 q))) (base j + 2 + q) P.N c); iexact H0
  · iapply (cred_peer true ((P.geo j).sem (.rcv true (s7 q))) (base j + 2 + q) P.N c); iexact H1

theorem creds_steps (j : Fin nJ) (c : Dev nD) :
    (bigSep (Finset.Ico 0 14) fun q => Pipeline.launchCred (fun e => tV P j e true q + tV P j e false q) c : sProp 𝕄)
      ⊢ bigSep (Finset.Ico 0 14) fun q => both fun d => cred (tallyAt (cell (P.geo j) c (.rcv d (s7 q))) (base j + 2 + q) P.N) :=
  bigSep_mono fun q _ => creds_step P j c q

theorem creds (j : Fin nJ) (c : Dev nD) : (Pipeline.launchCred (due P j) c : sProp 𝕄) ⊢ credit P j c := by
  have e : (due P j : Dev nD → CellTallies nD τ sig ℕ)
      = fun e => (((tX P j e false + tX P j e true) + ∑ i ∈ Finset.Ico 0 14, (tV P j e true i + tV P j e false i)) + tB P j e false) + tB P j e true := rfl
  rw [e, Pipeline.launchCred_add (fun e => ((tX P j e false + tX P j e true) + ∑ i ∈ Finset.Ico 0 14, (tV P j e true i + tV P j e false i)) + tB P j e false) (fun e => tB P j e true),
    Pipeline.launchCred_add (fun e => (tX P j e false + tX P j e true) + ∑ i ∈ Finset.Ico 0 14, (tV P j e true i + tV P j e false i)) (fun e => tB P j e false),
    Pipeline.launchCred_add (fun e => tX P j e false + tX P j e true) (fun e => ∑ i ∈ Finset.Ico 0 14, (tV P j e true i + tV P j e false i)),
    Pipeline.launchCred_add (fun e => tX P j e false) (fun e => tX P j e true),
    Pipeline.launchCred_sum (Finset.Ico 0 14) (fun i e => tV P j e true i + tV P j e false i)]
  unfold credit
  iintro ⟨⟨⟨⟨X0, X1⟩, HT⟩, B0⟩, B1⟩
  isplitl [HT]
  · iapply (creds_steps P j c) $$ HT
  isplitl [B0 B1]
  · iapply (cred_two _ _)
    isplitl [B0]
    · iapply (cred_peer false ((P.geo j).sem .bar) (base j + 1) 1 c); iexact B0
    · iapply (cred_peer true ((P.geo j).sem .bar) (base j + 1) 1 c); iexact B1
  · iapply (cred_two _ _)
    isplitl [X0]
    · iapply (cred_peer false ((P.geo j).sem .ex) (base j + 20) 1 c); iexact X0
    · iapply (cred_peer true ((P.geo j).sem .ex) (base j + 20) 1 c); iexact X1

/-! ## The tokens, dealt -/

/-- One device's cells' tokens, and the tokens one device pays with. -/
def toksOf (j : Fin nJ) (c : Dev nD) : sProp 𝕄 := bigSep Finset.univ fun t : TI => dutyTok ER (cell (P.geo j) c (ti t).1) (ti t).2.1 (ti t).2.2
def toksFor (j : Fin nJ) (c : Dev nD) : sProp 𝕄 :=
  iprop((both (fun d => dutyTok ER (cell (P.geo j) (peer c d) .bar) 0 (!d)) ∗ both (fun d => dutyTok ER (cell (P.geo j) (peer c d) .ex) 0 (!d)))
    ∗ bigSep (Finset.Ico 0 14) fun q => both fun d =>
        iprop(dutyTok ER (cell (P.geo j) c (.snd d (s7 q))) (q / 7) false ∗ dutyTok ER (cell (P.geo j) (peer c d) (.rcv d (s7 q))) (q / 7) false))

theorem toks_around (j : Fin nJ) : (bigSep Finset.univ fun c => toksOf P j c) = (bigSep Finset.univ fun c => toksFor P j c : sProp 𝕄) := by
  unfold toksFor
  rw [show (fun c => toksOf P j c : Dev nD → sProp 𝕄) = fun c =>
      iprop((both (fun d => dutyTok ER (cell (P.geo j) c .bar) 0 (!d)) ∗ both (fun d => dutyTok ER (cell (P.geo j) c .ex) 0 (!d)))
      ∗ bigSep (Finset.Ico 0 14) fun q => both fun d =>
        iprop(dutyTok ER (cell (P.geo j) c (.snd d (s7 q))) (q / 7) false ∗ dutyTok ER (cell (P.geo j) c (.rcv d (s7 q))) (q / 7) false)) from funext fun c => by
    unfold toksOf
    rw [bigSep_ti (fun x => dutyTok ER (cell (P.geo j) c x.1) x.2.1 x.2.2),
      both_swap (fun d => dutyTok ER (cell (P.geo j) c .bar) 0 d), both_swap (fun d => dutyTok ER (cell (P.geo j) c .ex) 0 d)]]
  rw [bigSep_sep', bigSep_sep', bigSep_sep', bigSep_sep', around fun d c => dutyTok ER (cell (P.geo j) c .bar) 0 (!d),
    around fun d c => dutyTok ER (cell (P.geo j) c .ex) 0 (!d)]
  have h (A B : Dev nD → ℕ → Bool → sProp 𝕄) : (bigSep Finset.univ fun c => bigSep (Finset.Ico 0 14) fun q => both fun d => iprop(A c q d ∗ B c q d))
      = iprop((bigSep Finset.univ fun c => bigSep (Finset.Ico 0 14) fun q => both (A c q)) ∗ bigSep Finset.univ fun c => both fun d => bigSep (Finset.Ico 0 14) fun q => B c q d) := by
    rw [← bigSep_sep']
    refine bigSep_congr fun c _ => ?_
    rw [← both_bigSep, ← bigSep_sep']
    exact bigSep_congr fun q _ => BI.Entails.antisymm (both_sep _ _).1 (both_sep _ _).2
  rw [h (fun c q d => dutyTok ER (cell (P.geo j) c (.snd d (s7 q))) (q / 7) false) (fun c q d => dutyTok ER (cell (P.geo j) c (.rcv d (s7 q))) (q / 7) false),
    h (fun c q d => dutyTok ER (cell (P.geo j) c (.snd d (s7 q))) (q / 7) false) (fun c q d => dutyTok ER (cell (P.geo j) (peer c d) (.rcv d (s7 q))) (q / 7) false),
    around fun d c => bigSep (Finset.Ico 0 14) fun q => dutyTok ER (cell (P.geo j) c (.rcv d (s7 q))) (q / 7) false]

theorem toks_all : bigSep (talkToks P) (fun x => (dutyTok ER x.1 x.2.1 x.2.2 : sProp 𝕄))
    = bigSep Finset.univ fun c : Dev nD => bigSep Finset.univ fun j : Fin nJ => toksFor P j c := by
  rw [Pipeline.bigSep_univ_comm (fun (c : Dev nD) (j : Fin nJ) => (toksFor P j c : sProp 𝕄)),
    bigSep_congr (Ψ := fun j => bigSep Finset.univ fun c => (toksOf P j c : sProp 𝕄)) fun j _ => (toks_around P j).symm,
    Pipeline.bigSep_univ_comm (fun (j : Fin nJ) (c : Dev nD) => (toksOf P j c : sProp 𝕄)), BI.bigSep_map, bigSep_univ_prod]
  exact bigSep_congr fun c _ => bigSep_univ_prod fun x : Fin nJ × TI => (dutyTok ER (cell (P.geo x.1) c (ti x.2).1) (ti x.2).2.1 (ti x.2).2.2 : sProp 𝕄)

/-! ## The launch -/

/-- The launch element of the rings, and the whole. -/
abbrev uRing : Rounds.URounds (GSem nD τ sig) Bool := launchOf (barCells P) (scCells P) (talkToks P)

/-- What the launch parks, all of it on one device. -/
def parked (X : sProp 𝕄) (c : Dev nD) : sProp 𝕄 := if c = 0 then X else iprop(emp)
theorem bigSep_parked (X : sProp 𝕄) : bigSep Finset.univ (parked X) = X := by
  rw [bigSep_univ_at _ (0 : Dev nD), bigSep_congr (s := Finset.univ.erase 0) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- What every device may consult. -/
def records (κ : GSem nD τ sig → ℕ) : sProp 𝕄 :=
  iprop((bigSep (barCells P ∪ scCells P) fun g => cellInv ER (rd P v) (κ g) g) ∗ bigSep (barCells P) fun g => reached ER g 0)
instance records_persistent (κ : GSem nD τ sig → ℕ) : BI.Persistent (records P v κ) := by unfold records; infer_instance

theorem recs_intro (κ : GSem nD τ sig → ℕ) : (bigSep (barCells P ∪ scCells P) fun g => (cellInv ER (rd P v) (κ g) g : sProp 𝕄)) ⊢ recs P v κ := by
  unfold recs
  exact bigSep_intro_persistent fun x _ => bigSep_elim (mem_cells P x.1 x.2.1 x.2.2)

theorem reached_bar (j : Fin nJ) (c : Dev nD) : (bigSep (barCells P) fun g => (reached ER g 0 : sProp 𝕄)) ⊢ reached ER (cell (P.geo j) c .bar) 0 :=
  bigSep_elim (Φ := fun g => (reached ER g 0 : sProp 𝕄)) (Finset.mem_map_of_mem (barEmb P) (Finset.mem_univ (c, j)))

/-- What stays with device `c` of ring `j`. -/
def linear (c : Dev nD) (j : Fin nJ) : sProp 𝕄 :=
  iprop(atPos ER (cell (P.geo j) c .bar) 0 ∅ 0 ∗ (bigSep Finset.univ fun k : Sc => openTok ER (cell (P.geo j) c (sc k))) ∗ toksFor P j c ∗ credit P j c)

theorem Tk_intro (κ : GSem nD τ sig → ℕ) (c : Dev nD) (j : Fin nJ) : iprop(records P v κ ∗ linear P c j) ⊢ Tk P v j c := by
  unfold records linear toksFor credit Tk hand at_
  iintro ⟨⟨#HI, #HR⟩, Ha, Ho, ⟨⟨HtB, HtX⟩, Ht⟩, Hc, HcB, HcX⟩
  iexists κ
  isplitr; · iapply (recs_intro P v κ) $$ HI
  isplitl [Ha]
  · isplitl [Ha]; · iexact Ha
    iapply (reached_bar P j c) $$ HR
  isplitl [Ho]; · iexact Ho
  isplitl [HtB]; · iexact HtB
  isplitl [HtX]; · iexact HtX
  isplitr
  · unfold both
    isplitr; · iapply (reached_bar P j (peer c false)) $$ HR
    iapply (reached_bar P j (peer c true)) $$ HR
  isplitl [Ht Hc]
  · unfold tk
    iapply (join_both (Finset.Ico 0 14) _ _)
    isplitl [Ht] <;> iassumption
  isplitl [HcB] <;> iassumption

theorem Tks_intro (κ : GSem nD τ sig → ℕ) (c : Dev nD) :
    iprop(records P v κ ∗ (bigSep Finset.univ fun j : Fin nJ => atPos ER (cell (P.geo j) c .bar) 0 ∅ 0)
        ∗ (bigSep Finset.univ fun j : Fin nJ => bigSep Finset.univ fun k : Sc => openTok ER (cell (P.geo j) c (sc k)))
        ∗ (bigSep Finset.univ fun j : Fin nJ => toksFor P j c) ∗ bigSep Finset.univ fun j : Fin nJ => credit P j c)
      ⊢ (bigSep Finset.univ fun j : Fin nJ => Tk P v j c : sProp 𝕄) := by
  rw [← bigSep_sep', ← bigSep_sep', ← bigSep_sep']
  exact bigSep_with_persistent fun j _ => Tk_intro P v κ c j

/-- The launch of all the rings: the entry counters and the parked element become what each device carries. -/
theorem fund (S : Dev nD → sProp 𝕄) :
    iprop((bigSep Finset.univ fun c : Dev nD => iprop(S c ∗ (bigSep Finset.univ fun j : Fin nJ => semVal (cell (P.geo j) c .bar) 0) ∗ (bigSep Finset.univ fun j : Fin nJ => credit P j c)))
        ∗ BI.own (ER (uRing P)))
      ⊢ (|={Set.univ}=> bigSep Finset.univ fun c : Dev nD => iprop(S c ∗ bigSep Finset.univ fun j : Fin nJ => Tk P v j c) : sProp 𝕄) := by
  rw [bigSep_sep', bigSep_sep']
  iintro ⟨⟨HS, Hv, Hc⟩, Hu⟩
  ihave Hv := (show (bigSep Finset.univ fun c : Dev nD => bigSep Finset.univ fun j : Fin nJ => (semVal (cell (P.geo j) c .bar) 0 : sProp 𝕄))
      ⊢ bigSep (barCells P) (fun g => (semVal g 0 : sProp 𝕄)) from
    Entails.of_eq (by rw [BI.bigSep_map, bigSep_univ_prod]; rfl)) $$ Hv
  imod (Rounds.fund_launch ER (rd P v) (disjoint_cells P) (fun g _ h => h) (talkToks P)) $$ [Hv Hu] with ⟨%κ, -, #Hinv, #Hr, Hat, Hopen, Htok⟩
  · isplitl [Hv] <;> iassumption
  imodintro
  ihave Hat := (show bigSep (barCells P) (fun g => (atPos ER g 0 ∅ 0 : sProp 𝕄))
      ⊢ bigSep Finset.univ fun c : Dev nD => bigSep Finset.univ fun j : Fin nJ => (atPos ER (cell (P.geo j) c .bar) 0 ∅ 0 : sProp 𝕄) from
    Entails.of_eq (by rw [BI.bigSep_map, bigSep_univ_prod]; rfl)) $$ Hat
  ihave Hopen := (show bigSep (scCells P) (fun g => (openTok ER g : sProp 𝕄))
      ⊢ bigSep Finset.univ fun c : Dev nD => bigSep Finset.univ fun j : Fin nJ => bigSep Finset.univ fun k : Sc => (openTok ER (cell (P.geo j) c (sc k)) : sProp 𝕄) from
    Entails.of_eq (by rw [BI.bigSep_map, bigSep_univ_prod]; exact bigSep_congr fun c _ => bigSep_univ_prod fun x : Fin nJ × Sc => (openTok ER (cell (P.geo x.1) c (sc x.2)) : sProp 𝕄))) $$ Hopen
  ihave Htok := (show bigSep (talkToks P) (fun x => (dutyTok ER x.1 x.2.1 x.2.2 : sProp 𝕄))
      ⊢ bigSep Finset.univ fun c : Dev nD => bigSep Finset.univ fun j : Fin nJ => toksFor P j c from
Entails.of_eq (toks_all P)) $$ Htok
  rw [bigSep_sep']
  isplitl [HS]; · iexact HS
  ihave H := (bigSep_sep_join Finset.univ _ _) $$ [Htok Hc]
  · isplitl [Htok] <;> iassumption
  ihave H := (bigSep_sep_join Finset.univ _ _) $$ [Hopen H]
  · isplitl [Hopen] <;> iassumption
  ihave H := (bigSep_sep_join Finset.univ _ _) $$ [Hat H]
  · isplitl [Hat] <;> iassumption
  iapply (bigSep_with_persistent (R := records P v κ) (S := (Finset.univ : Finset (Dev nD))) fun c _ => Tks_intro P v κ c)
  isplitr
  · unfold records
    isplitr; · iexact Hinv
    iexact Hr
  iexact H

end Cert.Ring

end
-- ==== Proof.Split.lean ====
/- Buffers held piece by piece and whole, and what the ring's buffers are between the two. -/
module

public import proofs.«01_k».proof.Proof.Views
public import proofs.«01_k».proof.Proof.RingLaunch
public import Idealize.ShloMosaic.Lib.Ring

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {sig : RefSig} {F : FTy → Type}

local notation "𝕄" => MT nD τ sig ℕ (Elt F) ℕ (UU sig) ℕ

/-! ## Pieces of one view -/

/-- A view at some contents. -/
def some_ (c : Dev nD) {sp : Space} {s : Shape} {e : EltTy} (w : View sig .tc sp s e) : sProp 𝕄 :=
  iprop(∃ f : Buf (Elt F) (w.loc (c : Thread nD τ)), w.loc (c : Thread nD τ) ↦[w.set]{fullShare} f)

theorem anyAt_some (c : Dev nD) (w : MR sig) : (anyAt c w : sProp 𝕄) = some_ c w.view := rfl
theorem some_reshape (c : Dev nD) {sp : Space} {s s' : Shape} {e : EltTy} (w : View sig .tc sp s e) (h : s'.numel = s.numel) :
    (some_ c (w.reshape s' h) : sProp 𝕄) = some_ c w := by
  unfold some_
  rw [View.set_reshape]
theorem has_some (c : Dev nD) {sp : Space} {s : Shape} {e : EltTy} (w : View sig .tc sp s e) (v : s.Idx → Elt F e) : (has c w v : sProp 𝕄) ⊢ some_ c w := by
  unfold has some_
  iintro ⟨%f, -, H⟩; iexists f; iexact H

section Pieces
variable {B : Type} [Fintype B] [DecidableEq B] (c : Dev nD) {sp : Space} {s : Shape} {e : EltTy} (w : View sig .tc sp s e) (R : B → Rect s)
  (hd : ∀ b b', b ≠ b' → Disjoint (R b).set (R b').set) (hc : Finset.univ.biUnion (fun b => (R b).set) = Finset.univ)

omit [Fintype B] [DecidableEq B] in
include hd in
theorem pieces_disjoint (b b' : B) (h : b ≠ b') : Disjoint (w.slice (R b)).set (w.slice (R b')).set := by
  rw [View.set_slice, View.set_slice]; exact (Finset.disjoint_map _).mpr (hd b b' h)
/-- The elements of a piece. -/
def piece (b : B) : Finset (Idx (w.loc (c : Thread nD τ))) := (w.slice (R b)).set
omit [Fintype B] [DecidableEq B] in
include hd in
theorem piece_disjoint (b b' : B) (h : b ≠ b') : Disjoint (piece c w R b) (piece c w R b') := pieces_disjoint w R hd b b' h
omit [DecidableEq B] in
include hc in
theorem piece_cover : Finset.univ.biUnion (piece c w R) = w.set := by
  ext i
  simp only [Finset.mem_biUnion, Finset.mem_univ, true_and, piece, View.set_slice, Finset.mem_map]
  constructor
  · rintro ⟨b, x, -, rfl⟩; exact Finset.mem_map.mpr ⟨x, Finset.mem_univ x, rfl⟩
  · intro hi
    obtain ⟨x, -, rfl⟩ := Finset.mem_map.mp hi
    have hx : x ∈ Finset.univ.biUnion fun b => (R b).set := by rw [hc]; exact Finset.mem_univ x
    obtain ⟨b, -, hb⟩ := Finset.mem_biUnion.mp hx
    exact ⟨b, x, hb, rfl⟩

def someOn (ℓ : Loc nD τ sig) (I : Finset (Idx ℓ)) : sProp 𝕄 := iprop(∃ f : Buf (Elt F) ℓ, ℓ ↦[I]{fullShare} f)
theorem someOn_split {ℓ : Loc nD τ sig} {I : B → Finset (Idx ℓ)} (h : ∀ b b', b ≠ b' → Disjoint (I b) (I b')) {S : Finset (Idx ℓ)}
    (hS : Finset.univ.biUnion I = S) : (someOn ℓ S : sProp 𝕄) ⊢ bigSep Finset.univ fun b => someOn ℓ (I b) := by
  unfold someOn
  iintro ⟨%f, H⟩
  ihave H := (Entails.of_eq (Ring.pointsTo_sub_blocks I h S hS f)) $$ H
  have h1 : ∀ b : B, (ℓ ↦[I b]{fullShare} f : sProp 𝕄) ⊢ iprop(∃ f : Buf (Elt F) ℓ, ℓ ↦[I b]{fullShare} f) := fun b => by
    iintro H; iexists f; iexact H
  have h2 : (bigSep Finset.univ fun b => ℓ ↦[I b]{fullShare} f : sProp 𝕄)
      ⊢ bigSep Finset.univ fun b => iprop(∃ f : Buf (Elt F) ℓ, ℓ ↦[I b]{fullShare} f) := bigSep_mono fun b _ => h1 b
  iapply h2
  iexact H
theorem someOn_join {ℓ : Loc nD τ sig} {I : B → Finset (Idx ℓ)} (h : ∀ b b', b ≠ b' → Disjoint (I b) (I b')) {S : Finset (Idx ℓ)}
    (hS : Finset.univ.biUnion I = S) (f₀ : Buf (Elt F) ℓ) : (bigSep Finset.univ fun b => someOn ℓ (I b) : sProp 𝕄) ⊢ someOn ℓ S :=
  Ring.pointsTo_sub_blocks_join_exists I h S hS f₀

include hd hc in
theorem some_split : (some_ c w : sProp 𝕄) ⊢ bigSep Finset.univ fun b => some_ c (w.slice (R b)) :=
  someOn_split (piece_disjoint c w R hd) (piece_cover c w R hc)

include hd hc in
theorem some_join (f₀ : Buf (Elt F) (w.loc (c : Thread nD τ))) :
    (bigSep Finset.univ fun b => some_ c (w.slice (R b)) : sProp 𝕄) ⊢ some_ c w :=
  someOn_join (piece_disjoint c w R hd) (piece_cover c w R hc) f₀

/-- Elements at contents that satisfy `p`. -/
def satOn (ℓ : Loc nD τ sig) (I : Finset (Idx ℓ)) (p : Buf (Elt F) ℓ → Prop) : sProp 𝕄 := iprop(∃ f : Buf (Elt F) ℓ, ⌜p f⌝ ∗ ℓ ↦[I]{fullShare} f)
theorem satOn_join {ℓ : Loc nD τ sig} {I : B → Finset (Idx ℓ)} (h : ∀ b b', b ≠ b' → Disjoint (I b) (I b')) {S : Finset (Idx ℓ)}
    (hS : Finset.univ.biUnion I = S) (f₀ : Buf (Elt F) ℓ) (p : B → Buf (Elt F) ℓ → Prop) (P : Buf (Elt F) ℓ → Prop)
    (hP : ∀ (g : Buf (Elt F) ℓ) (fs : B → Buf (Elt F) ℓ), (∀ b, p b (fs b)) → (∀ b, ∀ i ∈ I b, g i = fs b i) → P g) :
    (bigSep Finset.univ fun b => satOn ℓ (I b) (p b) : sProp 𝕄) ⊢ satOn ℓ S P := by
  have : Nonempty (Buf (Elt F) ℓ) := ⟨f₀⟩
  unfold satOn
  refine BIBase.Entails.trans (bigSep_exists_pi Finset.univ (fun b (f : Buf (Elt F) ℓ) => iprop(⌜p b f⌝ ∗ ℓ ↦[I b]{fullShare} f))) ?_
  iintro ⟨%fs, H⟩
  ihave H := (bigSep_pure_sep Finset.univ (fun b => p b (fs b)) (fun b => (ℓ ↦[I b]{fullShare} fs b : sProp 𝕄))) $$ H
  icases H with ⟨%hr, H⟩
  ihave H := (pointsTo_biUnion_join Finset.univ I fs f₀ (fun b _ b' _ hb => h b b' hb)) $$ H
  icases H with ⟨%g, %hg, H⟩
  iexists g
  isplitr
  · ipureintro; exact hP g fs (fun b => hr b (Finset.mem_univ b)) (fun b => hg b (Finset.mem_univ b))
  have e : (ℓ ↦[Finset.univ.biUnion I]{fullShare} g : sProp 𝕄) = ℓ ↦[S]{fullShare} g := by rw [hS]
  ihave H := (Entails.of_eq e) $$ H
  iexact H

include hd hc in
/-- Pieces at their values make the whole at the value that has them as pieces. -/
theorem has_join (f₀ : Buf (Elt F) (w.loc (c : Thread nD τ))) (v : ∀ b, (R b).shape.Idx → Elt F e) (G : s.Idx → Elt F e)
    (hG : ∀ b z, G ((R b).emb z) = v b z) :
    (bigSep Finset.univ fun b => has c (w.slice (R b)) (v b) : sProp 𝕄) ⊢ has c w G :=
  satOn_join (piece_disjoint c w R hd) (piece_cover c w R hc) f₀ (fun b f => (w.slice (R b)).read (Elt F) f = v b) (fun f => w.read (Elt F) f = G) (by
    intro g fs hr hg
    funext x
    have hx : x ∈ Finset.univ.biUnion fun b => (R b).set := by rw [hc]; exact Finset.mem_univ x
    obtain ⟨b, -, hb⟩ := Finset.mem_biUnion.mp hx
    obtain ⟨z, -, rfl⟩ := Finset.mem_map.mp ((Rect.map_emb_univ (R b)).symm ▸ hb)
    rw [hG, ← hr b]
    exact congrFun (View.read_congr (v := w.slice (R b)) (hg b)) z)
end Pieces

/-! ## The ring's buffers -/

/-- The steps of the gathering as the chunks of the half. -/
theorem chunkAt_bij (c : Dev nD) (d : Bool) : Function.Bijective fun t : Fin 8 => chunkAt c d t.val := by
  rw [← Finite.injective_iff_bijective]
  revert c d; decide

theorem bigSep_chunks (c : Dev nD) (d : Bool) (Φ : Fin 8 → sProp 𝕄) :
    bigSep Finset.univ Φ = bigSep (Finset.Ico 0 8) fun t => Φ (chunkAt c d t) := by
  rw [← bigSep_fin_Ico 8 (fun t => Φ (chunkAt c d t))]
  exact bigSep_univ_equiv (Equiv.ofBijective _ (chunkAt_bij c d)) Φ

theorem bigSep_slots (Φ : Fin 7 → sProp 𝕄) : bigSep Finset.univ Φ = bigSep (Finset.Ico 0 7) fun q => Φ (s7 q) := by
  rw [← bigSep_fin_Ico 7 (fun q => Φ (s7 q))]
  refine congrArg _ (funext fun i => congrArg Φ ?_)
  exact (s7_fin i).symm

theorem bigSep_two (Φ : Fin 2 → sProp 𝕄) : bigSep Finset.univ Φ = iprop(Φ 0 ∗ Φ 1) :=
  bigSep_univ_eq_bigSepL [0, 1] (by decide) (by decide) Φ

variable (G : Geo sig) (c : Dev nD)

theorem fourteen (Φ : ℕ → sProp 𝕄) : bigSep (Finset.Ico 0 14) Φ = iprop(bigSep (Finset.Ico 0 7) Φ ∗ bigSep (Finset.Ico 0 7) fun q => Φ (q + 7)) := by
  have e : Finset.Ico 0 14 = Finset.Ico 0 7 ∪ (Finset.Ico 0 7).map (addRightEmbedding 7) := by decide
  have hd : Disjoint (Finset.Ico 0 7) ((Finset.Ico 0 7).map (addRightEmbedding 7)) := by decide
  rw [e, bigSep_union hd, BI.bigSep_map]
  rfl

theorem eight (Φ : ℕ → sProp 𝕄) : bigSep (Finset.Ico 0 8) Φ = iprop(Φ 0 ∗ bigSep (Finset.Ico 0 7) fun q => Φ (q + 1)) := by
  have e : Finset.Ico 0 8 = insert 0 ((Finset.Ico 0 7).map (addRightEmbedding 1)) := by decide
  rw [e, bigSep_insert (by decide), BI.bigSep_map]
  rfl

/-- The slots and the chunks are the windows of the transfers into the device, and the chunk it finishes. -/
theorem bufs_one (d : Bool) :
    iprop((bigSep Finset.univ fun s => anyAt c (G.cm d s)) ∗ bigSep Finset.univ fun k => anyAt c (G.out d k))
      ⊢ (iprop((bigSep (Finset.Ico 0 14) fun q => anyAt c (G.dst (peer c (!d)) d q)) ∗ anyAt c (G.out d (chunkAt c d 0))) : sProp 𝕄) := by
  have h1 : (bigSep (Finset.Ico 0 7) fun q => anyAt c (G.dst (peer c (!d)) d q) : sProp 𝕄) = bigSep (Finset.Ico 0 7) fun q => anyAt c (G.cm d (s7 q)) :=
    bigSep_congr fun q hq => by unfold Geo.dst; rw [if_pos (Finset.mem_Ico.mp hq).2]
  have h2 : (bigSep (Finset.Ico 0 7) fun q => anyAt c (G.dst (peer c (!d)) d (q + 7)) : sProp 𝕄) = bigSep (Finset.Ico 0 7) fun q => anyAt c (G.out d (chunkAt c d (q + 1))) :=
    bigSep_congr fun q _ => by unfold Geo.dst; rw [if_neg (by omega), Nat.add_sub_cancel, chunkAt_peer]
  rw [fourteen, h1, h2, bigSep_slots, bigSep_chunks c d, eight]
  iintro ⟨H1, H2, H3⟩
  isplitl [H1 H3]
  · isplitl [H1]; · iexact H1
    iexact H3
  iexact H2

theorem bufs_in :
    iprop(both (fun d => bigSep Finset.univ fun s => anyAt c (G.pb d s)) ∗ both (fun d => bigSep Finset.univ fun s => anyAt c (G.cm d s))
        ∗ both (fun d => bigSep Finset.univ fun k => anyAt c (G.out d k)))
      ⊢ (iprop(both (fun d => anyAt c (G.pb d 0)) ∗ both (fun d => anyAt c (G.pb d 1))
        ∗ both (fun d => bigSep (Finset.Ico 0 14) fun q => anyAt c (G.dst (peer c (!d)) d q)) ∗ both (fun d => anyAt c (G.out d (chunkAt c d 0)))) : sProp 𝕄) := by
  have h1 : both (fun d => bigSep Finset.univ fun s => anyAt c (G.pb d s)) ⊢ (iprop(both (fun d => anyAt c (G.pb d 0)) ∗ both (fun d => anyAt c (G.pb d 1))) : sProp 𝕄) :=
    BIBase.Entails.trans (both_mono fun d => Entails.of_eq (bigSep_two _)) (both_sep _ _).1
  have h2 : iprop(both (fun d => bigSep Finset.univ fun s => anyAt c (G.cm d s)) ∗ both (fun d => bigSep Finset.univ fun k => anyAt c (G.out d k)))
      ⊢ (iprop(both (fun d => bigSep (Finset.Ico 0 14) fun q => anyAt c (G.dst (peer c (!d)) d q)) ∗ both (fun d => anyAt c (G.out d (chunkAt c d 0)))) : sProp 𝕄) :=
    BIBase.Entails.trans (both_sep _ _).2 (BIBase.Entails.trans (both_mono fun d => bufs_one G c d) (both_sep _ _).1)
  iintro ⟨H1, H2⟩
  ihave H1 := h1 $$ H1
  ihave H2 := h2 $$ H2
  icases H1 with ⟨A, B⟩
  icases H2 with ⟨C, D⟩
  isplitl [A]; · iexact A
  isplitl [B]; · iexact B
  isplitl [C]; · iexact C
  iexact D

/-- The buffers as the body leaves them: every chunk of the result at its value. -/
theorem bufs_out (u : ℕ → Bool → Vec F) (w : Bool → Fin 8 → Vec F) (h : ∀ d t, t < 8 → u t d = w d (chunkAt c d t)) :
    iprop(both (fun d => anyAt c (G.pb d 0)) ∗ both (fun d => anyAt c (G.pb d 1)) ∗ (bigSep (Finset.Ico 0 7) fun q => both fun d => anyAt c (G.cm d (s7 q)))
        ∗ bigSep (Finset.Ico 0 8) fun i => both fun d => holds c (G.out d (chunkAt c d i)) (u i d))
      ⊢ (iprop(both (fun d => bigSep Finset.univ fun s => anyAt c (G.pb d s)) ∗ both (fun d => bigSep Finset.univ fun s => anyAt c (G.cm d s))
        ∗ both (fun d => bigSep Finset.univ fun k => holds c (G.out d k) (w d k))) : sProp 𝕄) := by
  have h1 : iprop(both (fun d => anyAt c (G.pb d 0)) ∗ both (fun d => anyAt c (G.pb d 1))) ⊢ (both (fun d => bigSep Finset.univ fun s => anyAt c (G.pb d s)) : sProp 𝕄) :=
    BIBase.Entails.trans (both_sep _ _).2 (both_mono fun d => Entails.of_eq (bigSep_two fun s => anyAt c (G.pb d s)).symm)
  have h2 : (bigSep (Finset.Ico 0 7) fun q => both fun d => anyAt c (G.cm d (s7 q))) = (both (fun d => bigSep Finset.univ fun s => anyAt c (G.cm d s)) : sProp 𝕄) := by
    rw [both_bigSep]; exact congrArg both (funext fun d => (bigSep_slots fun s => anyAt c (G.cm d s)).symm)
  have h3 : (bigSep (Finset.Ico 0 8) fun i => both fun d => holds c (G.out d (chunkAt c d i)) (u i d))
      = (both (fun d => bigSep Finset.univ fun k => holds c (G.out d k) (w d k)) : sProp 𝕄) := by
    rw [both_bigSep]
    refine congrArg both (funext fun d => ?_)
    rw [bigSep_chunks c d]
    exact bigSep_congr fun t ht => by rw [h d t (Finset.mem_Ico.mp ht).2]
  rw [h2, h3]
  iintro ⟨A, B, C, D⟩
  isplitl [A B]
  · iapply h1
    isplitl [A]; · iexact A
    iexact B
  isplitl [C]; · iexact C
  iexact D

/-! ## The values -/

/-- The values in flight, from what the local work computes. -/
def ringVal (V : Vs F) (c : Dev nD) (d : Bool) : ℕ → Vec F
  | 0 => V.part c d 0
  | q + 1 => if q < 6 then V.add (ringVal V (peer c (!d)) d q) (V.part c d (q + 1))
      else if q = 6 then V.fin c d (ringVal V (peer c (!d)) d q) (V.part c d 7) else ringVal V (peer c (!d)) d q

theorem ringVal_ok {nJ : ℕ} (v : Vals F nJ) (j : Fin nJ) (V : Vs F) (h : v j = ringVal V) : Vals.Ok v j V where
  first c d := by rw [h]; rfl
  step c d q hq := by rw [h, ringVal, if_pos hq]
  turn c d := by rw [h, ringVal, if_neg (by decide), if_pos rfl]
  on c d q hq := by rw [h, ringVal, if_neg (by omega), if_neg (by omega)]

/-- The device that finishes chunk `k`. -/
def home (d : Bool) (k : Fin 8) : Dev nD := ⟨(k.val + if d then 1 else 7) % 8, Nat.mod_lt _ (by decide)⟩
theorem home_chunk (c : Dev nD) (d : Bool) : home d (chunkAt c d 0) = c := by revert c d; decide
/-- The finished chunk. -/
def done (V : Vs F) (d : Bool) (k : Fin 8) : Vec F := ringVal V (home d k) d 7

theorem ringVal_done (V : Vs F) (d : Bool) (t : ℕ) : ∀ c, ringVal V c d (7 + t) = done V d (chunkAt c d t) := by
  induction t with
  | zero => intro c; unfold done; rw [home_chunk]
  | succ t ih =>
    intro c
    rw [← chunkAt_peer, ← ih, ← Nat.add_assoc, ringVal, if_neg (by omega), if_neg (by omega)]

end Cert.Ring
-- ==== Proof.RingSum.lean ====
/- What the ring leaves, over extended reals: the sum of every device's part. -/
module

public import proofs.«01_k».proof.Proof.Split
public import Idealize.ShloMosaic.Lib.Pointwise

@[expose] public section

noncomputable section

namespace Cert.Ring

open Idealize.ShloMosaic

/-- The device `s` steps back along direction `d`. -/
def back (c : Dev nD) (d : Bool) (s : ℕ) : Dev nD := ⟨(c.val + if d then s else 7 * s) % 8, Nat.mod_lt _ (by decide)⟩
theorem back_zero (c : Dev nD) (d : Bool) : back c d 0 = c := by revert c d; decide
theorem back_peer (c : Dev nD) (d : Bool) (s : ℕ) : back (peer c (!d)) d s = back c d (s + 1) := by
  unfold back peer
  apply Fin.ext
  cases d <;> simp <;> omega
theorem back_bij : ∀ (c : Dev nD) (d : Bool), Function.Bijective fun s : Fin 8 => back c d s.val := by decide
theorem chunk_home (d : Bool) (k : Fin 8) : chunkAt (home d k) d 8 = k := by revert d k; decide

section
variable (V : Vs Ideal) (P : Dev nD → Bool → Fin 8 → SU.Idx → EReal)
  (hp : ∀ c d s z, V.part c d s z = P c d (chunkAt c d (s + 1)) z) (ha : ∀ u w z, (V.add u w z : EReal) = u z + w z)
include hp ha

/-- On the way, a chunk holds the parts of the devices it has passed. -/
theorem ringVal_sum (d : Bool) (z : SU.Idx) (q : ℕ) (hq : q ≤ 6) :
    ∀ c, ringVal V c d q z = ∑ s ∈ Finset.range (q + 1), P (back c d s) d (chunkAt c d (q + 1)) z := by
  induction q with
  | zero => intro c; rw [ringVal, hp, Finset.sum_range_one, back_zero]
  | succ q ih =>
    intro c
    rw [ringVal, if_pos (by omega), ha, hp, ih (by omega), chunkAt_peer, Finset.sum_range_succ' _ (q + 1), back_zero]
    simp only [back_peer]

/-- At the end, a chunk is what is made of the sum of every device's part of it. -/
theorem done_sum (Q : Dev nD → Bool → SU.Idx → EReal → EReal) (hf : ∀ c d u w z, (V.fin c d u w z : EReal) = Q c d z (u z + w z))
    (d : Bool) (k : Fin 8) (z : SU.Idx) : done V d k z = Q (home d k) d z (∑ e, P e d k z) := by
  unfold done
  rw [ringVal, if_neg (by decide), if_pos rfl, hf, ringVal_sum V P hp ha d z 6 le_rfl, chunkAt_peer, hp, chunk_home]
  congr 1
  rw [← (back_bij (home d k) d).sum_comp fun e => P e d k z, Fin.sum_univ_eq_sum_range (fun s => P (back (home d k) d s) d k z) 8,
    Finset.sum_range_succ' _ 7, back_zero]
  simp only [back_peer]

end

theorem flat3_apply {α : Type} (h : SU.numel = (⟨3, ![1, 256, 1024]⟩ : Shape).numel) (u : (⟨3, ![1, 256, 1024]⟩ : Shape).Idx → α) (r : Fin 256) (l : Fin 1024) :
    flat3 h u (ix2 r l : (⟨2, ![256, 1024]⟩ : Shape).Idx) = u (ix3 0 r l) := by
  unfold flat3
  pointwise
theorem fat3_apply {α : Type} (h : SU.numel = (⟨3, ![1, 256, 1024]⟩ : Shape).numel) (v : SU.Idx → α) (r : Fin 256) (l : Fin 1024) :
    fat3 h v (ix3 0 r l) = v (ix2 r l : (⟨2, ![256, 1024]⟩ : Shape).Idx) := by
  unfold fat3
  have e : Shape.reshapeEquiv h (ix2 r l : (⟨2, ![256, 1024]⟩ : Shape).Idx) = ix3 0 r l := by pointwise
  exact congrArg v ((Equiv.symm_apply_eq _).mpr e.symm)

end Cert.Ring
-- ==== Proof.Tiles.lean ====
/- The buffers of a call that passes chunks round the ring: their rectangles, their pieces, and the local work both such calls do. -/
module

public import proofs.«01_k».proof.Proof.Split
public import proofs.«01_k».proof.Proof.Gen.KernelIdeal.Skeleton

@[expose] public section

noncomputable section

namespace Cert.Tile

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Cert.Ring hiding nD τ

variable {F : FTy → Type} [FloatOps F]

local notation "𝕄" => MT nD τ sig ℕ (Elt F) ℕ (UU sig) ℕ

/-- The buffers and semaphores a ring runs on. -/
structure Bufs where
  o : Memref sig .tc .vmem S4096x1024 .bf16
  ho : o.IsWhole
  pb : Bool → Memref sig .tc .vmem S2x256x1024 .bf16
  hpb : ∀ d, (pb d).IsWhole
  cm : Bool → Memref sig .tc .vmem S7x256x1024 .bf16
  hcm : ∀ d, (cm d).IsWhole
  sS : Bool → DmaSems sig S7
  vS : Bool → DmaSems sig S7
  ex : Sems sig S_
  bar : Sems sig S_

variable (A : Bufs)

/-! ## Rectangles -/

theorem inb7 : ∀ s : Fin 7, ∀ a, (![s.val] : Fin S7.rank → ℕ) a + S1.size a ≤ S7.size a := by decide
theorem inbP : ∀ s : Fin 2, ∀ a, (![s.val, 0, 0] : Fin S2x256x1024.rank → ℕ) a + S1x256x1024.size a ≤ S2x256x1024.size a := by decide +kernel
theorem inbC : ∀ s : Fin 7, ∀ a, (![s.val, 0, 0] : Fin S7x256x1024.rank → ℕ) a + S1x256x1024.size a ≤ S7x256x1024.size a := by decide +kernel
/-- Where chunk `k` of the half of direction `d` starts. -/
def offO (d : Bool) (k : ℕ) : Fin S4096x1024.rank → ℕ := ![256 * k + (if d then 2048 else 0), 0]
theorem inbO : ∀ (d : Bool) (k : Fin 8), ∀ a, offO d k.val a + S256x1024.size a ≤ S4096x1024.size a := by decide +kernel

theorem packP : ∀ s : Fin 2, (Rect.unit (s := S2x256x1024) ![s.val, 0, 0] S1x256x1024.size (inbP s)).PackedRows (EltTy.packing .bf16) := by decide +kernel
theorem packC : ∀ s : Fin 7, (Rect.unit (s := S7x256x1024) ![s.val, 0, 0] S1x256x1024.size (inbC s)).PackedRows (EltTy.packing .bf16) := by decide +kernel
theorem wordP : ∀ s : Fin 2, (Rect.unit (s := S2x256x1024) ![s.val, 0, 0] S1x256x1024.size (inbP s)).WholeWords (EltTy.packing .bf16) := by decide +kernel
theorem wordC : ∀ s : Fin 7, (Rect.unit (s := S7x256x1024) ![s.val, 0, 0] S1x256x1024.size (inbC s)).WholeWords (EltTy.packing .bf16) := by decide +kernel
theorem wordO : ∀ (d : Bool) (k : Fin 8), (Rect.unit (s := S4096x1024) (offO d k.val) S256x1024.size (inbO d k)).WholeWords (EltTy.packing .bf16) := by decide +kernel

/-- A chunk of a whole array. -/
abbrev chunk (m : Memref sig .tc .vmem S4096x1024 .bf16) (off : Fin S4096x1024.rank → ℕ) (h : ∀ a, off a + S256x1024.size a ≤ S4096x1024.size a) : MR sig :=
  m.slice (Rect.unit (s := S4096x1024) off S256x1024.size h) (fun _ => rfl)

/-- The ring's semaphores and buffers. -/
def geo : Geo sig where
  bar := A.bar.sem
  ex := A.ex.sem
  sS d s := (((A.sS d).slice (Rect.unit (s := S7) ![s.val] S1.size (inb7 s))).squeeze S_ squeezes_S1_S_).sem
  vS d s := (((A.vS d).slice (Rect.unit (s := S7) ![s.val] S1.size (inb7 s))).squeeze S_ squeezes_S1_S_).sem
  pb d s := ((A.pb d).slice (Rect.unit (s := S2x256x1024) ![s.val, 0, 0] S1x256x1024.size (inbP s)) (fun _ => rfl)).squeeze S256x1024 squeezes_S1x256x1024_S256x1024
  cm d s := ((A.cm d).slice (Rect.unit (s := S7x256x1024) ![s.val, 0, 0] S1x256x1024.size (inbC s)) (fun _ => rfl)).squeeze S256x1024 squeezes_S1x256x1024_S256x1024
  out d k := chunk A.o (offO d k.val) (inbO d k)

theorem pb_word (d : Bool) (s : Fin 2) : ((geo A).pb d s).view.WordExact := ((A.hpb d).wordExact_slice rfl _ (wordP s)).reshape _ _
theorem cm_word (d : Bool) (s : Fin 7) : ((geo A).cm d s).view.WordExact := ((A.hcm d).wordExact_slice rfl _ (wordC s)).reshape _ _
theorem out_word (d : Bool) (k : Fin 8) : ((geo A).out d k).view.WordExact := A.ho.wordExact_slice rfl _ (wordO d k)

/-- The chunk computed at step `s`: step 7 is the device's own first gathered chunk. -/
def chunkR (c : Dev nD) (d : Bool) (s : ℕ) : Fin 8 := chunkAt c d (s + 1)

theorem packO : ∀ (d : Bool) (k : Fin 8), (Rect.unit (s := S4096x1024) (offO d k.val) S256x1024.size (inbO d k)).PackedRows (EltTy.packing .bf16) := by decide +kernel
theorem packO_of (d : Bool) (k : Fin 8) {o : Fin S4096x1024.rank → ℕ} (h : ∀ a, o a + S256x1024.size a ≤ S4096x1024.size a) (e : o = offO d k.val) :
    (Rect.unit (s := S4096x1024) o S256x1024.size h).PackedRows (EltTy.packing .bf16) := by subst e; exact packO d k

theorem chunk_congr (m : Memref sig .tc .vmem S4096x1024 .bf16) {o o' : Fin S4096x1024.rank → ℕ} (h : ∀ a, o a + S256x1024.size a ≤ S4096x1024.size a)
    (h' : ∀ a, o' a + S256x1024.size a ≤ S4096x1024.size a) (e : o = o') : chunk m o h = chunk m o' h' := by subst e; rfl

/-- The offsets, the devices and the views as a program spells them. -/
structure Spell where
  offG : Dev nD → Bool → ℕ → Fin S4096x1024.rank → ℕ
  offG_eq : ∀ c d t, offG c d t = offO d (chunkAt c d t).val
  offR : Dev nD → Bool → Fin S4096x1024.rank → ℕ
  offR_eq : ∀ c d, offR c d = offO d (chunkR c d 7).val
  dvE : Dev nD → Bool → Dev nD
  dvE_eq : ∀ c d, dvE c d = peer c d

variable (T : Spell)

theorem offG_inb (c : Dev nD) (d : Bool) (t : ℕ) : ∀ a, T.offG c d t a + S256x1024.size a ≤ S4096x1024.size a := by
  rw [T.offG_eq]; exact inbO d _
theorem offR_inb (c : Dev nD) (d : Bool) : ∀ a, T.offR c d a + S256x1024.size a ≤ S4096x1024.size a := by
  rw [T.offR_eq]; exact inbO d _

/-- The chunk gathered at step `t`, as the program spells it. -/
def outAt (c : Dev nD) (d : Bool) (t : ℕ) : MR sig := chunk A.o (T.offG c d t) (offG_inb T c d t)
theorem outAt_eq (c : Dev nD) (d : Bool) (t : ℕ) : outAt A T c d t = (geo A).out d (chunkAt c d t) := chunk_congr _ _ _ (T.offG_eq c d t)

def srcE (c : Dev nD) (d : Bool) (q : ℕ) : MR sig := match q with
  | 0 => (geo A).pb d 0
  | 1 => (geo A).cm d 0 | 2 => (geo A).cm d 1 | 3 => (geo A).cm d 2 | 4 => (geo A).cm d 3 | 5 => (geo A).cm d 4 | 6 => (geo A).cm d 5
  | q + 7 => outAt A T c d q
def dstE (c : Dev nD) (d : Bool) (q : ℕ) : MR sig := match q with
  | 0 => (geo A).cm d 0 | 1 => (geo A).cm d 1 | 2 => (geo A).cm d 2 | 3 => (geo A).cm d 3 | 4 => (geo A).cm d 4 | 5 => (geo A).cm d 5 | 6 => (geo A).cm d 6
  | q + 7 => outAt A T c d q
theorem srcE_eq (c : Dev nD) (d : Bool) (q : ℕ) : srcE A T c d q = (geo A).src c d q := by
  rcases q with _ | _ | _ | _ | _ | _ | _ | q <;> first | rfl | exact (outAt_eq A T c d q).trans (by rw [Geo.src, if_neg (by omega)]; rfl)
theorem dstE_eq (c : Dev nD) (d : Bool) (q : ℕ) : dstE A T c d q = (geo A).dst c d q := by
  rcases q with _ | _ | _ | _ | _ | _ | _ | q <;> first | rfl | exact (outAt_eq A T c d q).trans (by rw [Geo.dst, if_neg (by omega)]; rfl)

def flat : Flat sig where
  dv := T.dvE
  src := srcE A T
  dst := dstE A T
  hsrc c d q := by
    rw [srcE_eq]; unfold Geo.src; split
    · split
      · exact pb_word A d 0
      · exact cm_word A d _
    · exact out_word A d _
  hdst c d q := by
    rw [dstE_eq]; unfold Geo.dst; split
    · exact cm_word A d _
    · exact out_word A d _
theorem flat_of : Flat.Of (flat A T) (geo A) := ⟨T.dvE_eq, srcE_eq A T, dstE_eq A T⟩

/-! ## The local work -/

abbrev rectX (off : Fin S4096x1024.rank → ℕ) (h : ∀ a, off a + S256x1024.size a ≤ S4096x1024.size a) : Rect S4096x1024 := Rect.unit (s := S4096x1024) off S256x1024.size h
abbrev rectP (s : Fin 2) : Rect S2x256x1024 := Rect.unit (s := S2x256x1024) ![s.val, 0, 0] S1x256x1024.size (inbP s)
abbrev rectC (s : Fin 7) : Rect S7x256x1024 := Rect.unit (s := S7x256x1024) ![s.val, 0, 0] S1x256x1024.size (inbC s)

def addV (u w : Vec F S1x256x1024 .bf16) : Vec F S1x256x1024 .bf16 := k2_pay12 u w
def finV (u w : Vec F S1x256x1024 .bf16) (gm : Vec F S1x1024 .bf16) (x : Vec F S256x1024 .bf16) : Vec F S256x1024 .bf16 := k2_pay65 u w gm x

def acc (c : Dev nD) (d : Bool) (s : ℕ) (k : Pg sig F Λ₀) : Pg sig F Λ₀ :=
  .op (.load (A.cm d) (rectC (s7 (s - 1))).toLoadRect (View.loadsAt_vmem h_S1x256x1024)) fun u =>
  .op (.load (A.pb d) (rectP (p2 s)).toLoadRect (View.loadsAt_vmem h_S1x256x1024)) fun w =>
  .op (.load (A.cm d) (rectC (s7 (s - 1))).toLoadRect (View.loadsAt_vmem h_S1x256x1024)) fun _ =>
  .op (.store (A.cm d) (rectC (s7 (s - 1))) (addV u w) Finset.univ
    (View.stores_vmem h_S1x256x1024 ((A.hcm d).storeExact_slice rfl _ (packC (s7 (s - 1)))) (fun _ => rfl)) (.inl rfl)) fun _ => k

variable (X : Memref sig .tc .vmem S4096x1024 .bf16) (G : Memref sig .tc .vmem S1x1024 .bf16)

/-- The last addition of a direction, the gate and the residual. -/
def fin1 (c : Dev nD) (d : Bool) (u w : Vec F S1x256x1024 .bf16) (gm : Vec F S1x1024 .bf16) (k : Pg sig F Λ₀) : Pg sig F Λ₀ :=
  .op (.load X (rectX (T.offR c d) (offR_inb T c d)).toLoadRect (View.loadsAt_vmem h_S256x1024)) fun x =>
  .op (.load A.o (rectX (T.offR c d) (offR_inb T c d)).toLoadRect (View.loadsAt_vmem h_S256x1024)) fun _ =>
  .op (.store A.o (rectX (T.offR c d) (offR_inb T c d)) (finV u w gm x) Finset.univ
    (View.stores_vmem h_S256x1024 (A.ho.storeExact_slice rfl _ (packO_of d _ (offR_inb T c d) (T.offR_eq c d))) (fun _ => rfl)) (.inl rfl)) fun _ => k

def fin (c : Dev nD) (k : Pg sig F Λ₀) : Pg sig F Λ₀ :=
  .op (.load (A.cm false) (rectC (s7 6)).toLoadRect (View.loadsAt_vmem h_S1x256x1024)) fun ur =>
  .op (.load (A.pb false) (rectP (p2 7)).toLoadRect (View.loadsAt_vmem h_S1x256x1024)) fun wr =>
  .op (.load (A.cm true) (rectC (s7 6)).toLoadRect (View.loadsAt_vmem h_S1x256x1024)) fun ul =>
  .op (.load (A.pb true) (rectP (p2 7)).toLoadRect (View.loadsAt_vmem h_S1x256x1024)) fun wl =>
  .op (.load G (Rect.unit (s := S1x1024) ![0, 0] S1x1024.size inb_S1x1024_S1x1024_0_0).toLoadRect (View.loadsAt_vmem h_S1x1024)) fun gm =>
  fin1 A T X c false ur wr gm (fin1 A T X c true ul wl gm k)

variable (c : Dev nD)

/-- Chunk `k` of the half of direction `d`. -/
def xAt (x : S4096x1024.Idx → Elt F .bf16) (d : Bool) (k : Fin 8) : Vec F S256x1024 .bf16 := fun y => x ((rectX (offO d k.val) (inbO d k)).emb y)

theorem numelS : SU.numel = S1x256x1024.numel := squeezes_S1x256x1024_S256x1024.numel_eq

theorem xAt_of (x : S4096x1024.Idx → Elt F .bf16) (d : Bool) (k : Fin 8) {o : Fin S4096x1024.rank → ℕ} (h : ∀ a, o a + S256x1024.size a ≤ S4096x1024.size a)
    (e : o = offO d k.val) : (fun y => x ((rectX o h).emb y)) = xAt x d k := by subst e; rfl

theorem emb_row {s : Shape} {e : EltTy} {off : Fin s.rank → ℕ} (inb : ∀ a, off a + s.size a ≤ s.size a) (v : s.Idx → Elt F e) :
    (fun x => v ((Rect.unit (s := s) off s.size inb).emb x)) = v := funext fun x => congrArg v (Rect.emb_unit_full inb x)

theorem has_pb (d : Bool) (s : Fin 2) (v : Ring.Vec F) : (holds c ((geo A).pb d s) v : sProp 𝕄) = has c ((A.pb d).access (rectP s)) (fat3 numelS v) :=
  has_reshape c ((A.pb d).access (rectP s)) numelS v
theorem has_cm (d : Bool) (s : Fin 7) (v : Ring.Vec F) : (holds c ((geo A).cm d s) v : sProp 𝕄) = has c ((A.cm d).access (rectC s)) (fat3 numelS v) :=
  has_reshape c ((A.cm d).access (rectC s)) numelS v
theorem has_out (d : Bool) (k : Fin 8) (v : Ring.Vec F) {o : Fin S4096x1024.rank → ℕ} (h : ∀ a, o a + S256x1024.size a ≤ S4096x1024.size a)
    (e : o = offO d k.val) : (holds c ((geo A).out d k) v : sProp 𝕄) = has c (A.o.access (rectX o h)) v := by subst e; rfl

theorem chunkR_seven (d : Bool) : chunkR c d 7 = chunkAt c d 0 := by revert c d; decide

variable (defs : Defs nD τ sig (Elt F) Λ₀) (𝒱 : Variants)

/-- The addition, without the leading axis. -/
def addU (u w : Ring.Vec F) : Ring.Vec F := flat3 numelS (addV (fat3 numelS u) (fat3 numelS w))

theorem acc_spec (d : Bool) (s : ℕ) (u w : Ring.Vec F) (k : Pg sig F Λ₀) (Q : PUnit.{1} → sProp (MT nD τ sig ℕ (Elt F) ℕ (UU sig) ℕ)) :
    iprop(holds c ((geo A).cm d (s7 (s - 1))) u ∗ holds c ((geo A).pb d (p2 s)) w
        ∗ ((holds c ((geo A).cm d (s7 (s - 1))) (addU u w) ∗ anyAt c ((geo A).pb d (p2 s))) -∗ wp frame (wpE defs 𝒱 (c : Thread nD τ) none) Set.univ k Q))
      ⊢ wp frame (wpE defs 𝒱 (c : Thread nD τ) none) Set.univ (acc A c d s k) Q := by
  unfold acc
  iintro ⟨HC, HP, HK⟩
  ihave HC := (Entails.of_eq (has_cm A c d (s7 (s - 1)) u)) $$ HC
  ihave HP := (Entails.of_eq (has_pb A c d (p2 s) w)) $$ HP
  iapply (wp_ldw defs 𝒱 c (fat3 numelS u)); isplitl [HC]; · iexact HC
  iintro HC
  iapply (wp_ldw defs 𝒱 c (fat3 numelS w)); isplitl [HP]; · iexact HP
  iintro HP
  iapply (wp_ldw defs 𝒱 c (fat3 numelS u)); isplitl [HC]; · iexact HC
  iintro HC
  iapply (wp_stw defs 𝒱 c (fat3 numelS u)); isplitl [HC]; · iexact HC
  iintro HC
  iapply HK
  have e : (has c ((A.cm d).access (rectC (s7 (s - 1)))) (addV (fat3 numelS u) (fat3 numelS w)) : sProp 𝕄)
      = holds c ((geo A).cm d (s7 (s - 1))) (addU u w) := by
    rw [has_cm, addU, fat_flat]
  ihave HC := (Entails.of_eq e) $$ HC
  ihave HP := (Entails.of_eq (has_pb A c d (p2 s) w).symm) $$ HP
  isplitl [HC]; · iexact HC
  iapply (holds_any c ((geo A).pb d (p2 s)) w)
  iexact HP

variable (x : S4096x1024.Idx → Elt F .bf16) (gm : S1x1024.Idx → Elt F .bf16)

theorem fin1_spec (d : Bool) (u w : Ring.Vec F) (k : Pg sig F Λ₀) (Q : PUnit.{1} → sProp (MT nD τ sig ℕ (Elt F) ℕ (UU sig) ℕ)) :
    iprop(has c X.view x ∗ anyAt c ((geo A).out d (chunkAt c d 0))
        ∗ ((has c X.view x ∗ holds c ((geo A).out d (chunkAt c d 0)) (finV (fat3 numelS u) (fat3 numelS w) gm (xAt x d (chunkR c d 7)))) -∗ wp frame (wpE defs 𝒱 (c : Thread nD τ) none) Set.univ k Q))
      ⊢ wp frame (wpE defs 𝒱 (c : Thread nD τ) none) Set.univ
        (fin1 A T X c d (fat3 numelS u) (fat3 numelS w) gm k) Q := by
  unfold fin1
  have ho : T.offR c d = offO d (chunkAt c d 0).val := by rw [T.offR_eq, chunkR_seven]
  iintro ⟨H1, HO, HK⟩
  ihave HO := (any_has c ((geo A).out d (chunkAt c d 0))) $$ HO
  icases HO with ⟨%v, HO⟩
  ihave HO := (Entails.of_eq (has_out A c d (chunkAt c d 0) v (offR_inb T c d) ho)) $$ HO
  iapply (wp_ld defs 𝒱 c x (xAt x d (chunkR c d 7)) (xAt_of x d (chunkR c d 7) (offR_inb T c d) (T.offR_eq c d))); isplitl [H1]; · iexact H1
  iintro H1
  iapply (wp_ldw defs 𝒱 c v); isplitl [HO]; · iexact HO
  iintro HO
  iapply (wp_stw defs 𝒱 c v); isplitl [HO]; · iexact HO
  iintro HO
  iapply HK
  isplitl [H1]; · iexact H1
  have e : (has c (A.o.access (rectX (T.offR c d) (offR_inb T c d))) (finV (fat3 numelS u) (fat3 numelS w) gm (xAt x d (chunkR c d 7))) : sProp 𝕄)
      = holds c ((geo A).out d (chunkAt c d 0)) (finV (fat3 numelS u) (fat3 numelS w) gm (xAt x d (chunkR c d 7))) := by
    rw [has_out A c d (chunkAt c d 0) _ (offR_inb T c d) ho]
  ihave HO := (Entails.of_eq e) $$ HO
  iexact HO

theorem fin_spec (u w : Bool → Ring.Vec F) (k : Pg sig F Λ₀) (Q : PUnit.{1} → sProp (MT nD τ sig ℕ (Elt F) ℕ (UU sig) ℕ)) :
    iprop((has c X.view x ∗ has c G.view gm) ∗ both (fun d => holds c ((geo A).cm d (s7 6)) (u d)) ∗ both (fun d => holds c ((geo A).pb d (p2 7)) (w d))
        ∗ both (fun d => anyAt c ((geo A).out d (chunkAt c d 0)))
        ∗ (((has c X.view x ∗ has c G.view gm) ∗ both (fun d => anyAt c ((geo A).cm d (s7 6))) ∗ both (fun d => anyAt c ((geo A).pb d (p2 7)))
            ∗ both (fun d => holds c ((geo A).out d (chunkAt c d 0)) (finV (fat3 numelS (u d)) (fat3 numelS (w d)) gm (xAt x d (chunkR c d 7)))))
          -∗ wp frame (wpE defs 𝒱 (c : Thread nD τ) none) Set.univ k Q))
      ⊢ wp frame (wpE defs 𝒱 (c : Thread nD τ) none) Set.univ (fin A T X G c k) Q := by
  unfold fin both
  iintro ⟨⟨H1, H4⟩, ⟨C0, C1⟩, ⟨P0, P1⟩, ⟨O0, O1⟩, HK⟩
  ihave C0 := (Entails.of_eq (has_cm A c false (s7 6) (u false))) $$ C0
  ihave C1 := (Entails.of_eq (has_cm A c true (s7 6) (u true))) $$ C1
  ihave P0 := (Entails.of_eq (has_pb A c false (p2 7) (w false))) $$ P0
  ihave P1 := (Entails.of_eq (has_pb A c true (p2 7) (w true))) $$ P1
  iapply (wp_ldw defs 𝒱 c (fat3 numelS (u false))); isplitl [C0]; · iexact C0
  iintro C0
  iapply (wp_ldw defs 𝒱 c (fat3 numelS (w false))); isplitl [P0]; · iexact P0
  iintro P0
  iapply (wp_ldw defs 𝒱 c (fat3 numelS (u true))); isplitl [C1]; · iexact C1
  iintro C1
  iapply (wp_ldw defs 𝒱 c (fat3 numelS (w true))); isplitl [P1]; · iexact P1
  iintro P1
  iapply (wp_ld defs 𝒱 c gm gm (emb_row inb_S1x1024_S1x1024_0_0 gm)); isplitl [H4]; · iexact H4
  iintro H4
  iapply (fin1_spec A T X c defs 𝒱 x gm false (u false) (w false))
  isplitl [H1]; · iexact H1
  isplitl [O0]; · iexact O0
  iintro ⟨H1, O0⟩
  iapply (fin1_spec A T X c defs 𝒱 x gm true (u true) (w true))
  isplitl [H1]; · iexact H1
  isplitl [O1]; · iexact O1
  iintro ⟨H1, O1⟩
  iapply HK
  ihave C0 := (BIBase.Entails.trans (Entails.of_eq (has_cm A c false (s7 6) (u false)).symm) (holds_any c _ _)) $$ C0
  ihave C1 := (BIBase.Entails.trans (Entails.of_eq (has_cm A c true (s7 6) (u true)).symm) (holds_any c _ _)) $$ C1
  ihave P0 := (BIBase.Entails.trans (Entails.of_eq (has_pb A c false (p2 7) (w false)).symm) (holds_any c _ _)) $$ P0
  ihave P1 := (BIBase.Entails.trans (Entails.of_eq (has_pb A c true (p2 7) (w true)).symm) (holds_any c _ _)) $$ P1
  isplitl [H1 H4]
  · isplitl [H1]; · iexact H1
    iexact H4
  isplitl [C0 C1]
  · isplitl [C0]; · iexact C0
    iexact C1
  isplitl [P0 P1]
  · isplitl [P0]; · iexact P0
    iexact P1
  isplitl [O0]; · iexact O0
  iexact O1

/-! ## The buffers in pieces -/

theorem pieceP_disjoint : ∀ s s' : Fin 2, s ≠ s' → Disjoint (rectP s).set (rectP s').set :=
  Idealize.ShloMosaic.Ring.lead_disjoint (s := S2x256x1024) 0 1 (fun s : Fin 2 => ![s.val, 0, 0]) S1x256x1024.size inbP (fun s => (Nat.one_mul _).symm) rfl
theorem pieceP_cover : Finset.univ.biUnion (fun s : Fin 2 => (rectP s).set) = Finset.univ :=
  Idealize.ShloMosaic.Ring.lead_cover (s := S2x256x1024) 0 1 (fun s : Fin 2 => ![s.val, 0, 0]) S1x256x1024.size inbP (fun s => (Nat.one_mul _).symm)
    (by decide) rfl (by decide) (by decide)
theorem pieceC_disjoint : ∀ s s' : Fin 7, s ≠ s' → Disjoint (rectC s).set (rectC s').set :=
  Idealize.ShloMosaic.Ring.lead_disjoint (s := S7x256x1024) 0 1 (fun s : Fin 7 => ![s.val, 0, 0]) S1x256x1024.size inbC (fun s => (Nat.one_mul _).symm) rfl
theorem pieceC_cover : Finset.univ.biUnion (fun s : Fin 7 => (rectC s).set) = Finset.univ :=
  Idealize.ShloMosaic.Ring.lead_cover (s := S7x256x1024) 0 1 (fun s : Fin 7 => ![s.val, 0, 0]) S1x256x1024.size inbC (fun s => (Nat.one_mul _).symm)
    (by decide) rfl (by decide) (by decide)

/-- The chunk `x.2` of the half of direction `x.1`. -/
abbrev rectO (x : Bool × Fin 8) : Rect S4096x1024 := rectX (offO x.1 x.2.val) (inbO x.1 x.2)
theorem mem_rectO (x : Bool × Fin 8) (i : S4096x1024.Idx) :
    i ∈ (rectO x).set ↔ 256 * x.2.val + (if x.1 then 2048 else 0) ≤ (i 0).val ∧ (i 0).val < 256 * x.2.val + (if x.1 then 2048 else 0) + 256 := by
  refine Rect.mem_set_unit.trans ⟨fun h => h 0, fun h a => ?_⟩
  have e : a = 0 ∨ a = 1 := by revert a; decide
  rcases e with rfl | rfl
  · exact h
  · exact ⟨Nat.zero_le _, by rw [show offO x.1 x.2.val 1 = 0 from rfl, Nat.zero_add]; exact (i 1).isLt⟩
theorem pieceO_disjoint (x y : Bool × Fin 8) (h : x ≠ y) : Disjoint (rectO x).set (rectO y).set := by
  rw [Finset.disjoint_left]
  intro i hi hj
  rw [mem_rectO] at hi hj
  apply h
  obtain ⟨d, k⟩ := x
  obtain ⟨d', k'⟩ := y
  have hk := k.isLt
  have hk' := k'.isLt
  cases d <;> cases d' <;> simp only [if_true, if_false, Bool.false_eq_true] at hi hj <;>
    first | (exact congrArg (Prod.mk _) (Fin.ext (by omega))) | (exfalso; omega)
theorem pieceO_cover : Finset.univ.biUnion (fun x : Bool × Fin 8 => (rectO x).set) = Finset.univ := by
  ext i
  simp only [Finset.mem_biUnion, Finset.mem_univ, true_and, iff_true]
  have hi : (i 0).val < 4096 := (i 0).isLt
  by_cases h : (i 0).val < 2048
  · exact ⟨(false, ⟨(i 0).val / 256, by omega⟩), (mem_rectO _ i).mpr (by simp only [if_false, Bool.false_eq_true]; omega)⟩
  · exact ⟨(true, ⟨((i 0).val - 2048) / 256, by omega⟩), (mem_rectO _ i).mpr (by simp only [if_true]; omega)⟩

theorem any_pb (d : Bool) (s : Fin 2) : (anyAt c ((geo A).pb d s) : sProp 𝕄) = some_ c ((A.pb d).view.slice (rectP s)) :=
  some_reshape c ((A.pb d).view.slice (rectP s)) numelS
theorem any_cm (d : Bool) (s : Fin 7) : (anyAt c ((geo A).cm d s) : sProp 𝕄) = some_ c ((A.cm d).view.slice (rectC s)) :=
  some_reshape c ((A.cm d).view.slice (rectC s)) numelS

theorem pb_split (d : Bool) : (some_ c (A.pb d).view : sProp 𝕄) ⊢ bigSep Finset.univ fun s => anyAt c ((geo A).pb d s) :=
  BIBase.Entails.trans (some_split c (A.pb d).view rectP pieceP_disjoint pieceP_cover) (bigSep_mono fun s _ => Entails.of_eq (any_pb A c d s).symm)
theorem cm_split (d : Bool) : (some_ c (A.cm d).view : sProp 𝕄) ⊢ bigSep Finset.univ fun s => anyAt c ((geo A).cm d s) :=
  BIBase.Entails.trans (some_split c (A.cm d).view rectC pieceC_disjoint pieceC_cover) (bigSep_mono fun s _ => Entails.of_eq (any_cm A c d s).symm)
theorem pb_join (d : Bool) : (bigSep Finset.univ fun s => anyAt c ((geo A).pb d s)) ⊢ (some_ c (A.pb d).view : sProp 𝕄) :=
  BIBase.Entails.trans (bigSep_mono fun s _ => Entails.of_eq (any_pb A c d s)) (some_join c (A.pb d).view rectP pieceP_disjoint pieceP_cover (fun _ => Classical.choice inferInstance))
theorem cm_join (d : Bool) : (bigSep Finset.univ fun s => anyAt c ((geo A).cm d s)) ⊢ (some_ c (A.cm d).view : sProp 𝕄) :=
  BIBase.Entails.trans (bigSep_mono fun s _ => Entails.of_eq (any_cm A c d s)) (some_join c (A.cm d).view rectC pieceC_disjoint pieceC_cover (fun _ => Classical.choice inferInstance))

/-! ## The result in chunks -/

theorem emb_val_unit {s : Shape} (off size : Fin s.rank → ℕ) (inb : ∀ a, off a + size a ≤ s.size a) (j : (Rect.unit off size inb).shape.Idx) (a : Fin s.rank) :
    ((Rect.unit off size inb).emb j a).val = off a + (j a).val := by
  show off a + 1 * (j a).val = _
  rw [Nat.one_mul]

/-- The row of the result and its chunk. -/
def halfOf (i : S4096x1024.Idx) : Bool := decide (2048 ≤ (i 0).val)
def chunkOf (i : S4096x1024.Idx) : Fin 8 := ⟨(i 0).val % 2048 / 256, by have : (i 0).val % 2048 < 2048 := Nat.mod_lt _ (by decide); omega⟩
def within (i : S4096x1024.Idx) : SU.Idx := fun a => match a with
  | ⟨0, _⟩ => (⟨(i 0).val % 256, Nat.mod_lt _ (by decide)⟩ : Fin 256)
  | ⟨1, _⟩ => (i 1 : Fin 1024)
/-- The result, from its chunks. -/
def assemble (w : Bool → Fin 8 → Ring.Vec F) : S4096x1024.Idx → Elt F .bf16 := fun i => w (halfOf i) (chunkOf i) (within i)

theorem row_emb (x : Bool × Fin 8) (z : (rectO x).shape.Idx) : ((rectO x).emb z 0).val = 256 * x.2.val + (if x.1 then 2048 else 0) + (z 0).val := by
  rw [emb_val_unit]; rfl
theorem assemble_emb (w : Bool → Fin 8 → Ring.Vec F) (x : Bool × Fin 8) (z : (rectO x).shape.Idx) : assemble w ((rectO x).emb z) = w x.1 x.2 z := by
  have h0 := row_emb x z
  have hz : (z 0).val < 256 := (z 0).isLt
  have hk := x.2.isLt
  obtain ⟨d, k⟩ := x
  have e1 : halfOf ((rectO (d, k)).emb z) = d := by
    unfold halfOf; rw [h0]; cases d <;> simp <;> omega
  have e2 : chunkOf ((rectO (d, k)).emb z) = k := by
    apply Fin.ext; unfold chunkOf; dsimp only; rw [h0]; cases d <;> simp <;> omega
  have e3 : within ((rectO (d, k)).emb z) = z := by
    funext a
    match a with
    | ⟨0, _⟩ => apply Fin.ext; show ((rectO (d, k)).emb z 0).val % 256 = (z 0).val; rw [h0]; cases d <;> simp <;> omega
    | ⟨1, _⟩ => apply Fin.ext; show ((rectO (d, k)).emb z 1).val = (z 1).val; rw [emb_val_unit]; exact Nat.zero_add _
  unfold assemble
  rw [e1, e2, e3]

theorem out_split : (some_ c A.o.view : sProp 𝕄) ⊢ both (fun d => bigSep Finset.univ fun k => anyAt c ((geo A).out d k)) := by
  refine BIBase.Entails.trans (some_split c A.o.view rectO pieceO_disjoint pieceO_cover) (Entails.of_eq ?_)
  rw [bigSep_univ_prod, bigSep_bool]
  rfl
theorem out_join (w : Bool → Fin 8 → Ring.Vec F) :
    both (fun d => bigSep Finset.univ fun k => holds c ((geo A).out d k) (w d k)) ⊢ (has c A.o.view (assemble w) : sProp 𝕄) := by
  refine BIBase.Entails.trans (Entails.of_eq ?_)
    (has_join c A.o.view rectO pieceO_disjoint pieceO_cover (fun _ => Classical.choice inferInstance) (fun x => w x.1 x.2) (assemble w) (assemble_emb w))
  rw [bigSep_univ_prod, bigSep_bool]
  rfl

end Cert.Tile
-- ==== Proof.Attn.lean ====
/- The local work of the attention body, and its text as the ring's. -/
module

public import proofs.«01_k».proof.Proof.Tiles

@[expose] public section

noncomputable section

namespace Cert.Attn

open Idealize.ShloMosaic
open Idealize.ShloMosaic.TcCoe
open Idealize.SL Idealize.SL.Sem
open Cert.KernelIdeal Cert.KernelIdeal.Gen
open Cert.Ring (peer chunkAt s7 p2 Geo Flat Ops MR Pg)
open Cert.Tile

variable {F : FTy → Type} [FloatOps F]

/-- What the body is called with. -/
structure Args where
  q : Memref sig .tc .vmem S4096x1024 .bf16
  hq : q.IsWhole
  k : Memref sig .tc .vmem S4096x1024 .bf16
  hk : k.IsWhole
  v : Memref sig .tc .vmem S4096x1024 .bf16
  hv : v.IsWhole
  wo : Memref sig .tc .vmem S1024x1024 .bf16
  hwo : wo.IsWhole
  x : Memref sig .tc .vmem S4096x1024 .bf16
  hx : x.IsWhole
  ga : Memref sig .tc .vmem S1x1024 .bf16
  hga : ga.IsWhole
  o : Memref sig .tc .vmem S4096x1024 .bf16
  ho : o.IsWhole
  pb : Bool → Memref sig .tc .vmem S2x256x1024 .bf16
  hpb : ∀ d, (pb d).IsWhole
  ab : Memref sig .tc .vmem S256x1024 .bf16
  hab : ab.IsWhole
  cm : Bool → Memref sig .tc .vmem S7x256x1024 .bf16
  hcm : ∀ d, (cm d).IsWhole
  sS : Bool → DmaSems sig S7
  vS : Bool → DmaSems sig S7
  ex : Sems sig S_

variable (A : Args)

abbrev Args.call (A : Args) : Pg sig F Λ₀ :=
  cc1__attn_body A.q A.hq A.k A.hk A.v A.hv A.wo A.hwo A.x A.hx A.ga A.hga A.o A.ho (A.pb false) (A.hpb false) (A.pb true) (A.hpb true) A.ab A.hab
    (A.cm false) (A.hcm false) (A.cm true) (A.hcm true) (A.sS false) (A.vS false) (A.sS true) (A.vS true) A.ex

/-- Its buffers and semaphores. -/
abbrev Args.bufs (A : Args) : Bufs where
  o := A.o
  ho := A.ho
  pb := A.pb
  hpb := A.hpb
  cm := A.cm
  hcm := A.hcm
  sS := A.sS
  vS := A.vS
  ex := A.ex
  bar := SemArray.scalar (sig.barrier 0 rfl)

/-! ## The offsets as the program computes them -/

/-- Where the chunk gathered at step `t` starts. -/
def offG (c : Dev nD) (d : Bool) (t : ℕ) : Fin S4096x1024.rank → ℕ := match d, t with
  | false, 0 => k1_off51 c
  | true, 0 => k1_off52 c
  | false, 1 => k1_off53 c 1#32
  | true, 1 => k1_off54 c 1#32
  | false, 2 => k1_off53 c 2#32
  | true, 2 => k1_off54 c 2#32
  | false, 3 => k1_off53 c 3#32
  | true, 3 => k1_off54 c 3#32
  | false, 4 => k1_off53 c 4#32
  | true, 4 => k1_off54 c 4#32
  | false, 5 => k1_off53 c 5#32
  | true, 5 => k1_off54 c 5#32
  | false, 6 => k1_off53 c 6#32
  | true, 6 => k1_off54 c 6#32
  | d, t => offO d (chunkAt c d t).val
theorem offG_eq (c : Dev nD) (d : Bool) (t : ℕ) : offG c d t = offO d (chunkAt c d t).val := by
  rcases t with _ | _ | _ | _ | _ | _ | _ | t <;> cases d <;> first | (revert c; decide +kernel) | rfl
/-- Where the device's own chunk of each half starts. -/
def offR (c : Dev nD) (d : Bool) : Fin S4096x1024.rank → ℕ := match d with
  | false => k1_off49 c
  | true => k1_off50 c
theorem offR_eq (c : Dev nD) (d : Bool) : offR c d = offO d (chunkR c d 7).val := by
  cases d <;> (revert c; decide +kernel)

/-- The device a transfer goes to, as the program computes it. -/
def dvE (c : Dev nD) : Bool → Dev nD
  | false => ⟨k1_dev2 c, k1_dev2_lt c⟩
  | true => ⟨k1_dev1 c, k1_dev1_lt c⟩
theorem dvE_eq (c : Dev nD) (d : Bool) : dvE c d = peer c d := by cases d <;> (revert c; decide +kernel)

def spell : Spell where
  offG := offG
  offG_eq := offG_eq
  offR := offR
  offR_eq := offR_eq
  dvE := dvE
  dvE_eq := dvE_eq

/-- Where the rows of chunk `k` and the columns of head `h` start. -/
def offH (d : Bool) (k : ℕ) (h : ℕ) : Fin S4096x1024.rank → ℕ := ![256 * k + (if d then 2048 else 0), 128 * h]
/-- Where the columns of head `h` start. -/
def offC (h : ℕ) : Fin 2 → ℕ := ![0, 128 * h]

theorem trips1 : k1_t1_loop.trips = 8 := by decide +kernel
theorem trips2 : k1_t2_loop.trips = 8 := by decide +kernel
theorem trips3 : k1_t3_loop.trips = 8 := by decide +kernel
theorem trips4 : k1_t4_loop.trips = 8 := by decide +kernel
theorem trips5 : k1_t5_loop.trips = 8 := by decide +kernel
theorem trips6 : k1_t6_loop.trips = 8 := by decide +kernel
theorem trips7 : k1_t7_loop.trips = 8 := by decide +kernel
theorem trips8 : k1_t8_loop.trips = 8 := by decide +kernel
theorem trips9 : k1_t9_loop.trips = 8 := by decide +kernel
theorem trips10 : k1_t10_loop.trips = 8 := by decide +kernel
theorem trips11 : k1_t11_loop.trips = 8 := by decide +kernel
theorem trips12 : k1_t12_loop.trips = 8 := by decide +kernel
theorem trips13 : k1_t13_loop.trips = 8 := by decide +kernel
theorem trips14 : k1_t14_loop.trips = 8 := by decide +kernel
theorem trips15 : k1_t15_loop.trips = 8 := by decide +kernel
theorem trips16 : k1_t16_loop.trips = 8 := by decide +kernel

/-- The queries of a head, as the program spells their place. -/
def offQ (c : Dev nD) (d : Bool) (s : ℕ) (h : Fin 8) : Fin S4096x1024.rank → ℕ := match d, s with
  | false, 0 => k1_off1 c (Fin.cast trips1.symm h)
  | true, 0 => k1_off4 c (Fin.cast trips2.symm h)
  | false, 1 => k1_off7 c (Fin.cast trips3.symm h)
  | true, 1 => k1_off10 c (Fin.cast trips4.symm h)
  | false, 2 => k1_off13 c (Fin.cast trips5.symm h)
  | true, 2 => k1_off16 c (Fin.cast trips6.symm h)
  | false, 3 => k1_off19 c (Fin.cast trips7.symm h)
  | true, 3 => k1_off22 c (Fin.cast trips8.symm h)
  | false, 4 => k1_off25 c (Fin.cast trips9.symm h)
  | true, 4 => k1_off28 c (Fin.cast trips10.symm h)
  | false, 5 => k1_off31 c (Fin.cast trips11.symm h)
  | true, 5 => k1_off34 c (Fin.cast trips12.symm h)
  | false, 6 => k1_off37 c (Fin.cast trips13.symm h)
  | true, 6 => k1_off40 c (Fin.cast trips14.symm h)
  | false, 7 => k1_off43 c (Fin.cast trips15.symm h)
  | true, 7 => k1_off46 c (Fin.cast trips16.symm h)
  | d, s => offH d (chunkR c d s).val h.val
/-- The keys and the values of a head. -/
def offK (d : Bool) (s : ℕ) (h : Fin 8) : Fin S4096x1024.rank → ℕ := match d, s with
  | false, 0 => k1_off2 (Fin.cast trips1.symm h)
  | true, 0 => k1_off5 (Fin.cast trips2.symm h)
  | false, 1 => k1_off8 (Fin.cast trips3.symm h)
  | true, 1 => k1_off11 (Fin.cast trips4.symm h)
  | false, 2 => k1_off14 (Fin.cast trips5.symm h)
  | true, 2 => k1_off17 (Fin.cast trips6.symm h)
  | false, 3 => k1_off20 (Fin.cast trips7.symm h)
  | true, 3 => k1_off23 (Fin.cast trips8.symm h)
  | false, 4 => k1_off26 (Fin.cast trips9.symm h)
  | true, 4 => k1_off29 (Fin.cast trips10.symm h)
  | false, 5 => k1_off32 (Fin.cast trips11.symm h)
  | true, 5 => k1_off35 (Fin.cast trips12.symm h)
  | false, 6 => k1_off38 (Fin.cast trips13.symm h)
  | true, 6 => k1_off41 (Fin.cast trips14.symm h)
  | false, 7 => k1_off44 (Fin.cast trips15.symm h)
  | true, 7 => k1_off47 (Fin.cast trips16.symm h)
  | _, _ => offC h.val
/-- The columns of a head. -/
def offB (d : Bool) (s : ℕ) (h : Fin 8) : Fin S256x1024.rank → ℕ := match d, s with
  | false, 0 => k1_off3 (Fin.cast trips1.symm h)
  | true, 0 => k1_off6 (Fin.cast trips2.symm h)
  | false, 1 => k1_off9 (Fin.cast trips3.symm h)
  | true, 1 => k1_off12 (Fin.cast trips4.symm h)
  | false, 2 => k1_off15 (Fin.cast trips5.symm h)
  | true, 2 => k1_off18 (Fin.cast trips6.symm h)
  | false, 3 => k1_off21 (Fin.cast trips7.symm h)
  | true, 3 => k1_off24 (Fin.cast trips8.symm h)
  | false, 4 => k1_off27 (Fin.cast trips9.symm h)
  | true, 4 => k1_off30 (Fin.cast trips10.symm h)
  | false, 5 => k1_off33 (Fin.cast trips11.symm h)
  | true, 5 => k1_off36 (Fin.cast trips12.symm h)
  | false, 6 => k1_off39 (Fin.cast trips13.symm h)
  | true, 6 => k1_off42 (Fin.cast trips14.symm h)
  | false, 7 => k1_off45 (Fin.cast trips15.symm h)
  | true, 7 => k1_off48 (Fin.cast trips16.symm h)
  | _, _ => offC h.val

theorem offQ_eq (c : Dev nD) (d : Bool) (s : ℕ) (h : Fin 8) : offQ c d s h = offH d (chunkR c d s).val h.val := by
  rcases s with _ | _ | _ | _ | _ | _ | _ | _ | s <;> cases d <;> first | (revert c h; decide +kernel) | rfl
theorem offK_eq (d : Bool) (s : ℕ) (h : Fin 8) : offK d s h = offC h.val := by
  rcases s with _ | _ | _ | _ | _ | _ | _ | _ | s <;> cases d <;> first | (revert h; decide +kernel) | rfl
theorem offB_eq (d : Bool) (s : ℕ) (h : Fin 8) : offB d s h = offC h.val := by
  rcases s with _ | _ | _ | _ | _ | _ | _ | _ | s <;> cases d <;> first | (revert h; decide +kernel) | rfl

theorem inbH : ∀ (d : Bool) (k h : Fin 8), ∀ a, offH d k.val h.val a + S256x128.size a ≤ S4096x1024.size a := by decide +kernel
theorem inbK : ∀ (h : Fin 8), ∀ a, offC h.val a + S4096x128.size a ≤ S4096x1024.size a := by decide +kernel
theorem inbB : ∀ (h : Fin 8), ∀ a, offC h.val a + S256x128.size a ≤ S256x1024.size a := by decide +kernel
theorem offQ_inb (c : Dev nD) (d : Bool) (s : ℕ) (h : Fin 8) : ∀ a, offQ c d s h a + S256x128.size a ≤ S4096x1024.size a := by
  rw [offQ_eq]; exact inbH d _ h
theorem offK_inb (d : Bool) (s : ℕ) (h : Fin 8) : ∀ a, offK d s h a + S4096x128.size a ≤ S4096x1024.size a := by
  rw [offK_eq]; exact inbK h
theorem offB_inb (d : Bool) (s : ℕ) (h : Fin 8) : ∀ a, offB d s h a + S256x128.size a ≤ S256x1024.size a := by
  rw [offB_eq]; exact inbB h
theorem packB : ∀ (h : Fin 8), (Rect.unit (s := S256x1024) (offC h.val) S256x128.size (inbB h)).PackedRows (EltTy.packing .bf16) := by decide +kernel
theorem packB_of (h : Fin 8) {o : Fin S256x1024.rank → ℕ} (hi : ∀ a, o a + S256x128.size a ≤ S256x1024.size a) (e : o = offC h.val) :
    (Rect.unit (s := S256x1024) o S256x128.size hi).PackedRows (EltTy.packing .bf16) := by subst e; exact packB h

/-! ## The local work -/

abbrev rectQ (off : Fin S4096x1024.rank → ℕ) (h : ∀ a, off a + S256x128.size a ≤ S4096x1024.size a) : Rect S4096x1024 := Rect.unit (s := S4096x1024) off S256x128.size h
abbrev rectK (off : Fin S4096x1024.rank → ℕ) (h : ∀ a, off a + S4096x128.size a ≤ S4096x1024.size a) : Rect S4096x1024 := Rect.unit (s := S4096x1024) off S4096x128.size h
abbrev rectB (off : Fin S256x1024.rank → ℕ) (h : ∀ a, off a + S256x128.size a ≤ S256x1024.size a) : Rect S256x1024 := Rect.unit (s := S256x1024) off S256x128.size h

/-- One head of one chunk. -/
def headV (q : Vec F S256x128 .bf16) (k v : Vec F S4096x128 .bf16) : Vec F S256x128 .bf16 := k1_pay1 q k v
/-- The heads of a chunk times the device's rows of the output weights. -/
def projV (a : Vec F S256x1024 .bf16) (w : Vec F S1024x1024 .bf16) : Vec F S1x256x1024 .bf16 := k1_pay3 (k1_pay2 a w)

/-- Head `h`, as the program computes it. -/
def head (c : Dev nD) (d : Bool) (s : ℕ) (h : Fin 8) (_ : Unit) : Prog (TpuEff nD τ sig (Elt F) Λ₀ .tc) Unit :=
  .op (.load A.q (rectQ (offQ c d s h) (offQ_inb c d s h)).toLoadRect (View.loadsAt_vmem h_S256x128)) fun q =>
  .op (.load A.k (rectK (offK d s h) (offK_inb d s h)).toLoadRect (View.loadsAt_vmem h_S4096x128)) fun k =>
  .op (.load A.v (rectK (offK d s h) (offK_inb d s h)).toLoadRect (View.loadsAt_vmem h_S4096x128)) fun v =>
  .op (.load A.ab (rectB (offB d s h) (offB_inb d s h)).toLoadRect (View.loadsAt_vmem h_S256x128)) fun _ =>
  .op (.store A.ab (rectB (offB d s h) (offB_inb d s h)) (headV q k v) Finset.univ
    (View.stores_vmem h_S256x128 (A.hab.storeExact_slice rfl _ (packB_of h (offB_inb d s h) (offB_eq d s h))) (fun _ => rfl)) (.inl rfl)) fun _ => .ret ⟨⟩

/-- Eight trips of a counted loop. -/
def eight {E : Type → Type} (body : Fin 8 → Unit → Prog E Unit) : Prog E Unit := Scf.forFrom body [0, 1, 2, 3, 4, 5, 6, 7] ⟨⟩
theorem eight_eq {E : Type → Type} (body : Fin 8 → Unit → Prog E Unit) : eight body = Scf.forFrom body (List.finRange 8) ⟨⟩ :=
  congrArg (fun l => Scf.forFrom body l ⟨⟩) (by decide)
theorem from_eight {E : Type → Type} {n : ℕ} (h : n = 8) (i : Unit) (body : Fin n → Unit → Prog E Unit) :
    Scf.forFrom body (List.finRange n) i = eight fun k => body (Fin.cast h.symm k) := by
  subst h
  rw [eight_eq]
  rfl
theorem for_eight {E : Type → Type} (l : Scf.Loop 32) (hok : l.OK) (h : l.trips = 8) (i : Unit) (body : Fin l.trips → Unit → Prog E Unit) :
    Scf.Loop.for l hok i body = eight fun k => body (Fin.cast h.symm k) :=
  (Scf.for_eq _ _ _ hok i body).trans (from_eight h i body)

def compute (c : Dev nD) (d : Bool) (s : ℕ) (k : Pg sig F Λ₀) : Pg sig F Λ₀ :=
  eight (head A c d s) >>= fun _ =>
  .op (.load A.ab (Rect.unit (s := S256x1024) ![0, 0] S256x1024.size inb_S256x1024_S256x1024_0_0).toLoadRect (View.loadsAt_vmem h_S256x1024)) fun a =>
  .op (.load A.wo (Rect.unit (s := S1024x1024) ![0, 0] S1024x1024.size inb_S1024x1024_S1024x1024_0_0).toLoadRect (View.loadsAt_vmem h_S1024x1024)) fun w =>
  .op (.load (A.bufs.pb d) (rectP (p2 s)).toLoadRect (View.loadsAt_vmem h_S1x256x1024)) fun _ =>
  .op (.store (A.bufs.pb d) (rectP (p2 s)) (projV a w) Finset.univ
    (View.stores_vmem h_S1x256x1024 ((A.bufs.hpb d).storeExact_slice rfl _ (packP (p2 s))) (fun _ => rfl)) (.inl rfl)) fun _ => k

def ops : Ops sig F Λ₀ := ⟨compute A, acc A.bufs, fin A.bufs spell A.x A.ga⟩

set_option maxRecDepth 1000000 in
set_option maxHeartbeats 4000000 in
theorem call_eq : A.call (F := F) = Ring.body (geo A.bufs) (flat A.bufs spell) (ops A) := by
  unfold Args.call
  rw [cc1__attn_body_eq_skeleton]
  unfold cc1__attn_body_skel
  rw [k1_part40_eq_skeleton]
  unfold k1_part40_skel
  simp only [k1_part1_eq_skeleton, k1_part1_skel, for_eight k1_t1_loop k1_t1_ok trips1]
  simp only [k1_part2_eq_skeleton, k1_part2_skel, for_eight k1_t2_loop k1_t2_ok trips2]
  simp only [k1_part3_eq_skeleton, k1_part3_skel, for_eight k1_t3_loop k1_t3_ok trips3]
  simp only [k1_part4_eq_skeleton, k1_part4_skel, for_eight k1_t4_loop k1_t4_ok trips4]
  simp only [k1_part7_eq_skeleton, k1_part7_skel, for_eight k1_t5_loop k1_t5_ok trips5, for_eight k1_t6_loop k1_t6_ok trips6]
  simp only [k1_part10_eq_skeleton, k1_part10_skel, for_eight k1_t7_loop k1_t7_ok trips7]
  simp only [k1_part11_eq_skeleton, k1_part11_skel, for_eight k1_t8_loop k1_t8_ok trips8]
  simp only [k1_part14_eq_skeleton, k1_part14_skel, for_eight k1_t9_loop k1_t9_ok trips9, for_eight k1_t10_loop k1_t10_ok trips10]
  simp only [k1_part17_eq_skeleton, k1_part17_skel, for_eight k1_t11_loop k1_t11_ok trips11]
  simp only [k1_part18_eq_skeleton, k1_part18_skel, for_eight k1_t12_loop k1_t12_ok trips12]
  simp only [k1_part21_eq_skeleton, k1_part21_skel, for_eight k1_t13_loop k1_t13_ok trips13, for_eight k1_t14_loop k1_t14_ok trips14]
  simp only [k1_part24_eq_skeleton, k1_part24_skel, for_eight k1_t15_loop k1_t15_ok trips15]
  simp only [k1_part25_eq_skeleton, k1_part25_skel, for_eight k1_t16_loop k1_t16_ok trips16]
  rfl

end Cert.Attn
-- ==== Proof.AttnSpecs.lean ====
/- What the local work of the attention body does. -/
module

public import proofs.«01_k».proof.Proof.Attn

@[expose] public section

noncomputable section

namespace Cert.Attn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Cert.Ring hiding nD τ
open Cert.Tile

variable {F : FTy → Type} [FloatOps F]

local notation "𝕄" => MT nD τ sig ℕ (Elt F) ℕ (UU sig) ℕ

/-- What a device is given. -/
structure Ins (F : FTy → Type) where
  q : S4096x1024.Idx → Elt F .bf16
  k : S4096x1024.Idx → Elt F .bf16
  v : S4096x1024.Idx → Elt F .bf16
  wo : S1024x1024.Idx → Elt F .bf16
  x : S4096x1024.Idx → Elt F .bf16
  ga : S1x1024.Idx → Elt F .bf16

variable (A : Args) (c : Dev nD)

/-- The inputs, and the buffer the heads are put in. -/
def held (i : Ins F) : sProp 𝕄 :=
  iprop(has c A.q.view i.q ∗ has c A.k.view i.k ∗ has c A.v.view i.v ∗ has c A.wo.view i.wo ∗ has c A.x.view i.x ∗ has c A.ga.view i.ga ∗ some_ c A.ab.view)

/-- The rows of a chunk and the columns of a head. -/
def qAt (q : S4096x1024.Idx → Elt F .bf16) (d : Bool) (k h : Fin 8) : Vec F S256x128 .bf16 := fun y => q ((rectQ (offH d k.val h.val) (inbH d k h)).emb y)
/-- The columns of a head. -/
def colAt (k : S4096x1024.Idx → Elt F .bf16) (h : Fin 8) : Vec F S4096x128 .bf16 := fun y => k ((rectK (offC h.val) (inbK h)).emb y)
/-- The element of a head's block. -/
def inHead (i : S256x1024.Idx) : S256x128.Idx := fun a => match a with
  | ⟨0, _⟩ => (i 0 : Fin 256)
  | ⟨1, _⟩ => (⟨(i 1).val % 128, Nat.mod_lt _ (by decide)⟩ : Fin 128)
def ofHead (i : S256x1024.Idx) : Fin 8 := ⟨(i 1).val / 128, by have : (i 1).val < 1024 := (i 1).isLt; omega⟩
/-- The heads side by side. -/
def beside (w : Fin 8 → Vec F S256x128 .bf16) : Vec F S256x1024 .bf16 := fun i => w (ofHead i) (inHead i)

abbrev rectH (h : Fin 8) : Rect S256x1024 := rectB (offC h.val) (inbB h)
theorem emb_val {s : Shape} (off size : Fin s.rank → ℕ) (inb : ∀ a, off a + size a ≤ s.size a) (j : (Rect.unit off size inb).shape.Idx) (a : Fin s.rank) :
    ((Rect.unit off size inb).emb j a).val = off a + (j a).val := by
  show off a + 1 * (j a).val = _
  rw [Nat.one_mul]
theorem mem_rectH (h : Fin 8) (i : S256x1024.Idx) : i ∈ (rectH h).set ↔ 128 * h.val ≤ (i 1).val ∧ (i 1).val < 128 * h.val + 128 := by
  refine Rect.mem_set_unit.trans ⟨fun H => H 1, fun H a => ?_⟩
  have e : a = 0 ∨ a = 1 := by revert a; decide
  rcases e with rfl | rfl
  · exact ⟨Nat.zero_le _, by rw [show offC h.val 0 = 0 from rfl, Nat.zero_add]; exact (i 0).isLt⟩
  · exact H
theorem head_emb (i : S256x1024.Idx) : (rectH (ofHead i)).emb (inHead i) = i := by
  funext a
  match a with
  | ⟨0, _⟩ => apply Fin.ext; rw [emb_val]; exact Nat.zero_add _
  | ⟨1, _⟩ => apply Fin.ext; rw [emb_val]; show 128 * ((i 1).val / 128) + (i 1).val % 128 = (i 1).val; omega
theorem eq_beside (f : Vec F S256x1024 .bf16) (w : Fin 8 → Vec F S256x128 .bf16) (h : ∀ h y, f ((rectH h).emb y) = w h y) : f = beside w := by
  funext i
  have := h (ofHead i) (inHead i)
  rw [head_emb] at this
  exact this

/-- The heads of chunk `k`. -/
def headsV (i : Ins F) (d : Bool) (k : Fin 8) : Fin 8 → Vec F S256x128 .bf16 := fun h => headV (qAt i.q d k h) (colAt i.k h) (colAt i.v h)

/-- What the local work computes from the inputs. -/
def vs (i : Dev nD → Ins F) : Vs F where
  part c d s := flat3 numelS (projV (beside (headsV (i c) d (chunkR c d s))) (i c).wo)
  add := addU
  fin c d u w := finV (fat3 numelS u) (fat3 numelS w) (i c).ga (xAt (i c).x d (chunkR c d 7))

theorem vs_part (i : Dev nD → Ins F) (d : Bool) (s : ℕ) :
    (vs i).part c d s = flat3 numelS (projV (beside (headsV (i c) d (chunkR c d s))) (i c).wo) := rfl
theorem vs_fin (i : Dev nD → Ins F) (d : Bool) (u w : Ring.Vec F) :
    (vs i).fin c d u w = finV (fat3 numelS u) (fat3 numelS w) (i c).ga (xAt (i c).x d (chunkR c d 7)) := rfl

theorem qAt_of (q : S4096x1024.Idx → Elt F .bf16) (d : Bool) (k h : Fin 8) {o : Fin S4096x1024.rank → ℕ} (hi : ∀ a, o a + S256x128.size a ≤ S4096x1024.size a)
    (e : o = offH d k.val h.val) : (fun y => q ((rectQ o hi).emb y)) = qAt q d k h := by subst e; rfl
theorem colAt_of (k : S4096x1024.Idx → Elt F .bf16) (h : Fin 8) {o : Fin S4096x1024.rank → ℕ} (hi : ∀ a, o a + S4096x128.size a ≤ S4096x1024.size a)
    (e : o = offC h.val) : (fun y => k ((rectK o hi).emb y)) = colAt k h := by subst e; rfl
/-- What one more head leaves. -/
theorem step_heads (w : Fin 8 → Vec F S256x128 .bf16) (h : Fin 8) {o : Fin S256x1024.rank → ℕ} (hi : ∀ a, o a + S256x128.size a ≤ S256x1024.size a)
    (e : o = offC h.val) (v v' : Vec F S256x1024 .bf16) (hv : ∀ g : Fin 8, g.val < h.val → ∀ y, v ((rectH g).emb y) = w g y)
    (hs : (∀ x, v' ((rectB o hi).emb x) = w h x) ∧ ∀ y, y ∉ (rectB o hi).set → v' y = v y) :
    ∀ g : Fin 8, g.val < h.val + 1 → ∀ y, v' ((rectH g).emb y) = w g y := by
  subst e
  intro g hg y
  by_cases hgh : g = h
  · subst hgh; exact hs.1 y
  · have hlt : g.val < h.val := by
      have : g.val ≠ h.val := fun hh => hgh (Fin.ext hh)
      omega
    rw [hs.2, hv g hlt y]
    intro hm
    have hm := (mem_rectH h _).mp hm
    rw [emb_val] at hm
    have hy : (y 1).val < 128 := (y 1).isLt
    have : offC g.val 1 = 128 * g.val := rfl
    rw [this] at hm
    omega

variable (defs : Defs nD τ sig (Elt F) Λ₀) (𝒱 : Variants) (i : Dev nD → Ins F)

/-- Between heads: the first `n` are in the buffer. -/
def between (d : Bool) (k : Fin 8) (n : ℕ) (_ : Unit) : sProp 𝕄 :=
  iprop(has c A.q.view (i c).q ∗ has c A.k.view (i c).k ∗ has c A.v.view (i c).v
    ∗ ∃ f : Vec F S256x1024 .bf16, ⌜∀ g : Fin 8, g.val < n → ∀ y, f ((rectH g).emb y) = headsV (i c) d k g y⌝ ∗ has c A.ab.view f)

theorem head_spec (d : Bool) (s : ℕ) (h : Fin 8) (u : Unit) :
    between A c i d (chunkR c d s) h.val u
      ⊢ wp frame (wpE defs 𝒱 (c : Thread nD τ) none) Set.univ (head A c d s h u) (between A c i d (chunkR c d s) (h.val + 1)) := by
  unfold between head
  iintro ⟨H1, H2, H3, %f, %hf, H4⟩
  iapply (wp_ld defs 𝒱 c (i c).q (qAt (i c).q d (chunkR c d s) h) (qAt_of (i c).q d (chunkR c d s) h (offQ_inb c d s h) (offQ_eq c d s h))); isplitl [H1]; · iexact H1
  iintro H1
  iapply (wp_ld defs 𝒱 c (i c).k (colAt (i c).k h) (colAt_of (i c).k h (offK_inb d s h) (offK_eq d s h))); isplitl [H2]; · iexact H2
  iintro H2
  iapply (wp_ld defs 𝒱 c (i c).v (colAt (i c).v h) (colAt_of (i c).v h (offK_inb d s h) (offK_eq d s h))); isplitl [H3]; · iexact H3
  iintro H3
  iapply (wp_ld defs 𝒱 c f (fun x => f ((rectB (offB d s h) (offB_inb d s h)).emb x)) rfl); isplitl [H4]; · iexact H4
  iintro H4
  iapply (wp_st defs 𝒱 c f); isplitl [H4]; · iexact H4
  iintro %v' %hv' H4
  rw [wp_ret]
  imodintro
  isplitl [H1]; · iexact H1
  isplitl [H2]; · iexact H2
  isplitl [H3]; · iexact H3
  iexists v'
  isplitr
  · ipureintro; exact step_heads (headsV (i c) d (chunkR c d s)) h (offB_inb d s h) (offB_eq d s h) f v' hf hv'
  iexact H4

theorem heads_spec (d : Bool) (s : ℕ) (Q : Unit → sProp (MT nD τ sig ℕ (Elt F) ℕ (UU sig) ℕ)) :
    iprop(between A c i d (chunkR c d s) 0 ⟨⟩ ∗ (∀ u, between A c i d (chunkR c d s) 8 u -∗ Q u))
      ⊢ wp frame (wpE defs 𝒱 (c : Thread nD τ) none) Set.univ (eight (head A c d s)) Q := by
  rw [eight_eq]
  exact Scf.wp_forFrom frame (wpE defs 𝒱 (c : Thread nD τ) none) Set.univ (head A c d s) (between A c i d (chunkR c d s)) (head_spec A c defs 𝒱 i d s) 0 (Nat.zero_le _) ⟨⟩

theorem some_has {sp : Space} {s : Shape} {e : EltTy} (w : View sig .tc sp s e) : (some_ c w : sProp 𝕄) ⊢ iprop(∃ f : s.Idx → Elt F e, has c w f) := by
  unfold some_ has
  iintro ⟨%f, H⟩; iexists (w.read (Elt F) f); iexists f
  isplitr
  · ipureintro; rfl
  iexact H

set_option maxHeartbeats 1600000 in
theorem compute_spec (d : Bool) (s : ℕ) (k : Pg sig F Λ₀) (Q : PUnit.{1} → sProp (MT nD τ sig ℕ (Elt F) ℕ (UU sig) ℕ)) :
    iprop(held A c (i c) ∗ anyAt c ((geo A.bufs).pb d (p2 s))
        ∗ ((held A c (i c) ∗ holds c ((geo A.bufs).pb d (p2 s)) ((vs i).part c d s)) -∗ wp frame (wpE defs 𝒱 (c : Thread nD τ) none) Set.univ k Q))
      ⊢ wp frame (wpE defs 𝒱 (c : Thread nD τ) none) Set.univ (compute A c d s k) Q := by
  unfold held compute
  rw [wp_bind]
  iintro ⟨⟨H1, H2, H3, H4, H5, H6, H7⟩, HP, HK⟩
  ihave HP := (any_has c ((geo A.bufs).pb d (p2 s))) $$ HP
  icases HP with ⟨%v, HP⟩
  ihave HP := (Entails.of_eq (has_pb A.bufs c d (p2 s) v)) $$ HP
  ihave H7 := (some_has c A.ab.view) $$ H7
  icases H7 with ⟨%f, H7⟩
  iapply (heads_spec A c defs 𝒱 i d s)
  isplitl [H1 H2 H3 H7]
  · unfold between
    isplitl [H1]; · iexact H1
    isplitl [H2]; · iexact H2
    isplitl [H3]; · iexact H3
    iexists f
    isplitr
    · ipureintro; intro g hg; exact absurd hg (Nat.not_lt_zero _)
    iexact H7
  unfold between
  iintro %u ⟨H1, H2, H3, %g, %hg, H7⟩
  obtain rfl := eq_beside g (headsV (i c) d (chunkR c d s)) (fun h y => hg h h.isLt y)
  iapply (wp_ld defs 𝒱 c (beside (headsV (i c) d (chunkR c d s))) (beside (headsV (i c) d (chunkR c d s))) (emb_row inb_S256x1024_S256x1024_0_0 _)); isplitl [H7]; · iexact H7
  iintro H7
  iapply (wp_ld defs 𝒱 c (i c).wo (i c).wo (emb_row inb_S1024x1024_S1024x1024_0_0 (i c).wo)); isplitl [H4]; · iexact H4
  iintro H4
  iapply (wp_ldw defs 𝒱 c (fat3 numelS v)); isplitl [HP]; · iexact HP
  iintro HP
  iapply (wp_stw defs 𝒱 c (fat3 numelS v)); isplitl [HP]; · iexact HP
  iintro HP
  iapply HK
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iapply (has_some c A.ab.view _); iexact H7
  · have e : (has c ((A.bufs.pb d).access (rectP (p2 s))) (projV (beside (headsV (i c) d (chunkR c d s))) (i c).wo) : sProp 𝕄)
        = holds c ((geo A.bufs).pb d (p2 s)) ((vs i).part c d s) := by
      rw [has_pb, vs_part, fat_flat]
    rw [← e]
    iexact HP

theorem fin_held (u w : Bool → Ring.Vec F) (k : Pg sig F Λ₀) (Q : PUnit.{1} → sProp (MT nD τ sig ℕ (Elt F) ℕ (UU sig) ℕ)) :
    iprop(held A c (i c) ∗ both (fun d => holds c ((geo A.bufs).cm d (s7 6)) (u d)) ∗ both (fun d => holds c ((geo A.bufs).pb d (p2 7)) (w d))
        ∗ both (fun d => anyAt c ((geo A.bufs).out d (chunkAt c d 0)))
        ∗ ((held A c (i c) ∗ both (fun d => anyAt c ((geo A.bufs).cm d (s7 6))) ∗ both (fun d => anyAt c ((geo A.bufs).pb d (p2 7)))
            ∗ both (fun d => holds c ((geo A.bufs).out d (chunkAt c d 0)) ((vs i).fin c d (u d) (w d))))
          -∗ wp frame (wpE defs 𝒱 (c : Thread nD τ) none) Set.univ k Q))
      ⊢ wp frame (wpE defs 𝒱 (c : Thread nD τ) none) Set.univ (fin A.bufs spell A.x A.ga c k) Q := by
  have h := fin_spec A.bufs spell A.x A.ga c defs 𝒱 (i c).x (i c).ga u w k Q
  generalize (wp frame (wpE defs 𝒱 (c : Thread nD τ) none) Set.univ (fin A.bufs spell A.x A.ga c k) Q : sProp 𝕄) = W at h ⊢
  generalize (wp frame (wpE defs 𝒱 (c : Thread nD τ) none) Set.univ k Q : sProp 𝕄) = W' at h ⊢
  refine BIBase.Entails.trans ?_ h
  simp only [vs_fin]
  unfold held
  iintro ⟨⟨H1, H2, H3, H4, H5, H6, H7⟩, HC, HP, HO, HK⟩
  isplitl [H5 H6]
  · isplitl [H5]; · iexact H5
    iexact H6
  isplitl [HC]; · iexact HC
  isplitl [HP]; · iexact HP
  isplitl [HO]; · iexact HO
  iintro ⟨⟨H5, H6⟩, HC, HP, HO⟩
  iapply HK
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  isplitl [HC]; · iexact HC
  isplitl [HP]; · iexact HP
  iexact HO

set_option maxHeartbeats 1600000 in
theorem specs : Specs defs 𝒱 c (geo A.bufs) (ops A) (vs i) (held A c (i c)) where
  compute d s k Q _ := compute_spec A c defs 𝒱 i d s k Q
  acc d s u w k Q _ _ := acc_spec A.bufs c defs 𝒱 d s u w k Q
  fin u w k Q := fin_held A c defs 𝒱 i u w k Q

end Cert.Attn
-- ==== Proof.Ffn.lean ====
/- The local work of the feed-forward body, and its text as the ring's. -/
module

public import proofs.«01_k».proof.Proof.Tiles

@[expose] public section

noncomputable section

namespace Cert.Ffn

open Idealize.ShloMosaic
open Idealize.ShloMosaic.TcCoe
open Idealize.SL Idealize.SL.Sem
open Cert.KernelIdeal Cert.KernelIdeal.Gen
open Cert.Ring (peer chunkAt s7 p2 Geo Flat Ops MR Pg)
open Cert.Tile

variable {F : FTy → Type} [FloatOps F]

/-- What the body is called with. -/
structure Args where
  x : Memref sig .tc .vmem S4096x1024 .bf16
  hx : x.IsWhole
  sm : Memref sig .tc .vmem S1x1024 .bf16
  hsm : sm.IsWhole
  sh : Memref sig .tc .vmem S1x1024 .bf16
  hsh : sh.IsWhole
  gm : Memref sig .tc .vmem S1x1024 .bf16
  hgm : gm.IsWhole
  w1 : Memref sig .tc .vmem S1024x512 .bf16
  hw1 : w1.IsWhole
  w2 : Memref sig .tc .vmem S512x1024 .bf16
  hw2 : w2.IsWhole
  o : Memref sig .tc .vmem S4096x1024 .bf16
  ho : o.IsWhole
  pb : Bool → Memref sig .tc .vmem S2x256x1024 .bf16
  hpb : ∀ d, (pb d).IsWhole
  cm : Bool → Memref sig .tc .vmem S7x256x1024 .bf16
  hcm : ∀ d, (cm d).IsWhole
  sS : Bool → DmaSems sig S7
  vS : Bool → DmaSems sig S7
  ex : Sems sig S_

variable (A : Args)

abbrev Args.call (A : Args) : Pg sig F Λ₀ :=
  cc2__ffn_body A.x A.hx A.sm A.hsm A.sh A.hsh A.gm A.hgm A.w1 A.hw1 A.w2 A.hw2 A.o A.ho (A.pb false) (A.hpb false) (A.pb true) (A.hpb true)
    (A.cm false) (A.hcm false) (A.cm true) (A.hcm true) (A.sS false) (A.vS false) (A.sS true) (A.vS true) A.ex

/-- Its buffers and semaphores. -/
abbrev Args.bufs (A : Args) : Bufs where
  o := A.o
  ho := A.ho
  pb := A.pb
  hpb := A.hpb
  cm := A.cm
  hcm := A.hcm
  sS := A.sS
  vS := A.vS
  ex := A.ex
  bar := SemArray.scalar (sig.barrier 1 rfl)

/-! ## The offsets as the program computes them -/

/-- Where the chunk gathered at step `t` starts. -/
def offG (c : Dev nD) (d : Bool) (t : ℕ) : Fin S4096x1024.rank → ℕ := match d, t with
  | false, 0 => k2_off7 c
  | true, 0 => k2_off8 c
  | false, 1 => k2_off9 c 1#32
  | true, 1 => k2_off10 c 1#32
  | false, 2 => k2_off9 c 2#32
  | true, 2 => k2_off10 c 2#32
  | false, 3 => k2_off9 c 3#32
  | true, 3 => k2_off10 c 3#32
  | false, 4 => k2_off9 c 4#32
  | true, 4 => k2_off10 c 4#32
  | false, 5 => k2_off9 c 5#32
  | true, 5 => k2_off10 c 5#32
  | false, 6 => k2_off9 c 6#32
  | true, 6 => k2_off10 c 6#32
  | d, t => offO d (chunkAt c d t).val
/-- Where the chunk computed at step `s` starts. -/
def offR (c : Dev nD) (d : Bool) (s : ℕ) : Fin S4096x1024.rank → ℕ := match d, s with
  | false, 0 => k2_off1 c
  | true, 0 => k2_off2 c
  | false, 1 => k2_off3 c 1#32
  | true, 1 => k2_off4 c 1#32
  | false, 2 => k2_off3 c 2#32
  | true, 2 => k2_off4 c 2#32
  | false, 3 => k2_off3 c 3#32
  | true, 3 => k2_off4 c 3#32
  | false, 4 => k2_off3 c 4#32
  | true, 4 => k2_off4 c 4#32
  | false, 5 => k2_off3 c 5#32
  | true, 5 => k2_off4 c 5#32
  | false, 6 => k2_off3 c 6#32
  | true, 6 => k2_off4 c 6#32
  | false, 7 => k2_off5 c
  | true, 7 => k2_off6 c
  | d, s => offO d (chunkAt c d (s + 1)).val

theorem offG_eq (c : Dev nD) (d : Bool) (t : ℕ) : offG c d t = offO d (chunkAt c d t).val := by
  rcases t with _ | _ | _ | _ | _ | _ | _ | t <;> cases d <;> first | (revert c; decide +kernel) | rfl
theorem offR_eq (c : Dev nD) (d : Bool) (s : ℕ) : offR c d s = offO d (chunkR c d s).val := by
  rcases s with _ | _ | _ | _ | _ | _ | _ | _ | s <;> cases d <;> first | (revert c; decide +kernel) | rfl
theorem offR_inb (c : Dev nD) (d : Bool) (s : ℕ) : ∀ a, offR c d s a + S256x1024.size a ≤ S4096x1024.size a := by
  rw [offR_eq]; exact inbO d _
/-- The device a transfer goes to, as the program computes it. -/
def dvE (c : Dev nD) : Bool → Dev nD
  | false => ⟨k2_dev2 c, k2_dev2_lt c⟩
  | true => ⟨k2_dev1 c, k2_dev1_lt c⟩
theorem dvE_eq (c : Dev nD) (d : Bool) : dvE c d = peer c d := by cases d <;> (revert c; decide +kernel)

def spell : Spell where
  offG := offG
  offG_eq := offG_eq
  offR c d := offR c d 7
  offR_eq c d := offR_eq c d 7
  dvE := dvE
  dvE_eq := dvE_eq

/-! ## The local work -/

/-- A device's part of one chunk: what its columns of the hidden layer contribute. -/
def partV (x : Vec F S256x1024 .bf16) (sm sh : Vec F S1x1024 .bf16) (w1 : Vec F S1024x512 .bf16) (w2 : Vec F S512x1024 .bf16) : Vec F S1x256x1024 .bf16 :=
  k2_pay6 (k2_pay5 x sm sh w1 w2)
def compute (c : Dev nD) (d : Bool) (s : ℕ) (k : Pg sig F Λ₀) : Pg sig F Λ₀ :=
  .op (.load A.x (rectX (offR c d s) (offR_inb c d s)).toLoadRect (View.loadsAt_vmem h_S256x1024)) fun x =>
  .op (.load A.sm (Rect.unit (s := S1x1024) ![0, 0] S1x1024.size inb_S1x1024_S1x1024_0_0).toLoadRect (View.loadsAt_vmem h_S1x1024)) fun sm =>
  .op (.load A.sh (Rect.unit (s := S1x1024) ![0, 0] S1x1024.size inb_S1x1024_S1x1024_0_0).toLoadRect (View.loadsAt_vmem h_S1x1024)) fun sh =>
  .op (.load A.w1 (Rect.unit (s := S1024x512) ![0, 0] S1024x512.size inb_S1024x512_S1024x512_0_0).toLoadRect (View.loadsAt_vmem h_S1024x512)) fun w1 =>
  .op (.load A.w2 (Rect.unit (s := S512x1024) ![0, 0] S512x1024.size inb_S512x1024_S512x1024_0_0).toLoadRect (View.loadsAt_vmem h_S512x1024)) fun w2 =>
  .op (.load (A.bufs.pb d) (rectP (p2 s)).toLoadRect (View.loadsAt_vmem h_S1x256x1024)) fun _ =>
  .op (.store (A.bufs.pb d) (rectP (p2 s)) (partV x sm sh w1 w2) Finset.univ
    (View.stores_vmem h_S1x256x1024 ((A.bufs.hpb d).storeExact_slice rfl _ (packP (p2 s))) (fun _ => rfl)) (.inl rfl)) fun _ => k

def ops : Ops sig F Λ₀ := ⟨compute A, acc A.bufs, fin A.bufs spell A.x A.gm⟩

set_option maxRecDepth 1000000 in
set_option maxHeartbeats 4000000 in
theorem call_eq : A.call (F := F) = Ring.body (geo A.bufs) (flat A.bufs spell) (ops A) := by
  unfold Args.call
  rw [cc2__ffn_body_eq_skeleton]
  rfl

end Cert.Ffn
-- ==== Proof.FfnSpecs.lean ====
/- What the local work of the feed-forward body does. -/
module

public import proofs.«01_k».proof.Proof.Ffn
public import proofs.«01_k».proof.Proof.Tiles

@[expose] public section

noncomputable section

namespace Cert.Ffn

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Cert.Ring hiding nD τ
open Cert.Tile hiding offR_inb

variable {F : FTy → Type} [FloatOps F]

local notation "𝕄" => MT nD τ sig ℕ (Elt F) ℕ (UU sig) ℕ

/-- What a device is given. -/
structure Ins (F : FTy → Type) where
  x : S4096x1024.Idx → Elt F .bf16
  sm : S1x1024.Idx → Elt F .bf16
  sh : S1x1024.Idx → Elt F .bf16
  gm : S1x1024.Idx → Elt F .bf16
  w1 : S1024x512.Idx → Elt F .bf16
  w2 : S512x1024.Idx → Elt F .bf16

variable (A : Args) (c : Dev nD)

/-- The inputs, held. -/
def held (i : Ins F) : sProp 𝕄 :=
  iprop(has c A.x.view i.x ∗ has c A.sm.view i.sm ∗ has c A.sh.view i.sh ∗ has c A.gm.view i.gm ∗ has c A.w1.view i.w1 ∗ has c A.w2.view i.w2)

/-- What the local work computes from the inputs. -/
def vs (i : Dev nD → Ins F) : Vs F where
  part c d s := flat3 numelS (partV (xAt (i c).x d (chunkR c d s)) (i c).sm (i c).sh (i c).w1 (i c).w2)
  add := addU
  fin c d u w := finV (fat3 numelS u) (fat3 numelS w) (i c).gm (xAt (i c).x d (chunkR c d 7))

theorem vs_part (i : Dev nD → Ins F) (d : Bool) (s : ℕ) :
    (vs i).part c d s = flat3 numelS (partV (xAt (i c).x d (chunkR c d s)) (i c).sm (i c).sh (i c).w1 (i c).w2) := rfl
theorem vs_fin (i : Dev nD → Ins F) (d : Bool) (u w : Ring.Vec F) :
    (vs i).fin c d u w = finV (fat3 numelS u) (fat3 numelS w) (i c).gm (xAt (i c).x d (chunkR c d 7)) := rfl

variable (defs : Defs nD τ sig (Elt F) Λ₀) (𝒱 : Variants) (i : Dev nD → Ins F)

theorem compute_spec (d : Bool) (s : ℕ) (k : Pg sig F Λ₀) (Q : PUnit.{1} → sProp (MT nD τ sig ℕ (Elt F) ℕ (UU sig) ℕ)) :
    iprop(held A c (i c) ∗ anyAt c ((geo A.bufs).pb d (p2 s))
        ∗ ((held A c (i c) ∗ holds c ((geo A.bufs).pb d (p2 s)) ((vs i).part c d s)) -∗ wp frame (wpE defs 𝒱 (c : Thread nD τ) none) Set.univ k Q))
      ⊢ wp frame (wpE defs 𝒱 (c : Thread nD τ) none) Set.univ (compute A c d s k) Q := by
  unfold held compute
  iintro ⟨⟨H1, H2, H3, H4, H5, H6⟩, HP, HK⟩
  ihave HP := (any_has c ((geo A.bufs).pb d (p2 s))) $$ HP
  icases HP with ⟨%v, HP⟩
  ihave HP := (Entails.of_eq (has_pb A.bufs c d (p2 s) v)) $$ HP
  iapply (wp_ld defs 𝒱 c (i c).x (xAt (i c).x d (chunkR c d s)) (xAt_of (i c).x d (chunkR c d s) (offR_inb c d s) (offR_eq c d s))); isplitl [H1]; · iexact H1
  iintro H1
  iapply (wp_ld defs 𝒱 c (i c).sm (i c).sm (emb_row inb_S1x1024_S1x1024_0_0 (i c).sm)); isplitl [H2]; · iexact H2
  iintro H2
  iapply (wp_ld defs 𝒱 c (i c).sh (i c).sh (emb_row inb_S1x1024_S1x1024_0_0 (i c).sh)); isplitl [H3]; · iexact H3
  iintro H3
  iapply (wp_ld defs 𝒱 c (i c).w1 (i c).w1 (emb_row inb_S1024x512_S1024x512_0_0 (i c).w1)); isplitl [H5]; · iexact H5
  iintro H5
  iapply (wp_ld defs 𝒱 c (i c).w2 (i c).w2 (emb_row inb_S512x1024_S512x1024_0_0 (i c).w2)); isplitl [H6]; · iexact H6
  iintro H6
  iapply (wp_ldw defs 𝒱 c (fat3 numelS v)); isplitl [HP]; · iexact HP
  iintro HP
  iapply (wp_stw defs 𝒱 c (fat3 numelS v)); isplitl [HP]; · iexact HP
  iintro HP
  iapply HK
  isplitl [H1 H2 H3 H4 H5 H6]
  · isplitl [H1]; · iexact H1
    isplitl [H2]; · iexact H2
    isplitl [H3]; · iexact H3
    isplitl [H4]; · iexact H4
    isplitl [H5]; · iexact H5
    iexact H6
  · have e : (has c ((A.bufs.pb d).access (rectP (p2 s))) (partV (xAt (i c).x d (chunkR c d s)) (i c).sm (i c).sh (i c).w1 (i c).w2) : sProp 𝕄)
        = holds c ((geo A.bufs).pb d (p2 s)) ((vs i).part c d s) := by
      rw [has_pb, vs_part, fat_flat]
    rw [← e]
    iexact HP

theorem fin_held (u w : Bool → Ring.Vec F) (k : Pg sig F Λ₀) (Q : PUnit.{1} → sProp (MT nD τ sig ℕ (Elt F) ℕ (UU sig) ℕ)) :
    iprop(held A c (i c) ∗ both (fun d => holds c ((geo A.bufs).cm d (s7 6)) (u d)) ∗ both (fun d => holds c ((geo A.bufs).pb d (p2 7)) (w d))
        ∗ both (fun d => anyAt c ((geo A.bufs).out d (chunkAt c d 0)))
        ∗ ((held A c (i c) ∗ both (fun d => anyAt c ((geo A.bufs).cm d (s7 6))) ∗ both (fun d => anyAt c ((geo A.bufs).pb d (p2 7)))
            ∗ both (fun d => holds c ((geo A.bufs).out d (chunkAt c d 0)) ((vs i).fin c d (u d) (w d))))
          -∗ wp frame (wpE defs 𝒱 (c : Thread nD τ) none) Set.univ k Q))
      ⊢ wp frame (wpE defs 𝒱 (c : Thread nD τ) none) Set.univ (fin A.bufs spell A.x A.gm c k) Q := by
  have h := fin_spec A.bufs spell A.x A.gm c defs 𝒱 (i c).x (i c).gm u w k Q
  generalize (wp frame (wpE defs 𝒱 (c : Thread nD τ) none) Set.univ (fin A.bufs spell A.x A.gm c k) Q : sProp 𝕄) = W at h ⊢
  generalize (wp frame (wpE defs 𝒱 (c : Thread nD τ) none) Set.univ k Q : sProp 𝕄) = W' at h ⊢
  refine BIBase.Entails.trans ?_ h
  simp only [vs_fin]
  unfold held
  iintro ⟨⟨H1, H2, H3, H4, H5, H6⟩, HC, HP, HO, HK⟩
  isplitl [H1 H4]
  · isplitl [H1]; · iexact H1
    iexact H4
  isplitl [HC]; · iexact HC
  isplitl [HP]; · iexact HP
  isplitl [HO]; · iexact HO
  iintro ⟨⟨H1, H4⟩, HC, HP, HO⟩
  iapply HK
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [HC]; · iexact HC
  isplitl [HP]; · iexact HP
  iexact HO

theorem specs : Specs defs 𝒱 c (geo A.bufs) (ops A) (vs i) (held A c (i c)) where
  compute d s k Q _ := compute_spec A c defs 𝒱 i d s k Q
  acc d s u w k Q _ _ := acc_spec A.bufs c defs 𝒱 d s u w k Q
  fin u w k Q := fin_held A c defs 𝒱 i u w k Q

end Cert.Ffn
-- ==== Proof.RingRun.lean ====
/- The body of a call from what its region hands it to what the region takes back. -/
module

public import proofs.«01_k».proof.Proof.Split

@[expose] public section

noncomputable section

namespace Cert.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {sig : RefSig} {nJ : ℕ} {F : FTy → Type} {Λ : Labels}

local notation "𝕄" => MT nD τ sig ℕ (Elt F) ℕ (UU sig) ℕ

variable (P : Rings sig nJ) (v : Vals F nJ) (j : Fin nJ) (c : Dev nD)

/-- A ring's scratch. -/
def scratch : sProp 𝕄 :=
  iprop(both (fun d => bigSep Finset.univ fun s => anyAt c ((P.geo j).pb d s)) ∗ both (fun d => bigSep Finset.univ fun s => anyAt c ((P.geo j).cm d s)))

theorem ownSems_eq : (Pipeline.ownSems0 (osem P j) c : sProp 𝕄)
    = iprop(semVal (cell (P.geo j) c .ex) 0
      ∗ bigSep (Finset.Ico 0 7) fun q => both fun d => iprop(semVal (cell (P.geo j) c (.snd d (s7 q))) 0 ∗ semVal (cell (P.geo j) c (.rcv d (s7 q))) 0)) :=
  bigSep_sc fun ρ => (semVal (cell (P.geo j) c ρ) 0 : sProp 𝕄)

theorem wp_ring (V : Vs F) (hv : v j = ringVal V) (D : CellTallies nD τ sig ℕ) (hJ : nJ ≤ 30) (hD : Above (base j + 20) D)
    (defs : Defs nD τ sig (Elt F) Λ) (𝒱 : Variants) (T : Flat sig) (hT : Flat.Of T (P.geo j)) (A : Ops sig F Λ)
    (I : sProp (MT nD τ sig ℕ (Elt F) ℕ (UU sig) ℕ)) (hA : Specs defs 𝒱 c (P.geo j) A V I) (Q : PUnit.{1} → sProp (MT nD τ sig ℕ (Elt F) ℕ (UU sig) ℕ)) :
    iprop(Xk P v j c ∗ owing c (D + due P j c) ∗ scratch P j c ∗ both (fun d => bigSep Finset.univ fun k => anyAt c ((P.geo j).out d k)) ∗ I
        ∗ ((I ∗ owing c D ∗ semVal (cell (P.geo j) c .bar) 0 ∗ Pipeline.ownSems0 (osem P j) c ∗ scratch P j c
            ∗ both (fun d => bigSep Finset.univ fun k => holds c ((P.geo j).out d k) (done V d k))) -∗ Q ⟨⟩))
      ⊢ wp frame (wpE defs 𝒱 (c : Thread nD τ) none) Set.univ (bodyOn (P.geo j) T A c) Q := by
  rw [ownSems_eq]
  unfold Xk scratch hand
  iintro ⟨⟨%K, #HR, #Hlev, HaB, HaX, Hpos, HtB, HtX, HrB, Htk, HcB, HcX⟩, HO, ⟨Hpb, Hcm⟩, Hout, HI, Hk⟩
  ihave Hb := (bufs_in (P.geo j) c) $$ [Hpb Hcm Hout]
  · isplitl [Hpb]; · iexact Hpb
    isplitl [Hcm]; · iexact Hcm
    iexact Hout
  icases Hb with ⟨H0, H1, Hwin, Ho⟩
  iapply (wp_bodyOn P v K j defs 𝒱 c T hT hJ D hD A V (ringVal_ok v j V hv) I hA Q)
  isplitr; · iexact HR
  isplitr; · iexact Hlev
  isplitl [HI]; · iexact HI
  isplitl [HaB HaX HtB HtX HrB Htk Hpos HcB HcX HO H0 H1 Hwin Ho]
  · unfold Pre
    isplitl [HaB]; · iexact HaB
    isplitl [HaX]; · iexact HaX
    isplitl [HtB]; · iexact HtB
    isplitl [HtX]; · iexact HtX
    isplitl [HrB]; · iexact HrB
    isplitl [Htk]; · iexact Htk
    isplitl [Hpos]; · iexact Hpos
    isplitl [HcB]; · iexact HcB
    isplitl [HcX]; · iexact HcX
    isplitl [HO]; · iexact HO
    isplitl [H0]; · iexact H0
    isplitl [H1]; · iexact H1
    isplitl [Hwin]; · iexact Hwin
    iexact Ho
  unfold Post
  iintro ⟨HI, HsB, HsX, Hss, HO, H0, H1, Hc, Ho⟩
  iapply Hk
  ihave Hb := (bufs_out (P.geo j) c (fun t d => v j c d (7 + t)) (fun d k => done V d k) (fun d t _ => by rw [hv]; exact ringVal_done V d t c)) $$ [H0 H1 Hc Ho]
  · isplitl [H0]; · iexact H0
    isplitl [H1]; · iexact H1
    isplitl [Hc]; · iexact Hc
    iexact Ho
  icases Hb with ⟨Hpb, Hcm, Ho⟩
  isplitl [HI]; · iexact HI
  isplitl [HO]; · iexact HO
  isplitl [HsB]; · iexact HsB
  isplitl [HsX Hss]
  · isplitl [HsX]; · iexact HsX
    iexact Hss
  isplitl [Hpb Hcm]
  · isplitl [Hpb]; · iexact Hpb
    iexact Hcm
  iexact Ho

end Cert.Ring
-- ==== Proof.Rings.lean ====
/- The two rings of the kernel: their semaphores, their buffers in pieces, their values. -/
module

public import proofs.«01_k».proof.Proof.FfnSpecs
public import proofs.«01_k».proof.Proof.AttnSpecs
public import proofs.«01_k».proof.Proof.RingRun
public import proofs.«01_k».proof.Proof.RingLaunch
public import proofs.«01_k».proof.Proof.Gen.KernelIdeal.Launch

@[expose] public section

noncomputable section

namespace Cert.Whole

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Cert.Ring hiding nD τ
open Cert.Tile (pb_split pb_join cm_split cm_join)

variable {F : FTy → Type} [FloatOps F]

local notation "𝕄" => MT nD τ sig ℕ (Elt F) ℕ (UU sig) ℕ

/-- What the attention call is called with. -/
def AA : Attn.Args where
  q := Memref.whole cc1_stg0_0
  hq := Memref.isWhole_whole _
  k := Memref.whole cc1_stg1_0
  hk := Memref.isWhole_whole _
  v := Memref.whole cc1_stg2_0
  hv := Memref.isWhole_whole _
  wo := Memref.whole cc1_stg3_0
  hwo := Memref.isWhole_whole _
  x := Memref.whole cc1_stg4_0
  hx := Memref.isWhole_whole _
  ga := Memref.whole cc1_stg5_0
  hga := Memref.isWhole_whole _
  o := Memref.whole cc1_stg6_0
  ho := Memref.isWhole_whole _
  pb d := match d with | false => Memref.whole cc1_scratch0 | true => Memref.whole cc1_scratch1
  hpb d := match d with | false => Memref.isWhole_whole _ | true => Memref.isWhole_whole _
  ab := Memref.whole cc1_scratch2
  hab := Memref.isWhole_whole _
  cm d := match d with | false => Memref.whole cc1_scratch3 | true => Memref.whole cc1_scratch4
  hcm d := match d with | false => Memref.isWhole_whole _ | true => Memref.isWhole_whole _
  sS d := match d with | false => cc1_scratch5 | true => cc1_scratch7
  vS d := match d with | false => cc1_scratch6 | true => cc1_scratch8
  ex := cc1_scoped0

/-- What the feed-forward call is called with. -/
def AF : Ffn.Args where
  x := Memref.whole cc2_stg0_0
  hx := Memref.isWhole_whole _
  sm := Memref.whole cc2_stg1_0
  hsm := Memref.isWhole_whole _
  sh := Memref.whole cc2_stg2_0
  hsh := Memref.isWhole_whole _
  gm := Memref.whole cc2_stg3_0
  hgm := Memref.isWhole_whole _
  w1 := Memref.whole cc2_stg4_0
  hw1 := Memref.isWhole_whole _
  w2 := Memref.whole cc2_stg5_0
  hw2 := Memref.isWhole_whole _
  o := Memref.whole cc2_stg6_0
  ho := Memref.isWhole_whole _
  pb d := match d with | false => Memref.whole cc2_scratch0 | true => Memref.whole cc2_scratch1
  hpb d := match d with | false => Memref.isWhole_whole _ | true => Memref.isWhole_whole _
  cm d := match d with | false => Memref.whole cc2_scratch2 | true => Memref.whole cc2_scratch3
  hcm d := match d with | false => Memref.isWhole_whole _ | true => Memref.isWhole_whole _
  sS d := match d with | false => cc2_scratch4 | true => cc2_scratch6
  vS d := match d with | false => cc2_scratch5 | true => cc2_scratch7
  ex := cc2_scoped0

def geos : Fin 2 → Geo sig
  | 0 => Tile.geo AA.bufs
  | 1 => Tile.geo AF.bufs
theorem geos_inj : ∀ x y : Fin 2 × Role, (geos x.1).sem x.2 = (geos y.1).sem y.2 → x = y := by decide +kernel

/-- The two rings. -/
def P : Rings sig 2 where
  geo := geos
  N := ((Tile.geo AF.bufs).pb false 0).view.dmaCredit
  N_pos := View.dmaCredit_pos _ (by decide)
  inj x y h := geos_inj x y h
  hpb := by decide +kernel
  hcm := by decide +kernel
  hout := by decide +kernel

theorem geo_A : (P.geo 0 : Geo sig) = Tile.geo AA.bufs := rfl
theorem geo_F : (P.geo 1 : Geo sig) = Tile.geo AF.bufs := rfl

variable (c : Dev nD)

theorem some_whole (b : Ref sig .tc) : (some_ c (Memref.whole b).view : sProp 𝕄) = iprop(∃ f : Buf (Elt F) ((c : Thread nD τ).loc b), ((c : Thread nD τ).loc b) ↦{fullShare} f) := by
  unfold some_
  rw [show (Memref.whole b).view.set = Finset.univ from View.set_whole b]

/-- What a call leaves alone. -/
def restA : sProp 𝕄 := Pipeline.scopedRestBut spec1 c [cc1_scratch0, cc1_scratch1, cc1_scratch2, cc1_scratch3, cc1_scratch4]
def restF : sProp 𝕄 := Pipeline.scopedRestBut spec2 c [cc2_scratch0, cc2_scratch1, cc2_scratch2, cc2_scratch3]

theorem scratchA_eq : (Pipeline.scopedRest spec1 c : sProp 𝕄)
    = iprop((some_ c (AA.pb false).view ∗ some_ c (AA.pb true).view ∗ some_ c AA.ab.view ∗ some_ c (AA.cm false).view ∗ some_ c (AA.cm true).view) ∗ restA c) := by
  rw [scopedRest1_split]
  exact congrArg (fun X : sProp 𝕄 => iprop(X ∗ restA c)) (congr (congrArg _ (some_whole c cc1_scratch0).symm) (congr (congrArg _ (some_whole c cc1_scratch1).symm)
    (congr (congrArg _ (some_whole c cc1_scratch2).symm) (congr (congrArg _ (some_whole c cc1_scratch3).symm) (some_whole c cc1_scratch4).symm))))
theorem scratchF_eq : (Pipeline.scopedRest spec2 c : sProp 𝕄)
    = iprop((some_ c (AF.pb false).view ∗ some_ c (AF.pb true).view ∗ some_ c (AF.cm false).view ∗ some_ c (AF.cm true).view) ∗ restF c) := by
  rw [scopedRest2_split]
  exact congrArg (fun X : sProp 𝕄 => iprop(X ∗ restF c)) (congr (congrArg _ (some_whole c cc2_scratch0).symm) (congr (congrArg _ (some_whole c cc2_scratch1).symm)
    (congr (congrArg _ (some_whole c cc2_scratch2).symm) (some_whole c cc2_scratch3).symm)))

theorem inA : (Pipeline.scopedRest spec1 c : sProp 𝕄) ⊢ iprop(scratch P 0 c ∗ some_ c AA.ab.view ∗ restA c) := by
  rw [scratchA_eq]
  unfold scratch both
  iintro ⟨⟨H1, H2, H5, H3, H4⟩, Hr⟩
  isplitl [H1 H2 H3 H4]
  · isplitl [H1 H2]
    · isplitl [H1]
      · iapply (pb_split AA.bufs c false); iexact H1
      · iapply (pb_split AA.bufs c true); iexact H2
    · isplitl [H3]
      · iapply (cm_split AA.bufs c false); iexact H3
      · iapply (cm_split AA.bufs c true); iexact H4
  isplitl [H5]; · iexact H5
  iexact Hr
theorem outA : iprop(scratch P 0 c ∗ some_ c AA.ab.view ∗ restA c) ⊢ (Pipeline.scopedRest spec1 c : sProp 𝕄) := by
  rw [scratchA_eq]
  unfold scratch both
  iintro ⟨⟨⟨H1, H2⟩, ⟨H3, H4⟩⟩, H5, Hr⟩
  isplitr [Hr]
  · isplitl [H1]; · iapply (pb_join AA.bufs c false); iexact H1
    isplitl [H2]; · iapply (pb_join AA.bufs c true); iexact H2
    isplitl [H5]; · iexact H5
    isplitl [H3]; · iapply (cm_join AA.bufs c false); iexact H3
    iapply (cm_join AA.bufs c true); iexact H4
  iexact Hr
theorem inF : (Pipeline.scopedRest spec2 c : sProp 𝕄) ⊢ iprop(scratch P 1 c ∗ restF c) := by
  rw [scratchF_eq]
  unfold scratch both
  iintro ⟨⟨H1, H2, H3, H4⟩, Hr⟩
  isplitl [H1 H2 H3 H4]
  · isplitl [H1 H2]
    · isplitl [H1]
      · iapply (pb_split AF.bufs c false); iexact H1
      · iapply (pb_split AF.bufs c true); iexact H2
    · isplitl [H3]
      · iapply (cm_split AF.bufs c false); iexact H3
      · iapply (cm_split AF.bufs c true); iexact H4
  iexact Hr
theorem outF : iprop(scratch P 1 c ∗ restF c) ⊢ (Pipeline.scopedRest spec2 c : sProp 𝕄) := by
  rw [scratchF_eq]
  unfold scratch both
  iintro ⟨⟨⟨H1, H2⟩, ⟨H3, H4⟩⟩, Hr⟩
  isplitr [Hr]
  · isplitl [H1]; · iapply (pb_join AF.bufs c false); iexact H1
    isplitl [H2]; · iapply (pb_join AF.bufs c true); iexact H2
    isplitl [H3]; · iapply (cm_join AF.bufs c false); iexact H3
    iapply (cm_join AF.bufs c true); iexact H4
  iexact Hr

/-! ## The values -/

/-- The values in flight. -/
def V (iA : Dev nD → Attn.Ins F) (iF : Dev nD → Ffn.Ins F) : Vals F 2
  | 0 => ringVal (Attn.vs iA)
  | 1 => ringVal (Ffn.vs iF)

/-- What the calls leave in their results. -/
def resA (i : Dev nD → Attn.Ins F) : S4096x1024.Idx → Elt F .bf16 := Tile.assemble (done (Attn.vs i))
def resF (i : Dev nD → Ffn.Ins F) : S4096x1024.Idx → Elt F .bf16 := Tile.assemble (done (Ffn.vs i))

theorem flatA : Flat.Of (Tile.flat AA.bufs Attn.spell) (P.geo 0) := by rw [geo_A]; exact Tile.flat_of AA.bufs Attn.spell
theorem flatF : Flat.Of (Tile.flat AF.bufs Ffn.spell) (P.geo 1) := by rw [geo_F]; exact Tile.flat_of AF.bufs Ffn.spell
theorem specsA (defs : Defs nD τ sig (Elt F) Λ₀) (𝒱 : Variants) (i : Dev nD → Attn.Ins F) :
    Specs defs 𝒱 c (P.geo 0) (Attn.ops AA) (Attn.vs i) (Attn.held AA c (i c)) := by rw [geo_A]; exact Attn.specs AA c defs 𝒱 i
theorem specsF (defs : Defs nD τ sig (Elt F) Λ₀) (𝒱 : Variants) (i : Dev nD → Ffn.Ins F) :
    Specs defs 𝒱 c (P.geo 1) (Ffn.ops AF) (Ffn.vs i) (Ffn.held AF c (i c)) := by rw [geo_F]; exact Ffn.specs AF c defs 𝒱 i

variable (iA : Dev nD → Attn.Ins F) (iF : Dev nD → Ffn.Ins F)

/-- A call's invariant before its body and after it. -/
def Φ₀A : sProp 𝕄 := iprop(Pipeline.scopedRest spec1 c ∗ (∃ r, prngReg c r) ∗ Xk P (V iA iF) 0 c)
def Φ₁A : sProp 𝕄 := iprop(Pipeline.scopedRest spec1 c ∗ (∃ r, prngReg c r) ∗ Pipeline.ownSems0 (osem P 0) c ∗ semVal (cell (P.geo 0) c .bar) 0)
def Φ₀F : sProp 𝕄 := iprop(Pipeline.scopedRest spec2 c ∗ (∃ r, prngReg c r) ∗ Xk P (V iA iF) 1 c)
def Φ₁F : sProp 𝕄 := iprop(Pipeline.scopedRest spec2 c ∗ (∃ r, prngReg c r) ∗ Pipeline.ownSems0 (osem P 1) c ∗ semVal (cell (P.geo 1) c .bar) 0)

theorem above_F : Above (base (0 : Fin 2) + 20) (due P 1 c) := (above_due P 1 c (by decide)).mono (by decide)

/-- What the attention call reads, its heads' buffer aside. -/
def givenA (i : Attn.Ins F) : sProp 𝕄 :=
  iprop(has c AA.q.view i.q ∗ has c AA.k.view i.k ∗ has c AA.v.view i.v ∗ has c AA.wo.view i.wo ∗ has c AA.x.view i.x ∗ has c AA.ga.view i.ga)
theorem held_given (i : Attn.Ins F) : iprop(givenA c i ∗ some_ c AA.ab.view) ⊢ (Attn.held AA c i : sProp 𝕄) := by
  unfold givenA Attn.held
  iintro ⟨⟨H1, H2, H3, H4, H5, H6⟩, H7⟩
  isplitl [H1]; · iexact H1
  isplitl [H2]; · iexact H2
  isplitl [H3]; · iexact H3
  isplitl [H4]; · iexact H4
  isplitl [H5]; · iexact H5
  isplitl [H6]; · iexact H6
  iexact H7
theorem given_held (i : Attn.Ins F) : (Attn.held AA c i : sProp 𝕄) ⊢ iprop(givenA c i ∗ some_ c AA.ab.view) := by
  unfold givenA Attn.held
  iintro ⟨H1, H2, H3, H4, H5, H6, H7⟩
  isplitr [H7]
  · isplitl [H1]; · iexact H1
    isplitl [H2]; · iexact H2
    isplitl [H3]; · iexact H3
    isplitl [H4]; · iexact H4
    isplitl [H5]; · iexact H5
    iexact H6
  iexact H7

/-- The attention call's body. -/
theorem run_attn (defs : Defs nD τ sig (Elt F) Λ₀) (𝒱 : Variants) (Q : PUnit.{1} → sProp (MT nD τ sig ℕ (Elt F) ℕ (UU sig) ℕ)) :
    iprop(Φ₀A c iA iF ∗ owing c (due P 1 c + due P 0 c) ∗ givenA c (iA c) ∗ some_ c AA.o.view
        ∗ ((Φ₁A c ∗ owing c (due P 1 c) ∗ givenA c (iA c) ∗ has c AA.o.view (resA iA)) -∗ Q ⟨⟩))
      ⊢ wp frame (wpE defs 𝒱 (c : Thread nD τ) none) Set.univ (AA.call (F := F)) Q := by
  rw [Attn.call_eq]
  unfold Ring.body
  rw [wp_deviceId, ← geo_A]
  have h := wp_ring P (V iA iF) 0 c (Attn.vs iA) rfl (due P 1 c) (by decide) (above_F c) defs 𝒱 (Tile.flat AA.bufs Attn.spell) flatA (Attn.ops AA)
    (Attn.held AA c (iA c)) (specsA c defs 𝒱 iA) Q
  generalize (bodyOn (P.geo 0) (Tile.flat AA.bufs Attn.spell) (Attn.ops AA) c : Pg sig F Λ₀) = B at h ⊢
  refine BIBase.Entails.trans ?_ h
  unfold Φ₀A Φ₁A
  iintro ⟨⟨Hsr, Hp, HX⟩, HO, Hin, Hout, Hk⟩
  ihave Hs := (inA c) $$ Hsr
  icases Hs with ⟨Hs, Hab, Hr⟩
  ihave Ho := (Tile.out_split AA.bufs c) $$ Hout
  isplitl [HX]; · iexact HX
  isplitl [HO]; · iexact HO
  isplitl [Hs]; · iexact Hs
  isplitl [Ho]; · iexact Ho
  isplitl [Hin Hab]
  · iapply (held_given c (iA c)); isplitl [Hin]; · iexact Hin
    iexact Hab
  iintro ⟨Hin, HO, Hb, Hss, Hs, Ho⟩
  ihave Hin := (given_held c (iA c)) $$ Hin
  icases Hin with ⟨Hin, Hab⟩
  iapply Hk
  isplitl [Hs Hp Hss Hb Hab Hr]
  · isplitl [Hs Hab Hr]
    · iapply (outA c); isplitl [Hs]; · iexact Hs
      isplitl [Hab]; · iexact Hab
      iexact Hr
    isplitl [Hp]; · iexact Hp
    isplitl [Hss]; · iexact Hss
    iexact Hb
  isplitl [HO]; · iexact HO
  isplitl [Hin]; · iexact Hin
  iapply (Tile.out_join AA.bufs c (done (Attn.vs iA))); iexact Ho

/-- The feed-forward call's body. -/
theorem run_ffn (defs : Defs nD τ sig (Elt F) Λ₀) (𝒱 : Variants) (Q : PUnit.{1} → sProp (MT nD τ sig ℕ (Elt F) ℕ (UU sig) ℕ)) :
    iprop(Φ₀F c iA iF ∗ owing c (due P 1 c) ∗ Ffn.held AF c (iF c) ∗ some_ c AF.o.view
        ∗ ((Φ₁F c ∗ owing c 0 ∗ Ffn.held AF c (iF c) ∗ has c AF.o.view (resF iF)) -∗ Q ⟨⟩))
      ⊢ wp frame (wpE defs 𝒱 (c : Thread nD τ) none) Set.univ (AF.call (F := F)) Q := by
  rw [Ffn.call_eq]
  unfold Ring.body
  rw [wp_deviceId, ← geo_F]
  have h := wp_ring P (V iA iF) 1 c (Ffn.vs iF) rfl 0 (by decide) (Above.zero _) defs 𝒱 (Tile.flat AF.bufs Ffn.spell) flatF (Ffn.ops AF)
    (Ffn.held AF c (iF c)) (specsF c defs 𝒱 iF) Q
  generalize (bodyOn (P.geo 1) (Tile.flat AF.bufs Ffn.spell) (Ffn.ops AF) c : Pg sig F Λ₀) = B at h ⊢
  refine BIBase.Entails.trans ?_ h
  unfold Φ₀F Φ₁F
  iintro ⟨⟨Hsr, Hp, HX⟩, HO, Hin, Hout, Hk⟩
  ihave Hs := (inF c) $$ Hsr
  icases Hs with ⟨Hs, Hr⟩
  ihave Ho := (Tile.out_split AF.bufs c) $$ Hout
  isplitl [HX]; · iexact HX
  isplitl [HO]; · rw [zero_add]; iexact HO
  isplitl [Hs]; · iexact Hs
  isplitl [Ho]; · iexact Ho
  isplitl [Hin]; · iexact Hin
  iintro ⟨Hin, HO, Hb, Hss, Hs, Ho⟩
  iapply Hk
  isplitl [Hs Hp Hss Hb Hr]
  · isplitl [Hs Hr]
    · iapply (outF c); isplitl [Hs]; · iexact Hs
      iexact Hr
    isplitl [Hp]; · iexact Hp
    isplitl [Hss]; · iexact Hss
    iexact Hb
  isplitl [HO]; · iexact HO
  isplitl [Hin]; · iexact Hin
  iapply (Tile.out_join AF.bufs c (done (Ffn.vs iF))); iexact Ho

end Cert.Whole
-- ==== Proof.Qkv.lean ====
/- The call that makes the queries, the keys and the values, block of rows by block of rows. -/
module

public import proofs.«01_k».proof.Proof.Rings
public import proofs.«01_k».proof.Proof.Gen.KernelIdeal.Points
public import proofs.«01_k».proof.Proof.Gen.KernelIdeal.Skeleton
public import proofs.«01_k».proof.Proof.Gen.KernelIdeal.Regions
public import Idealize.ShloMosaic.Lib.Pipeline.RegionTalk
public import Idealize.ShloMosaic.Lib.Pipeline.RegionArraysS
public import Idealize.ShloMosaic.Lib.Pipeline.ValueKit.Geometry

@[expose] public section

noncomputable section

namespace Cert.Whole

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal
open Cert.KernelIdeal.Gen
open Cert.Ring hiding nD τ
open Cert.Tile (emb_row)

variable {F : FTy → Type} [FloatOps F]

local notation "𝕄" => MT nD τ sig ℕ (Elt F) ℕ (UU sig) ℕ

/-- The queries, the keys and the values of a block of rows. -/
def queries (x : S512x1024.Idx → Elt F .bf16) (a b : S1x1024.Idx → Elt F .bf16) (w : S1024x1024.Idx → Elt F .bf16) : S512x1024.Idx → Elt F .bf16 := k0_pay4 x a b w
def keys (x : S512x1024.Idx → Elt F .bf16) (a b : S1x1024.Idx → Elt F .bf16) (w : S1024x1024.Idx → Elt F .bf16) : S512x1024.Idx → Elt F .bf16 := k0_pay1 (k0_pay3 x a b) w
def values (x : S512x1024.Idx → Elt F .bf16) (a b : S1x1024.Idx → Elt F .bf16) (w : S1024x1024.Idx → Elt F .bf16) : S512x1024.Idx → Elt F .bf16 := k0_pay2 (k0_pay3 x a b) w

section
variable (defs : Defs nD τ sig (Elt F) Λ₀) (𝒱 : Variants) (c : Dev nD)

theorem wp_put {cs : CoreSpace} {s : Shape} {e : EltTy} {m : Memref sig .tc cs s e} {off : Fin s.rank → ℕ} {inb : ∀ a, off a + s.size a ≤ s.size a}
    {w : (Rect.unit (s := s) off s.size inb).shape.Idx → Elt F e}
    {hx : (m.access (Rect.unit (s := s) off s.size inb)).Stores Finset.univ} {hm : (Finset.univ : Finset (Rect.unit (s := s) off s.size inb).shape.Idx) = Finset.univ ∨ ∀ a, (Rect.unit (s := s) off s.size inb).stride a = 1}
    {k : PUnit → Pg sig F Λ₀} {Q : PUnit.{1} → sProp (MT nD τ sig ℕ (Elt F) ℕ (UU sig) ℕ)} (v : s.Idx → Elt F e) :
    iprop(has c m.view v ∗ (has c m.view w -∗ wp frame (wpE defs 𝒱 (c : Thread nD τ) none) Set.univ (k ⟨⟩) Q))
      ⊢ wp frame (wpE defs 𝒱 (c : Thread nD τ) none) Set.univ (.op (.store m (Rect.unit (s := s) off s.size inb) w Finset.univ hx hm) k) Q := by
  iintro ⟨H, HK⟩
  iapply (wp_st defs 𝒱 c v); isplitl [H]; · iexact H
  iintro %v' %hv H
  iapply HK
  have e : v' = w := by rw [← emb_row inb v']; exact funext hv.1
  rw [← e]; iexact H

set_option maxHeartbeats 1600000 in
/-- The call's body on any buffers. -/
theorem body_spec (i : grid0.Coords) (a1 : Memref sig .tc .vmem S512x1024 .bf16) (h1 : a1.IsWhole) (a2 : Memref sig .tc .vmem S1x1024 .bf16) (h2 : a2.IsWhole)
    (a3 : Memref sig .tc .vmem S1x1024 .bf16) (h3 : a3.IsWhole) (a4 : Memref sig .tc .vmem S1024x1024 .bf16) (h4 : a4.IsWhole) (a5 : Memref sig .tc .vmem S1024x1024 .bf16) (h5 : a5.IsWhole)
    (a6 : Memref sig .tc .vmem S1024x1024 .bf16) (h6 : a6.IsWhole) (a7 : Memref sig .tc .vmem S512x1024 .bf16) (h7 : a7.IsWhole) (a8 : Memref sig .tc .vmem S512x1024 .bf16) (h8 : a8.IsWhole)
    (a9 : Memref sig .tc .vmem S512x1024 .bf16) (h9 : a9.IsWhole)
    (x : S512x1024.Idx → Elt F .bf16) (a b : S1x1024.Idx → Elt F .bf16) (wq wk wv : S1024x1024.Idx → Elt F .bf16) (y7 y8 y9 : S512x1024.Idx → Elt F .bf16)
    (Q : PUnit.{1} → sProp (MT nD τ sig ℕ (Elt F) ℕ (UU sig) ℕ)) :
    iprop((has c a1.view x ∗ has c a2.view a ∗ has c a3.view b ∗ has c a4.view wq ∗ has c a5.view wk ∗ has c a6.view wv ∗ has c a7.view y7 ∗ has c a8.view y8 ∗ has c a9.view y9)
        ∗ ((has c a1.view x ∗ has c a2.view a ∗ has c a3.view b ∗ has c a4.view wq ∗ has c a5.view wk ∗ has c a6.view wv
          ∗ has c a7.view (queries x a b wq) ∗ has c a8.view (keys x a b wk) ∗ has c a9.view (values x a b wv)) -∗ Q ⟨⟩))
      ⊢ wp frame (wpE defs 𝒱 (c : Thread nD τ) none) Set.univ (cc0__qkv_body (F := F) i a1 h1 a2 h2 a3 h3 a4 h4 a5 h5 a6 h6 a7 h7 a8 h8 a9 h9) Q := by
  rw [cc0__qkv_body_eq_skeleton]
  unfold cc0__qkv_body_skel
  rw [k0_part1_eq_skeleton]
  unfold k0_part1_skel
  iintro ⟨⟨H1, H2, H3, H4, H5, H6, H7, H8, H9⟩, HK⟩
  iapply (wp_ld defs 𝒱 c x x (emb_row inb_S512x1024_S512x1024_0_0 x)); isplitl [H1]; · iexact H1
  iintro H1
  iapply (wp_ld defs 𝒱 c a a (emb_row inb_S1x1024_S1x1024_0_0 a)); isplitl [H2]; · iexact H2
  iintro H2
  iapply (wp_ld defs 𝒱 c b b (emb_row inb_S1x1024_S1x1024_0_0 b)); isplitl [H3]; · iexact H3
  iintro H3
  iapply (wp_ld defs 𝒱 c wq wq (emb_row inb_S1024x1024_S1024x1024_0_0 wq)); isplitl [H4]; · iexact H4
  iintro H4
  iapply (wp_ld defs 𝒱 c y7 y7 (emb_row inb_S512x1024_S512x1024_0_0 y7)); isplitl [H7]; · iexact H7
  iintro H7
  iapply (wp_put defs 𝒱 c y7); isplitl [H7]; · iexact H7
  iintro H7
  iapply (wp_ld defs 𝒱 c wk wk (emb_row inb_S1024x1024_S1024x1024_0_0 wk)); isplitl [H5]; · iexact H5
  iintro H5
  iapply (wp_ld defs 𝒱 c y8 y8 (emb_row inb_S512x1024_S512x1024_0_0 y8)); isplitl [H8]; · iexact H8
  iintro H8
  iapply (wp_put defs 𝒱 c y8); isplitl [H8]; · iexact H8
  iintro H8
  iapply (wp_ld defs 𝒱 c wv wv (emb_row inb_S1024x1024_S1024x1024_0_0 wv)); isplitl [H6]; · iexact H6
  iintro H6
  iapply (wp_ld defs 𝒱 c y9 y9 (emb_row inb_S512x1024_S512x1024_0_0 y9)); isplitl [H9]; · iexact H9
  iintro H9
  iapply (wp_put defs 𝒱 c y9); isplitl [H9]; · iexact H9
  iintro H9
  rw [show ((Prog.ret PUnit.unit : Pg sig F Λ₀).bind fun _ => Pure.pure PUnit.unit) = Prog.ret PUnit.unit from rfl, wp_ret]
  imodintro
  iapply HK
  isplitl [H1]; · iexact H1
  isplitl [H2]; · iexact H2
  isplitl [H3]; · iexact H3
  isplitl [H4]; · iexact H4
  isplitl [H5]; · iexact H5
  isplitl [H6]; · iexact H6
  unfold queries keys values
  isplitl [H7]; · iexact H7
  isplitl [H8]; · iexact H8
  iexact H9

end

variable (m : (ℓ : Loc nD τ sig) → Buf (Elt F) ℓ)

/-- Window `w`'s block at point `t`. -/
def blk (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

/-- What both rings pay. -/
def dues (c : Dev nD) : CellTallies nD τ sig ℕ := due P 1 c + due P 0 c

def datQ (c : Dev nD) : Dat τ (Elt F) ℕ ℕ (UU sig) ℕ cfg0 c where
  A w := V1 m c (Pipeline.arrRef spec0 w)
  after w t := match w with
    | 0 => blk m c 0 t
    | 1 => blk m c 1 t
    | 2 => blk m c 2 t
    | 3 => blk m c 3 t
    | 4 => blk m c 4 t
    | 5 => blk m c 5 t
    | 6 => queries (blk m c 0 t) (blk m c 1 t) (blk m c 2 t) (blk m c 3 t)
    | 7 => keys (blk m c 0 t) (blk m c 1 t) (blk m c 2 t) (blk m c 4 t)
    | 8 => values (blk m c 0 t) (blk m c 1 t) (blk m c 2 t) (blk m c 5 t)
  Φ _ := iprop(Pipeline.scopedRest spec0 c ∗ ∃ r, prngReg c r)
  q _ := fullShare
  owed _ := dues c

theorem owesAt_intro {cfg : Cfg sig Λ₀} {c : Dev nD} (dat : Dat τ (Elt F) ℕ ℕ (UU sig) ℕ cfg c) (t : Fin (cfg.N + 1))
    (O : CellTallies nD τ sig ℕ) (h0 : dat.owed t = O) (hr : dat.recorded t = Set.univ) :
    (owing c O : sProp 𝕄) ⊢ (dat.owesAt 0 t : sProp 𝕄) := by
  unfold owing Dat.owesAt Pipeline.owesWithin Dat.bound; rw [h0, hr]
  iintro ⟨%W, HO⟩; iexists W; isplitr; · ipureintro; exact fun _ _ => Or.inl trivial
  iexact HO
theorem owesAt_elim {cfg : Cfg sig Λ₀} {c : Dev nD} (dat : Dat τ (Elt F) ℕ ℕ (UU sig) ℕ cfg c) (t : Fin (cfg.N + 1))
    (O : CellTallies nD τ sig ℕ) (h0 : dat.owed t = O) : (dat.owesAt 0 t : sProp 𝕄) ⊢ (owing c O : sProp 𝕄) := by
  unfold owing Dat.owesAt Pipeline.owesWithin; rw [h0]
  iintro ⟨%W, -, HO⟩; iexists W; iexact HO

theorem beforeQ_0 (c : Dev nD) (t : Fin cfg0.N) (d) : (datQ m c).before 0 t d = blk m c 0 t :=
  ((datQ m c).before_in_eq_fetched 0 rfl (fun _ => rfl) (fun _ _ _ => rfl) (fun t => by rfl) t d).trans (by rfl)
theorem beforeQ_1 (c : Dev nD) (t : Fin cfg0.N) (d) : (datQ m c).before 1 t d = blk m c 1 t :=
  ((datQ m c).before_in_eq_fetched 1 rfl (fun _ => rfl) (fun _ _ _ => rfl) (fun t => by rfl) t d).trans (by rfl)
theorem beforeQ_2 (c : Dev nD) (t : Fin cfg0.N) (d) : (datQ m c).before 2 t d = blk m c 2 t :=
  ((datQ m c).before_in_eq_fetched 2 rfl (fun _ => rfl) (fun _ _ _ => rfl) (fun t => by rfl) t d).trans (by rfl)
theorem beforeQ_3 (c : Dev nD) (t : Fin cfg0.N) (d) : (datQ m c).before 3 t d = blk m c 3 t :=
  ((datQ m c).before_in_eq_fetched 3 rfl (fun _ => rfl) (fun _ _ _ => rfl) (fun t => by rfl) t d).trans (by rfl)
theorem beforeQ_4 (c : Dev nD) (t : Fin cfg0.N) (d) : (datQ m c).before 4 t d = blk m c 4 t :=
  ((datQ m c).before_in_eq_fetched 4 rfl (fun _ => rfl) (fun _ _ _ => rfl) (fun t => by rfl) t d).trans (by rfl)
theorem beforeQ_5 (c : Dev nD) (t : Fin cfg0.N) (d) : (datQ m c).before 5 t d = blk m c 5 t :=
  ((datQ m c).before_in_eq_fetched 5 rfl (fun _ => rfl) (fun _ _ _ => rfl) (fun t => by rfl) t d).trans (by rfl)

abbrev 𝒱₀ : Variants := Variants.none

theorem callQ_at (t : Fin cfg0.N) : defs₀ (F := F) .tc cfg0.body (cfg0.bodyArgs t (cfg0.slots t)) = bodyAt0 t := rfl

theorem inQ_0 (c : Dev nD) (t : Fin cfg0.N) (d) : (owns (c : Thread nD τ) (stage0_0 (cfg0.slots t 0)) fullShare ((datQ m c).before 0 t d) : sProp 𝕄) ⊢ has c (win0_0.stage (cfg0.slots t 0)).view (blk m c 0 t) :=
  Entails.of_eq (congrArg (fun X => (has c (win0_0.stage (cfg0.slots t 0)).view X : sProp 𝕄)) (beforeQ_0 m c t d))
theorem inQ_1 (c : Dev nD) (t : Fin cfg0.N) (d) : (owns (c : Thread nD τ) (stage0_1 (cfg0.slots t 1)) fullShare ((datQ m c).before 1 t d) : sProp 𝕄) ⊢ has c (win0_1.stage (cfg0.slots t 1)).view (blk m c 1 t) :=
  Entails.of_eq (congrArg (fun X => (has c (win0_1.stage (cfg0.slots t 1)).view X : sProp 𝕄)) (beforeQ_1 m c t d))
theorem inQ_2 (c : Dev nD) (t : Fin cfg0.N) (d) : (owns (c : Thread nD τ) (stage0_2 (cfg0.slots t 2)) fullShare ((datQ m c).before 2 t d) : sProp 𝕄) ⊢ has c (win0_2.stage (cfg0.slots t 2)).view (blk m c 2 t) :=
  Entails.of_eq (congrArg (fun X => (has c (win0_2.stage (cfg0.slots t 2)).view X : sProp 𝕄)) (beforeQ_2 m c t d))
theorem inQ_3 (c : Dev nD) (t : Fin cfg0.N) (d) : (owns (c : Thread nD τ) (stage0_3 (cfg0.slots t 3)) fullShare ((datQ m c).before 3 t d) : sProp 𝕄) ⊢ has c (win0_3.stage (cfg0.slots t 3)).view (blk m c 3 t) :=
  Entails.of_eq (congrArg (fun X => (has c (win0_3.stage (cfg0.slots t 3)).view X : sProp 𝕄)) (beforeQ_3 m c t d))
theorem inQ_4 (c : Dev nD) (t : Fin cfg0.N) (d) : (owns (c : Thread nD τ) (stage0_4 (cfg0.slots t 4)) fullShare ((datQ m c).before 4 t d) : sProp 𝕄) ⊢ has c (win0_4.stage (cfg0.slots t 4)).view (blk m c 4 t) :=
  Entails.of_eq (congrArg (fun X => (has c (win0_4.stage (cfg0.slots t 4)).view X : sProp 𝕄)) (beforeQ_4 m c t d))
theorem inQ_5 (c : Dev nD) (t : Fin cfg0.N) (d) : (owns (c : Thread nD τ) (stage0_5 (cfg0.slots t 5)) fullShare ((datQ m c).before 5 t d) : sProp 𝕄) ⊢ has c (win0_5.stage (cfg0.slots t 5)).view (blk m c 5 t) :=
  Entails.of_eq (congrArg (fun X => (has c (win0_5.stage (cfg0.slots t 5)).view X : sProp 𝕄)) (beforeQ_5 m c t d))
theorem inQ_6 (c : Dev nD) (t : Fin cfg0.N) (d) : (owns (c : Thread nD τ) (stage0_6 (cfg0.slots t 6)) fullShare ((datQ m c).before 6 t d) : sProp 𝕄) ⊢ has c (win0_6.stage (cfg0.slots t 6)).view ((datQ m c).before 6 t d) := Entails.of_eq rfl
theorem inQ_7 (c : Dev nD) (t : Fin cfg0.N) (d) : (owns (c : Thread nD τ) (stage0_7 (cfg0.slots t 7)) fullShare ((datQ m c).before 7 t d) : sProp 𝕄) ⊢ has c (win0_7.stage (cfg0.slots t 7)).view ((datQ m c).before 7 t d) := Entails.of_eq rfl
theorem inQ_8 (c : Dev nD) (t : Fin cfg0.N) (d) : (owns (c : Thread nD τ) (stage0_8 (cfg0.slots t 8)) fullShare ((datQ m c).before 8 t d) : sProp 𝕄) ⊢ has c (win0_8.stage (cfg0.slots t 8)).view ((datQ m c).before 8 t d) := Entails.of_eq rfl
theorem ΦQ (c : Dev nD) (t : Fin cfg0.N) : (datQ m c).Φ t.castSucc ⊢ ((datQ m c).Φ t.succ : sProp 𝕄) := Entails.of_eq rfl
theorem outQ_0 (c : Dev nD) (t : Fin cfg0.N) : (has c (win0_0.stage (cfg0.slots t 0)).view (blk m c 0 t) : sProp 𝕄)
    ⊢ owns (c : Thread nD τ) (stage0_0 (cfg0.slots t 0)) fullShare ((datQ m c).after 0 t) := Entails.of_eq rfl
theorem outQ_1 (c : Dev nD) (t : Fin cfg0.N) : (has c (win0_1.stage (cfg0.slots t 1)).view (blk m c 1 t) : sProp 𝕄)
    ⊢ owns (c : Thread nD τ) (stage0_1 (cfg0.slots t 1)) fullShare ((datQ m c).after 1 t) := Entails.of_eq rfl
theorem outQ_2 (c : Dev nD) (t : Fin cfg0.N) : (has c (win0_2.stage (cfg0.slots t 2)).view (blk m c 2 t) : sProp 𝕄)
    ⊢ owns (c : Thread nD τ) (stage0_2 (cfg0.slots t 2)) fullShare ((datQ m c).after 2 t) := Entails.of_eq rfl
theorem outQ_3 (c : Dev nD) (t : Fin cfg0.N) : (has c (win0_3.stage (cfg0.slots t 3)).view (blk m c 3 t) : sProp 𝕄)
    ⊢ owns (c : Thread nD τ) (stage0_3 (cfg0.slots t 3)) fullShare ((datQ m c).after 3 t) := Entails.of_eq rfl
theorem outQ_4 (c : Dev nD) (t : Fin cfg0.N) : (has c (win0_4.stage (cfg0.slots t 4)).view (blk m c 4 t) : sProp 𝕄)
    ⊢ owns (c : Thread nD τ) (stage0_4 (cfg0.slots t 4)) fullShare ((datQ m c).after 4 t) := Entails.of_eq rfl
theorem outQ_5 (c : Dev nD) (t : Fin cfg0.N) : (has c (win0_5.stage (cfg0.slots t 5)).view (blk m c 5 t) : sProp 𝕄)
    ⊢ owns (c : Thread nD τ) (stage0_5 (cfg0.slots t 5)) fullShare ((datQ m c).after 5 t) := Entails.of_eq rfl
theorem outQ_6 (c : Dev nD) (t : Fin cfg0.N) : (has c (win0_6.stage (cfg0.slots t 6)).view (queries (blk m c 0 t) (blk m c 1 t) (blk m c 2 t) (blk m c 3 t)) : sProp 𝕄)
    ⊢ owns (c : Thread nD τ) (stage0_6 (cfg0.slots t 6)) fullShare ((datQ m c).after 6 t) := Entails.of_eq rfl
theorem outQ_7 (c : Dev nD) (t : Fin cfg0.N) : (has c (win0_7.stage (cfg0.slots t 7)).view (keys (blk m c 0 t) (blk m c 1 t) (blk m c 2 t) (blk m c 4 t)) : sProp 𝕄)
    ⊢ owns (c : Thread nD τ) (stage0_7 (cfg0.slots t 7)) fullShare ((datQ m c).after 7 t) := Entails.of_eq rfl
theorem outQ_8 (c : Dev nD) (t : Fin cfg0.N) : (has c (win0_8.stage (cfg0.slots t 8)).view (values (blk m c 0 t) (blk m c 1 t) (blk m c 2 t) (blk m c 5 t)) : sProp 𝕄)
    ⊢ owns (c : Thread nD τ) (stage0_8 (cfg0.slots t 8)) fullShare ((datQ m c).after 8 t) := Entails.of_eq rfl

set_option maxHeartbeats 1600000 in
theorem bodyQ (c : Dev nD) : BodyObligation (datQ m c) defs₀ 𝒱₀ 0 Set.univ := fun t => by
  rw [bigSep_W0, bigSep_W0, callQ_at]
  dsimp only
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HO := (owesAt_elim (datQ m c) _ (dues c) rfl) $$ HO
  ihave HO := (owesAt_intro (datQ m c) (t : Fin cfg0.N).succ (dues c) rfl rfl) $$ HO
  ihave HΦ := (ΦQ m c t) $$ HΦ
  ihave H0 := (inQ_0 m c t d0) $$ H0
  ihave H1 := (inQ_1 m c t d1) $$ H1
  ihave H2 := (inQ_2 m c t d2) $$ H2
  ihave H3 := (inQ_3 m c t d3) $$ H3
  ihave H4 := (inQ_4 m c t d4) $$ H4
  ihave H5 := (inQ_5 m c t d5) $$ H5
  ihave H6 := (inQ_6 m c t d6) $$ H6
  ihave H7 := (inQ_7 m c t d7) $$ H7
  ihave H8 := (inQ_8 m c t d8) $$ H8
  iapply (body_spec defs₀ 𝒱₀ c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6)) (win0_7.stage (cfg0.slots t 7)) (hstage0_7 ((cfg0.slots t 7).cast nbuf0_7))
    (win0_8.stage (cfg0.slots t 8)) (hstage0_8 ((cfg0.slots t 8).cast nbuf0_8))
    (blk m c 0 t) (blk m c 1 t) (blk m c 2 t) (blk m c 3 t) (blk m c 4 t) (blk m c 5 t)
    ((datQ m c).before 6 t d6) ((datQ m c).before 7 t d7) ((datQ m c).before 8 t d8))
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iintro ⟨H0, H1, H2, H3, H4, H5, H6, H7, H8⟩
  isplitl [HΦ]; · iexact HΦ
  isplitl [HO]; · iexact HO
  isplitl [H0]; · iapply (outQ_0 m c t); iexact H0
  isplitl [H1]; · iapply (outQ_1 m c t); iexact H1
  isplitl [H2]; · iapply (outQ_2 m c t); iexact H2
  isplitl [H3]; · iapply (outQ_3 m c t); iexact H3
  isplitl [H4]; · iapply (outQ_4 m c t); iexact H4
  isplitl [H5]; · iapply (outQ_5 m c t); iexact H5
  isplitl [H6]; · iapply (outQ_6 m c t); iexact H6
  isplitl [H7]; · iapply (outQ_7 m c t); iexact H7
  iapply (outQ_8 m c t); iexact H8

end Cert.Whole
-- ==== Proof.Local.lean ====
/- What the local work of the three calls computes, element by element. -/
module

public import proofs.«01_k».proof.Proof.Math
public import proofs.«01_k».proof.Proof.RingSum
public import proofs.«01_k».proof.Proof.AttnSpecs
public import proofs.«01_k».proof.Proof.FfnSpecs
public import proofs.«01_k».proof.Proof.Qkv

@[expose] public section

noncomputable section

namespace Cert.Whole

open Idealize.ShloMosaic
open Cert.KernelIdeal Cert.KernelIdeal.Gen
open Cert.Math

theorem ln_apply (x : Vec Ideal S512x1024 .bf16) (a b : Vec Ideal S1x1024 .bf16) (r : Fin 512) (l : Fin 1024) :
    (k0_pay3 x a b (ix2 r l) : EReal) = nrm eB (fun k => x (ix2 r k)) (fun k => a (ix2 0 k)) (fun k => b (ix2 0 k)) l := by
  pointwise [k0_pay3]
  rfl
theorem queries_apply (x : Vec Ideal S512x1024 .bf16) (a b : Vec Ideal S1x1024 .bf16) (w : Vec Ideal S1024x1024 .bf16) (r : Fin 512) (l : Fin 1024) :
    (queries x a b w (ix2 r l) : EReal) = hid eB (fun k => x (ix2 r k)) (fun k => a (ix2 0 k)) (fun k => b (ix2 0 k)) (fun k => w (ix2 k l)) * cS := by
  unfold queries
  pointwise [k0_pay4, ln_apply]
  rfl
theorem keys_apply (x : Vec Ideal S512x1024 .bf16) (a b : Vec Ideal S1x1024 .bf16) (w : Vec Ideal S1024x1024 .bf16) (r : Fin 512) (l : Fin 1024) :
    (keys x a b w (ix2 r l) : EReal) = hid eB (fun k => x (ix2 r k)) (fun k => a (ix2 0 k)) (fun k => b (ix2 0 k)) (fun k => w (ix2 k l)) := by
  unfold keys
  pointwise [k0_pay1, ln_apply]
  rfl
theorem values_apply (x : Vec Ideal S512x1024 .bf16) (a b : Vec Ideal S1x1024 .bf16) (w : Vec Ideal S1024x1024 .bf16) (r : Fin 512) (l : Fin 1024) :
    (values x a b w (ix2 r l) : EReal) = hid eB (fun k => x (ix2 r k)) (fun k => a (ix2 0 k)) (fun k => b (ix2 0 k)) (fun k => w (ix2 k l)) := by
  unfold values
  pointwise [k0_pay2, ln_apply]
  rfl

end Cert.Whole

namespace Cert.Tile

open Idealize.ShloMosaic
open Cert.KernelIdeal Cert.KernelIdeal.Gen
open Cert.Ring (SU fat3 flat3 fat3_apply flat3_apply)

theorem add_apply (u w : Vec Ideal S1x256x1024 .bf16) (r : Fin 256) (l : Fin 1024) :
    (addV u w (ix3 0 r l) : EReal) = u (ix3 0 r l) + w (ix3 0 r l) := by
  pointwise [addV, k2_pay12]
theorem fin_apply (u w : Vec Ideal S1x256x1024 .bf16) (g : Vec Ideal S1x1024 .bf16) (x : Vec Ideal S256x1024 .bf16) (r : Fin 256) (l : Fin 1024) :
    (finV u w g x (ix2 r l) : EReal) = x (ix2 r l) + g (ix2 0 l) * (u (ix3 0 r l) + w (ix3 0 r l)) := by
  pointwise [finV, k2_pay65, k2_pay64]

/-- The row of the whole array that row `r` of a chunk is. -/
def rowAt (d : Bool) (k : Fin 8) (r : Fin 256) : Fin 4096 := ⟨256 * k.val + (if d then 2048 else 0) + r.val, by cases d <;> simp <;> omega⟩
theorem xAt_apply (x : S4096x1024.Idx → Elt Ideal .bf16) (d : Bool) (k : Fin 8) (r : Fin 256) (l : Fin 1024) :
    xAt x d k (ix2 r l) = x (ix2 (rowAt d k r) l) := by
  unfold xAt
  congr 1
  funext a
  match a with
  | ⟨0, _⟩ => exact Fin.ext (emb_val_unit ..)
  | ⟨1, _⟩ => exact Fin.ext ((emb_val_unit ..).trans (Nat.zero_add _))
theorem row_whole (R : Fin 4096) (l : Fin 1024) : rowAt (halfOf (ix2 R l)) (chunkOf (ix2 R l)) (within (ix2 R l) 0) = R := by
  apply Fin.ext
  show 256 * (R.val % 2048 / 256) + (if decide (2048 ≤ R.val) then 2048 else 0) + R.val % 256 = R.val
  by_cases h : 2048 ≤ R.val <;> simp [h] <;> omega

theorem add_at (u w : Ring.Vec Ideal) (z : SU.Idx) : (addU u w z : EReal) = u z + w z := by
  idx_vars z
  unfold addU
  rw [flat3_apply, add_apply, fat3_apply, fat3_apply]
/-- An element of a chunk at the end of its way. -/
def endAt (x : S4096x1024.Idx → EReal) (g : S1x1024.Idx → EReal) (d : Bool) (k : Fin 8) (z : SU.Idx) (t : EReal) : EReal :=
  x (ix2 (rowAt d k (z 0)) (z 1)) + g (ix2 0 (z 1)) * t
theorem fin_at (x : S4096x1024.Idx → Elt Ideal .bf16) (g : S1x1024.Idx → Elt Ideal .bf16) (d : Bool) (k : Fin 8) (u w : Ring.Vec Ideal) (z : SU.Idx) :
    (finV (fat3 numelS u) (fat3 numelS w) g (xAt x d k) z : EReal) = endAt x g d k z (u z + w z) := by
  idx_vars z
  rw [fin_apply, fat3_apply, fat3_apply, xAt_apply]
  rfl

end Cert.Tile

namespace Cert.Attn

open Idealize.ShloMosaic
open Cert.KernelIdeal Cert.KernelIdeal.Gen
open Cert.Math
open Cert.Ring (SU Vs fat3 flat3 fat3_apply flat3_apply done_sum done chunkAt)
open Cert.Tile (chunkR)

/-- One head of a chunk: the softmax of its scores over the values. -/
theorem head_apply (q : Vec Ideal S256x128 .bf16) (k v : Vec Ideal S4096x128 .bf16) (r : Fin 256) (l : Fin 128) :
    (headV q k v (ix2 r l) : EReal) = soft (fun j => ∑ d : Fin 128, q (ix2 r d) * k (ix2 j d)) fun j => v (ix2 j l) := by
  pointwise [headV, k1_pay1]
  rfl
theorem proj_apply (a : Vec Ideal S256x1024 .bf16) (w : Vec Ideal S1024x1024 .bf16) (r : Fin 256) (l : Fin 1024) :
    (projV a w (ix3 0 r l) : EReal) = ∑ j : Fin 1024, a (ix2 r j) * w (ix2 j l) := by
  pointwise [projV, k1_pay3, k1_pay2]

/-- Column `d` of head `h`. -/
def headCol (h : Fin 8) (d : Fin 128) : Fin 1024 := ⟨128 * h.val + d.val, by omega⟩
/-- The head of a column. -/
def headIn (j : Fin 1024) : Fin 8 := ⟨j.val / 128, by omega⟩

theorem qAt_apply (q : S4096x1024.Idx → Elt Ideal .bf16) (d : Bool) (k h : Fin 8) (r : Fin 256) (l : Fin 128) :
    qAt q d k h (ix2 r l) = q (ix2 (Cert.Tile.rowAt d k r) (headCol h l)) := by
  unfold qAt
  congr 1
  funext a
  match a with
  | ⟨0, _⟩ => exact Fin.ext (emb_val ..)
  | ⟨1, _⟩ => exact Fin.ext (emb_val ..)
theorem colAt_apply (k : S4096x1024.Idx → Elt Ideal .bf16) (h : Fin 8) (r : Fin 4096) (l : Fin 128) :
    colAt k h (ix2 r l) = k (ix2 r (headCol h l)) := by
  unfold colAt
  congr 1
  funext a
  match a with
  | ⟨0, _⟩ => exact Fin.ext ((emb_val ..).trans (Nat.zero_add _))
  | ⟨1, _⟩ => exact Fin.ext (emb_val ..)

/-- An element of the attention's output: the softmax of the scores in its head over its column of the values. -/
def attAt (q k v : S4096x1024.Idx → EReal) (R : Fin 4096) (j : Fin 1024) : EReal :=
  soft (fun t => ∑ d : Fin 128, q (ix2 R (headCol (headIn j) d)) * k (ix2 t (headCol (headIn j) d))) fun t => v (ix2 t j)

theorem beside_apply (i : Ins Ideal) (d : Bool) (k : Fin 8) (r : Fin 256) (j : Fin 1024) :
    (beside (headsV i d k) (ix2 r j) : EReal) = attAt i.q i.k i.v (Cert.Tile.rowAt d k r) j := by
  have e : inHead (ix2 r j) = ix2 r ⟨j.val % 128, Nat.mod_lt _ (by decide)⟩ := by
    funext a
    match a with
    | ⟨0, _⟩ => rfl
    | ⟨1, _⟩ => rfl
  have ej : headCol (headIn j) ⟨j.val % 128, Nat.mod_lt _ (by decide)⟩ = j := Fin.ext (by show 128 * (j.val / 128) + j.val % 128 = j.val; omega)
  show (headsV i d k (headIn j) (inHead (ix2 r j)) : EReal) = _
  rw [e]
  unfold headsV
  rw [head_apply]
  simp only [qAt_apply, colAt_apply, ej]
  rfl

/-- One device's share of an element: its heads. -/
def share (q k v : S4096x1024.Idx → EReal) (wo : S1024x1024.Idx → EReal) (R : Fin 4096) (l : Fin 1024) : EReal :=
  ∑ j : Fin 1024, attAt q k v R j * wo (ix2 j l)

variable (i : Dev nD → Ins Ideal)

/-- Device `e`'s part of a chunk, at an element. -/
def partAt (e : Dev nD) (d : Bool) (k : Fin 8) (z : SU.Idx) : EReal :=
  share (i e).q (i e).k (i e).v (i e).wo (Cert.Tile.rowAt d k (z 0)) (z 1)
theorem part_at (c : Dev nD) (d : Bool) (s : ℕ) (z : SU.Idx) : ((vs i).part c d s z : EReal) = partAt i c d (chunkAt c d (s + 1)) z := by
  idx_vars z
  rw [vs_part, flat3_apply, proj_apply]
  simp only [beside_apply]
  rfl
theorem fin_at (c : Dev nD) (d : Bool) (u w : Ring.Vec Ideal) (z : SU.Idx) :
    ((vs i).fin c d u w z : EReal) = Cert.Tile.endAt (i c).x (i c).ga d (chunkR c d 7) z (u z + w z) := by
  rw [vs_fin]
  exact Cert.Tile.fin_at ..

/-- An element of what the attention call leaves. -/
theorem result_apply (R : Fin 4096) (l : Fin 1024) :
    ∃ c : Dev nD, (Cert.Tile.assemble (done (vs i)) (ix2 R l) : EReal)
      = (i c).x (ix2 R l) + (i c).ga (ix2 0 l) * ∑ e : Dev nD, share (i e).q (i e).k (i e).v (i e).wo R l := by
  refine ⟨Ring.home (Cert.Tile.halfOf (ix2 R l)) (Cert.Tile.chunkOf (ix2 R l)), ?_⟩
  have h := done_sum (vs i) (partAt i) (part_at i) (fun u w z => Cert.Tile.add_at u w z) (fun c d z t => Cert.Tile.endAt (i c).x (i c).ga d (chunkR c d 7) z t)
    (fin_at i) (Cert.Tile.halfOf (ix2 R l)) (Cert.Tile.chunkOf (ix2 R l)) (Cert.Tile.within (ix2 R l))
  rw [show chunkR (Ring.home (Cert.Tile.halfOf (ix2 R l)) (Cert.Tile.chunkOf (ix2 R l))) (Cert.Tile.halfOf (ix2 R l)) 7 = Cert.Tile.chunkOf (ix2 R l) from Ring.chunk_home ..] at h
  unfold partAt Cert.Tile.endAt at h
  rw [Cert.Tile.row_whole] at h
  exact h

end Cert.Attn

namespace Cert.Ffn

open Idealize.ShloMosaic
open Cert.KernelIdeal Cert.KernelIdeal.Gen
open Cert.Math
open Cert.Ring (SU Vs fat3 flat3 fat3_apply flat3_apply done_sum done chunkAt)
open Cert.Tile (chunkR)

/-- One device's share of an element: its columns of the hidden layer. -/
def share (ρ sm sh : Fin 1024 → EReal) (w1 : S1024x512.Idx → EReal) (w2 : S512x1024.Idx → EReal) (l : Fin 1024) : EReal :=
  ∑ j : Fin 512, act (hid eW ρ sm sh fun a => w1 (ix2 a j)) * w2 (ix2 j l)

theorem part_apply (x : Vec Ideal S256x1024 .bf16) (sm sh : Vec Ideal S1x1024 .bf16) (w1 : Vec Ideal S1024x512 .bf16) (w2 : Vec Ideal S512x1024 .bf16)
    (r : Fin 256) (l : Fin 1024) :
    (partV x sm sh w1 w2 (ix3 0 r l) : EReal) = share (fun a => x (ix2 r a)) (fun a => sm (ix2 0 a)) (fun a => sh (ix2 0 a)) w1 w2 l := by
  pointwise [partV, k2_pay6, k2_pay5]
  rfl

variable (i : Dev nD → Ins Ideal)

/-- Device `e`'s part of a chunk, at an element. -/
def partAt (e : Dev nD) (d : Bool) (k : Fin 8) (z : SU.Idx) : EReal :=
  share (fun a => (i e).x (ix2 (Cert.Tile.rowAt d k (z 0)) a)) (fun a => (i e).sm (ix2 0 a)) (fun a => (i e).sh (ix2 0 a)) (i e).w1 (i e).w2 (z 1)
theorem part_at (c : Dev nD) (d : Bool) (s : ℕ) (z : SU.Idx) : ((vs i).part c d s z : EReal) = partAt i c d (chunkAt c d (s + 1)) z := by
  idx_vars z
  rw [vs_part, flat3_apply, part_apply]
  simp only [Cert.Tile.xAt_apply]
  rfl
theorem fin_at (c : Dev nD) (d : Bool) (u w : Ring.Vec Ideal) (z : SU.Idx) :
    ((vs i).fin c d u w z : EReal) = Cert.Tile.endAt (i c).x (i c).gm d (chunkR c d 7) z (u z + w z) := by
  rw [vs_fin]
  exact Cert.Tile.fin_at ..

/-- An element of what the feed-forward call leaves. -/
theorem result_apply (R : Fin 4096) (l : Fin 1024) :
    ∃ c : Dev nD, (Cert.Tile.assemble (done (vs i)) (ix2 R l) : EReal)
      = (i c).x (ix2 R l) + (i c).gm (ix2 0 l) * ∑ e : Dev nD, share (fun a => (i e).x (ix2 R a)) (fun a => (i e).sm (ix2 0 a)) (fun a => (i e).sh (ix2 0 a)) (i e).w1 (i e).w2 l := by
  refine ⟨Ring.home (Cert.Tile.halfOf (ix2 R l)) (Cert.Tile.chunkOf (ix2 R l)), ?_⟩
  have h := done_sum (vs i) (partAt i) (part_at i) (fun u w z => Cert.Tile.add_at u w z) (fun c d z t => Cert.Tile.endAt (i c).x (i c).gm d (chunkR c d 7) z t)
    (fin_at i) (Cert.Tile.halfOf (ix2 R l)) (Cert.Tile.chunkOf (ix2 R l)) (Cert.Tile.within (ix2 R l))
  rw [show chunkR (Ring.home (Cert.Tile.halfOf (ix2 R l)) (Cert.Tile.chunkOf (ix2 R l))) (Cert.Tile.halfOf (ix2 R l)) 7 = Cert.Tile.chunkOf (ix2 R l) from Ring.chunk_home ..] at h
  unfold partAt Cert.Tile.endAt at h
  rw [Cert.Tile.row_whole] at h
  exact h

end Cert.Ffn
-- ==== Proof.RefValue.lean ====
/- The reference's result at an element. -/
module

public import proofs.«01_k».proof.Proof.Math
public import proofs.«01_k».proof.Proof.Gen.ReferenceIdeal.Run

@[expose] public section

noncomputable section

namespace Cert.Ref

open Idealize.ShloMosaic
open Cert.Math
open Cert.ReferenceIdeal Cert.ReferenceIdeal.Gen Cert.ReferenceIdeal.Value

/-! ## The block, element by element -/

/-- The arrays of the problem. -/
structure Arr where
  x : Fin 4096 → Fin 1024 → EReal
  wq : Fin 1024 → Fin 8192 → EReal
  wk : Fin 1024 → Fin 8192 → EReal
  wv : Fin 1024 → Fin 8192 → EReal
  wo : Fin 8192 → Fin 1024 → EReal
  t : Fin 128 → EReal
  wm : Fin 128 → Fin 6144 → EReal
  w1 : Fin 1024 → Fin 4096 → EReal
  w2 : Fin 4096 → Fin 1024 → EReal

variable (A : Arr)

/-- The modulation, and its six parts. -/
def Arr.mod (J : Fin 6144) : EReal := ∑ a, A.t a * A.wm a J
def Arr.sa (a : Fin 1024) : EReal := A.mod ⟨a.val, by omega⟩
def Arr.sha (a : Fin 1024) : EReal := A.mod ⟨1024 + a.val, by omega⟩
def Arr.ga (a : Fin 1024) : EReal := A.mod ⟨2048 + a.val, by omega⟩
def Arr.sm (a : Fin 1024) : EReal := A.mod ⟨3072 + a.val, by omega⟩
def Arr.shm (a : Fin 1024) : EReal := A.mod ⟨4096 + a.val, by omega⟩
def Arr.gm (a : Fin 1024) : EReal := A.mod ⟨5120 + a.val, by omega⟩

/-- The queries, the keys, the values. -/
def Arr.q (R : Fin 4096) (J : Fin 8192) : EReal := hid eB (A.x R) A.sa A.sha fun a => A.wq a J
def Arr.k (R : Fin 4096) (J : Fin 8192) : EReal := hid eB (A.x R) A.sa A.sha fun a => A.wk a J
def Arr.v (R : Fin 4096) (J : Fin 8192) : EReal := hid eB (A.x R) A.sa A.sha fun a => A.wv a J
/-- Column `d` of head `H`. -/
def colOf (H : Fin 64) (d : Fin 128) : Fin 8192 := ⟨H.val * 128 + d.val, by omega⟩
def headOf (J : Fin 8192) : Fin 64 := ⟨J.val / 128, by omega⟩
def Arr.score (H : Fin 64) (R j : Fin 4096) : EReal := (∑ d, A.q R (colOf H d) * A.k j (colOf H d)) * cS
/-- The attention's output, the residual after it, and the block's result. -/
def Arr.att (R : Fin 4096) (J : Fin 8192) : EReal := soft (A.score (headOf J) R) fun j => A.v j J
def Arr.x1 (R : Fin 4096) (l : Fin 1024) : EReal := A.x R l + A.ga l * ∑ J, A.att R J * A.wo J l
def Arr.out (R : Fin 4096) (l : Fin 1024) : EReal := A.x1 R l + A.gm l * ∑ J, act (hid eW (A.x1 R) A.sm A.shm fun a => A.w1 a J) * A.w2 J l

/-! ## The reference's terms -/

open Cert.ReferenceIdeal Cert.ReferenceIdeal.Value

variable (V0 : Valuation τ sig (Elt Ideal))

/-- The arrays as the reference's device holds them. -/
def arr : Arr where
  x R a := V0 (Proc.devRef .tc main_arg0) (ix3 0 R a)
  wq a J := V0 (Proc.devRef .tc main_arg1) (ix2 a J)
  wk a J := V0 (Proc.devRef .tc main_arg2) (ix2 a J)
  wv a J := V0 (Proc.devRef .tc main_arg3) (ix2 a J)
  wo J l := V0 (Proc.devRef .tc main_arg4) (ix2 J l)
  t a := V0 (Proc.devRef .tc main_arg5) (ix2 0 a)
  wm a J := V0 (Proc.devRef .tc main_arg6) (ix2 a J)
  w1 a J := V0 (Proc.devRef .tc main_arg7) (ix2 a J)
  w2 J l := V0 (Proc.devRef .tc main_arg8) (ix2 J l)

theorem mod_apply (J : Fin 6144) : (res_main_v1 (F := Ideal) V0 (ix2 0 J) : EReal) = (arr V0).mod J := by
  unfold res_main_v1
  pointwise
  rfl
theorem x_apply (R : Fin 4096) (a : Fin 1024) : (res_main_v8 (F := Ideal) V0 (ix2 R a) : EReal) = (arr V0).x R a := by
  unfold res_main_v8
  pointwise
  rfl
theorem ln_apply (R : Fin 4096) (a : Fin 1024) :
    (res_main_v28 (F := Ideal) V0 (ix2 R a) : EReal) = nrm eB ((arr V0).x R) (arr V0).sa (arr V0).sha a := by
  unfold res_main_v28 res_main_call0_v6 res_main_call0_v9 res_main_call0_v0
  pointwise [x_apply, mod_apply]
  exact nrm_ref eB ((arr V0).x R) (arr V0).sa (arr V0).sha eB_pos a _

theorem score_apply (H : Fin 64) (R j : Fin 4096) : (res_main_v42 (F := Ideal) V0 (ix3 H R j) : EReal) = (arr V0).score H R j := by
  unfold res_main_v42
  pointwise [ln_apply]
  rfl

/-- The greatest score of a row. -/
def Arr.top (A : Arr) (H : Fin 64) (R : Fin 4096) : EReal := Finset.univ.fold max ⊥ (A.score H R)
theorem bot_word : (Ideal.ofBits .f32 0xFF800000#32 : EReal) = ⊥ := by simp [Ideal.ofBits, Ideal.ieee]

theorem exp_apply (H : Fin 64) (R j : Fin 4096) :
    (res_main_v47 (F := Ideal) V0 (ix3 H R j) : EReal) = Ideal.exp ((arr V0).score H R j - (arr V0).top H R) := by
  unfold res_main_v47
  pointwise [score_apply]
  refine congrArg (fun M => Ideal.exp ((arr V0).score H R j - M)) ?_
  refine (Shape.ReducesTo.fold_fiber_r3_a2 (Gen.reducesTo_S64x4096x4096_S64x4096_d2) (ix2 H R) (max : EReal → EReal → EReal) _ (fun i => (res_main_v42 (F := Ideal) V0 i : EReal))).trans ?_
  rw [bot_word]
  exact congrArg (Finset.univ.fold max ⊥) (funext fun k => score_apply V0 H R k)

theorem x1_apply (hs : ∀ H R j, IsR ((arr V0).score H R j)) (R : Fin 4096) (l : Fin 1024) : (res_main_v63 (F := Ideal) V0 (ix2 R l) : EReal) = (arr V0).x1 R l := by
  unfold res_main_v63
  pointwise [x_apply, mod_apply, exp_apply, ln_apply]
  refine congrArg (fun y => (arr V0).x R l + (arr V0).ga l * y) (Finset.sum_congr rfl fun J _ => congrArg (· * (arr V0).wo J l) ?_)
  exact soft_shift ((arr V0).score (headOf J) R) (fun j => (arr V0).v j J) (by norm_num) (hs _ _) (top_real _ (by norm_num) (hs _ _))

theorem hid_apply (hs : ∀ H R j, IsR ((arr V0).score H R j)) (R J : Fin 4096) :
    (res_main_v85 (F := Ideal) V0 (ix2 R J) : EReal) = hid eW ((arr V0).x1 R) (arr V0).sm (arr V0).shm fun a => (arr V0).w1 a J := by
  unfold res_main_v85 res_main_call1_v5 res_main_call1_v8
  have h : ∀ R l, (res_main_v63 (F := Ideal) V0 (ix2 R l) : EReal) = (arr V0).x1 R l := x1_apply V0 hs
  pointwise [h, mod_apply]
  refine Finset.sum_congr (M := EReal) rfl fun a _ => congrArg (fun y : EReal => y * (arr V0).w1 a J) ?_
  exact nrm_ref eW ((arr V0).x1 R) (arr V0).sm (arr V0).shm eW_pos a _

/-- What the reference returns, before it puts the leading axis back. -/
def block : S4096x1024.Idx → Elt Ideal .f32 :=
  addf (res_main_v63 V0) (mulf (broadcastInDim S4096x1024 ![0, 1] bcast_S1x1024_S4096x1024_0_1 (extf .f32 (extractStridedSlice S1x1024 ![0, 5120] (res_main_v1 V0) slices_S1x6144_S1x1024_0_5120) bitsLt_bf16_f32)) (Host.dotGeneral (F := Ideal) dot_S4096x4096_S4096x1024_S4096x1024_1_0_0_1_n_n none (Host.divf (res_main_v85 V0) (addf (broadcastInDim S4096x4096 ![] bcast_S_S4096x4096 (constant S_ .f32 0x3F800000#32)) (Host.exp (Host.negf (res_main_v85 V0))))) (extf .f32 (V0 (Proc.devRef .tc main_arg8)) bitsLt_bf16_f32)))

theorem out_apply (hs : ∀ H R j, IsR ((arr V0).score H R j)) (R : Fin 4096) (l : Fin 1024) :
    (block V0 (ix2 R l) : EReal) = (arr V0).out R l := by
  unfold block
  have h : ∀ R l, (res_main_v63 (F := Ideal) V0 (ix2 R l) : EReal) = (arr V0).x1 R l := x1_apply V0 hs
  have h' : ∀ R J, (res_main_v85 (F := Ideal) V0 (ix2 R J) : EReal) = _ := hid_apply V0 hs
  pointwise [h, h', mod_apply]
  simp only [act_eq]
  rfl

end Cert.Ref
-- ==== Proof.Runs.lean ====
/- The two communicating calls in their regions. -/
module

public import proofs.«01_k».proof.Proof.Qkv
public import proofs.«01_k».proof.Proof.Gen.KernelIdeal.Regions

@[expose] public section

noncomputable section

namespace Cert.Whole

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal
open Cert.KernelIdeal.Gen
open Cert.Ring hiding nD τ

variable {F : FTy → Type} [FloatOps F]

local notation "𝕄" => MT nD τ sig ℕ (Elt F) ℕ (UU sig) ℕ

variable (m : (ℓ : Loc nD τ sig) → Buf (Elt F) ℓ)

/-- The buffers after the call that makes the queries, the keys and the values. -/
def U2 (c : Dev nD) : Valuation τ sig (Elt F) := Pipeline.afterRegion (datQ m c) (V1 m c)

/-- Window `w`'s block of the attention call. -/
def blkA (c : Dev nD) (w : Fin cfg1.W) (t : Fin cfg1.N) : ((cfg1.win w).xblock (cfg1.grid.coords t)).Idx → Elt F (cfg1.win w).elt :=
  ((cfg1.win w).blk t).view.read (Elt F) (U2 m c (Proc.devRef .tc (Pipeline.arrRef spec1 w)))

/-- What each device's attention call reads. -/
def insA (c : Dev nD) : Attn.Ins F where
  q := blkA m c 0 t1_0
  k := blkA m c 1 t1_0
  v := blkA m c 2 t1_0
  wo := blkA m c 3 t1_0
  x := blkA m c 4 t1_0
  ga := blkA m c 5 t1_0

/-- The buffers after the attention call. -/
def U3 (c : Dev nD) : Valuation τ sig (Elt F) := Function.update (U2 m c) (Proc.devRef .tc main_v11) (resA (insA m))

theorem U3_res (c : Dev nD) : U3 m c (Proc.devRef .tc main_v11) = resA (insA m) := Function.update_self ..
theorem U3_ne (c : Dev nD) (b : DevRef τ sig) (h : b ≠ Proc.devRef .tc main_v11) : U3 m c b = U2 m c b := Function.update_of_ne h ..

/-- Window `w`'s block of the feed-forward call. -/
def blkF (c : Dev nD) (w : Fin cfg2.W) (t : Fin cfg2.N) : ((cfg2.win w).xblock (cfg2.grid.coords t)).Idx → Elt F (cfg2.win w).elt :=
  ((cfg2.win w).blk t).view.read (Elt F) (U3 m c (Proc.devRef .tc (Pipeline.arrRef spec2 w)))

/-- What each device's feed-forward call reads. -/
def insF (c : Dev nD) : Ffn.Ins F where
  x := blkF m c 0 t2_0
  sm := blkF m c 1 t2_0
  sh := blkF m c 2 t2_0
  gm := blkF m c 3 t2_0
  w1 := blkF m c 4 t2_0
  w2 := blkF m c 5 t2_0

/-- The buffers after the feed-forward call, and at the end. -/
def U4 (c : Dev nD) : Valuation τ sig (Elt F) := Function.update (U3 m c) (Proc.devRef .tc main_v12) (resF (insF m))
def U5 (c : Dev nD) : Valuation τ sig (Elt F) := StableHlo.after hostOps3 (U4 m c)

theorem U4_res (c : Dev nD) : U4 m c (Proc.devRef .tc main_v12) = resF (insF m) := Function.update_self ..
theorem U4_ne (c : Dev nD) (b : DevRef τ sig) (h : b ≠ Proc.devRef .tc main_v12) : U4 m c b = U3 m c b := Function.update_of_ne h ..

/-! ## The attention call -/

def datA (c : Dev nD) : Dat τ (Elt F) ℕ ℕ (UU sig) ℕ cfg1 c where
  A w := U2 m c (Proc.devRef .tc (Pipeline.arrRef spec1 w))
  after w t := match w with
    | 0 => blkA m c 0 t
    | 1 => blkA m c 1 t
    | 2 => blkA m c 2 t
    | 3 => blkA m c 3 t
    | 4 => blkA m c 4 t
    | 5 => blkA m c 5 t
    | 6 => resA (insA m)
  Φ t := if t.val = 0 then Φ₀A c (insA m) (insF m) else Φ₁A c
  q _ := fullShare
  owed t := if t.val = 0 then due P 1 c + due P 0 c else due P 1 c

theorem owedA_first (c : Dev nD) : (datA m c).owed (t1_0 : Fin cfg1.N).castSucc = due P 1 c + due P 0 c := by
  show (if ((t1_0 : Fin cfg1.N).castSucc : Fin (cfg1.N + 1)).val = 0 then due P 1 c + due P 0 c else due P 1 c) = _; exact if_pos rfl
theorem owedA_zero (c : Dev nD) : (datA m c).owed 0 = due P 1 c + due P 0 c := by
  show (if ((0 : Fin (cfg1.N + 1)).val = 0) then due P 1 c + due P 0 c else due P 1 c) = _; exact if_pos rfl
theorem owedA_last (c : Dev nD) : (datA m c).owed (Fin.last _) = due P 1 c := by
  show (if (Fin.last cfg1.N).val = 0 then due P 1 c + due P 0 c else due P 1 c) = due P 1 c
  rw [Fin.val_last, if_neg (by rw [show cfg1.N = 1 from N_1]; decide)]

theorem beforeA_0 (c : Dev nD) (t : Fin cfg1.N) (d) : (datA m c).before 0 t d = blkA m c 0 t :=
  ((datA m c).before_in_eq_fetched 0 rfl (fun _ => rfl) (fun _ _ _ => rfl) (fun t => by rfl) t d).trans (by rfl)
theorem beforeA_1 (c : Dev nD) (t : Fin cfg1.N) (d) : (datA m c).before 1 t d = blkA m c 1 t :=
  ((datA m c).before_in_eq_fetched 1 rfl (fun _ => rfl) (fun _ _ _ => rfl) (fun t => by rfl) t d).trans (by rfl)
theorem beforeA_2 (c : Dev nD) (t : Fin cfg1.N) (d) : (datA m c).before 2 t d = blkA m c 2 t :=
  ((datA m c).before_in_eq_fetched 2 rfl (fun _ => rfl) (fun _ _ _ => rfl) (fun t => by rfl) t d).trans (by rfl)
theorem beforeA_3 (c : Dev nD) (t : Fin cfg1.N) (d) : (datA m c).before 3 t d = blkA m c 3 t :=
  ((datA m c).before_in_eq_fetched 3 rfl (fun _ => rfl) (fun _ _ _ => rfl) (fun t => by rfl) t d).trans (by rfl)
theorem beforeA_4 (c : Dev nD) (t : Fin cfg1.N) (d) : (datA m c).before 4 t d = blkA m c 4 t :=
  ((datA m c).before_in_eq_fetched 4 rfl (fun _ => rfl) (fun _ _ _ => rfl) (fun t => by rfl) t d).trans (by rfl)
theorem beforeA_5 (c : Dev nD) (t : Fin cfg1.N) (d) : (datA m c).before 5 t d = blkA m c 5 t :=
  ((datA m c).before_in_eq_fetched 5 rfl (fun _ => rfl) (fun _ _ _ => rfl) (fun t => by rfl) t d).trans (by rfl)
theorem inA_0 (c : Dev nD) (d) : (owns (c : Thread nD τ) (stage1_0 0) fullShare ((datA m c).before 0 t1_0 d) : sProp 𝕄) ⊢ has c AA.q.view (insA m c).q :=
  Entails.of_eq (congrArg (fun X => (has c AA.q.view X : sProp 𝕄)) (beforeA_0 m c t1_0 d))
theorem outA_0 (c : Dev nD) : (has c AA.q.view (insA m c).q : sProp 𝕄) ⊢ owns (c : Thread nD τ) (stage1_0 0) fullShare ((datA m c).after 0 t1_0) := Entails.of_eq rfl
theorem inA_1 (c : Dev nD) (d) : (owns (c : Thread nD τ) (stage1_1 0) fullShare ((datA m c).before 1 t1_0 d) : sProp 𝕄) ⊢ has c AA.k.view (insA m c).k :=
  Entails.of_eq (congrArg (fun X => (has c AA.k.view X : sProp 𝕄)) (beforeA_1 m c t1_0 d))
theorem outA_1 (c : Dev nD) : (has c AA.k.view (insA m c).k : sProp 𝕄) ⊢ owns (c : Thread nD τ) (stage1_1 0) fullShare ((datA m c).after 1 t1_0) := Entails.of_eq rfl
theorem inA_2 (c : Dev nD) (d) : (owns (c : Thread nD τ) (stage1_2 0) fullShare ((datA m c).before 2 t1_0 d) : sProp 𝕄) ⊢ has c AA.v.view (insA m c).v :=
  Entails.of_eq (congrArg (fun X => (has c AA.v.view X : sProp 𝕄)) (beforeA_2 m c t1_0 d))
theorem outA_2 (c : Dev nD) : (has c AA.v.view (insA m c).v : sProp 𝕄) ⊢ owns (c : Thread nD τ) (stage1_2 0) fullShare ((datA m c).after 2 t1_0) := Entails.of_eq rfl
theorem inA_3 (c : Dev nD) (d) : (owns (c : Thread nD τ) (stage1_3 0) fullShare ((datA m c).before 3 t1_0 d) : sProp 𝕄) ⊢ has c AA.wo.view (insA m c).wo :=
  Entails.of_eq (congrArg (fun X => (has c AA.wo.view X : sProp 𝕄)) (beforeA_3 m c t1_0 d))
theorem outA_3 (c : Dev nD) : (has c AA.wo.view (insA m c).wo : sProp 𝕄) ⊢ owns (c : Thread nD τ) (stage1_3 0) fullShare ((datA m c).after 3 t1_0) := Entails.of_eq rfl
theorem inA_4 (c : Dev nD) (d) : (owns (c : Thread nD τ) (stage1_4 0) fullShare ((datA m c).before 4 t1_0 d) : sProp 𝕄) ⊢ has c AA.x.view (insA m c).x :=
  Entails.of_eq (congrArg (fun X => (has c AA.x.view X : sProp 𝕄)) (beforeA_4 m c t1_0 d))
theorem outA_4 (c : Dev nD) : (has c AA.x.view (insA m c).x : sProp 𝕄) ⊢ owns (c : Thread nD τ) (stage1_4 0) fullShare ((datA m c).after 4 t1_0) := Entails.of_eq rfl
theorem inA_5 (c : Dev nD) (d) : (owns (c : Thread nD τ) (stage1_5 0) fullShare ((datA m c).before 5 t1_0 d) : sProp 𝕄) ⊢ has c AA.ga.view (insA m c).ga :=
  Entails.of_eq (congrArg (fun X => (has c AA.ga.view X : sProp 𝕄)) (beforeA_5 m c t1_0 d))
theorem outA_5 (c : Dev nD) : (has c AA.ga.view (insA m c).ga : sProp 𝕄) ⊢ owns (c : Thread nD τ) (stage1_5 0) fullShare ((datA m c).after 5 t1_0) := Entails.of_eq rfl
theorem inA_6 (c : Dev nD) (d) : (owns (c : Thread nD τ) (stage1_6 0) fullShare ((datA m c).before 6 t1_0 d) : sProp 𝕄) ⊢ some_ c AA.o.view :=
  has_some (F := F) c AA.o.view ((datA m c).before 6 t1_0 d)
theorem outA_6 (c : Dev nD) : (has c AA.o.view (resA (insA m)) : sProp 𝕄) ⊢ owns (c : Thread nD τ) (stage1_6 0) fullShare ((datA m c).after 6 t1_0) := Entails.of_eq rfl
theorem ΦA_first (c : Dev nD) : (datA m c).Φ (t1_0 : Fin cfg1.N).castSucc = Φ₀A c (insA m) (insF m) := rfl
theorem ΦA_last (c : Dev nD) : (datA m c).Φ (t1_0 : Fin cfg1.N).succ = Φ₁A c := rfl

theorem callA_at : defs₀ (F := F) .tc cfg1.body (cfg1.bodyArgs t1_0 (cfg1.slots t1_0)) = AA.call := rfl

set_option maxHeartbeats 800000 in
theorem bodyA (c : Dev nD) : BodyObligation (datA m c) defs₀ 𝒱₀ 0 Set.univ := fun t => by
  obtain rfl := fin_N1 t
  rw [bigSep_W1, bigSep_W1, callA_at, ΦA_first, ΦA_last]
  dsimp only
  iintro ⟨HΦ, HO, ⟨%d0, H0⟩, ⟨%d1, H1⟩, ⟨%d2, H2⟩, ⟨%d3, H3⟩, ⟨%d4, H4⟩, ⟨%d5, H5⟩, ⟨%d6, H6⟩⟩
  ihave HO := (owesAt_elim (datA m c) _ _ (owedA_first m c)) $$ HO
  ihave H0 := (inA_0 m c d0) $$ H0
  ihave H1 := (inA_1 m c d1) $$ H1
  ihave H2 := (inA_2 m c d2) $$ H2
  ihave H3 := (inA_3 m c d3) $$ H3
  ihave H4 := (inA_4 m c d4) $$ H4
  ihave H5 := (inA_5 m c d5) $$ H5
  iapply (run_attn c (insA m) (insF m) defs₀ 𝒱₀ _)
  isplitl [HΦ]; · iexact HΦ
  isplitl [HO]; · iexact HO
  isplitl [H0 H1 H2 H3 H4 H5]
  · unfold givenA
    isplitl [H0]; · iexact H0
    isplitl [H1]; · iexact H1
    isplitl [H2]; · iexact H2
    isplitl [H3]; · iexact H3
    isplitl [H4]; · iexact H4
    iexact H5
  isplitl [H6]
  · iapply (inA_6 m c d6); iexact H6
  unfold givenA
  iintro ⟨HΦ, HO, ⟨H0, H1, H2, H3, H4, H5⟩, Ho⟩
  isplitl [HΦ]; · iexact HΦ
  isplitl [HO]; · iapply (owesAt_intro (datA m c) (t1_0 : Fin cfg1.N).succ _ (owedA_last m c) rfl); iexact HO
  isplitl [H0]; · iapply (outA_0 m c); iexact H0
  isplitl [H1]; · iapply (outA_1 m c); iexact H1
  isplitl [H2]; · iapply (outA_2 m c); iexact H2
  isplitl [H3]; · iapply (outA_3 m c); iexact H3
  isplitl [H4]; · iapply (outA_4 m c); iexact H4
  isplitl [H5]; · iapply (outA_5 m c); iexact H5
  iapply (outA_6 m c); iexact Ho

/-! ## The feed-forward call -/

def datF (c : Dev nD) : Dat τ (Elt F) ℕ ℕ (UU sig) ℕ cfg2 c where
  A w := U3 m c (Proc.devRef .tc (Pipeline.arrRef spec2 w))
  after w t := match w with
    | 0 => blkF m c 0 t
    | 1 => blkF m c 1 t
    | 2 => blkF m c 2 t
    | 3 => blkF m c 3 t
    | 4 => blkF m c 4 t
    | 5 => blkF m c 5 t
    | 6 => resF (insF m)
  Φ t := if t.val = 0 then Φ₀F c (insA m) (insF m) else Φ₁F c
  q _ := fullShare
  owed t := if t.val = 0 then due P 1 c else 0

theorem owedF_first (c : Dev nD) : (datF m c).owed (t2_0 : Fin cfg2.N).castSucc = due P 1 c := by
  show (if ((t2_0 : Fin cfg2.N).castSucc : Fin (cfg2.N + 1)).val = 0 then due P 1 c else 0) = _; exact if_pos rfl
theorem owedF_zero (c : Dev nD) : (datF m c).owed 0 = due P 1 c := by
  show (if ((0 : Fin (cfg2.N + 1)).val = 0) then due P 1 c else 0) = _; exact if_pos rfl
theorem owedF_last (c : Dev nD) : (datF m c).owed (Fin.last _) = 0 := by
  show (if (Fin.last cfg2.N).val = 0 then due P 1 c else 0) = 0
  rw [Fin.val_last, if_neg (by rw [show cfg2.N = 1 from N_2]; decide)]

theorem beforeF_0 (c : Dev nD) (t : Fin cfg2.N) (d) : (datF m c).before 0 t d = blkF m c 0 t :=
  ((datF m c).before_in_eq_fetched 0 rfl (fun _ => rfl) (fun _ _ _ => rfl) (fun t => by rfl) t d).trans (by rfl)
theorem beforeF_1 (c : Dev nD) (t : Fin cfg2.N) (d) : (datF m c).before 1 t d = blkF m c 1 t :=
  ((datF m c).before_in_eq_fetched 1 rfl (fun _ => rfl) (fun _ _ _ => rfl) (fun t => by rfl) t d).trans (by rfl)
theorem beforeF_2 (c : Dev nD) (t : Fin cfg2.N) (d) : (datF m c).before 2 t d = blkF m c 2 t :=
  ((datF m c).before_in_eq_fetched 2 rfl (fun _ => rfl) (fun _ _ _ => rfl) (fun t => by rfl) t d).trans (by rfl)
theorem beforeF_3 (c : Dev nD) (t : Fin cfg2.N) (d) : (datF m c).before 3 t d = blkF m c 3 t :=
  ((datF m c).before_in_eq_fetched 3 rfl (fun _ => rfl) (fun _ _ _ => rfl) (fun t => by rfl) t d).trans (by rfl)
theorem beforeF_4 (c : Dev nD) (t : Fin cfg2.N) (d) : (datF m c).before 4 t d = blkF m c 4 t :=
  ((datF m c).before_in_eq_fetched 4 rfl (fun _ => rfl) (fun _ _ _ => rfl) (fun t => by rfl) t d).trans (by rfl)
theorem beforeF_5 (c : Dev nD) (t : Fin cfg2.N) (d) : (datF m c).before 5 t d = blkF m c 5 t :=
  ((datF m c).before_in_eq_fetched 5 rfl (fun _ => rfl) (fun _ _ _ => rfl) (fun t => by rfl) t d).trans (by rfl)
theorem inF_0 (c : Dev nD) (d) : (owns (c : Thread nD τ) (stage2_0 0) fullShare ((datF m c).before 0 t2_0 d) : sProp 𝕄) ⊢ has c AF.x.view (insF m c).x :=
  Entails.of_eq (congrArg (fun X => (has c AF.x.view X : sProp 𝕄)) (beforeF_0 m c t2_0 d))
theorem outF_0 (c : Dev nD) : (has c AF.x.view (insF m c).x : sProp 𝕄) ⊢ owns (c : Thread nD τ) (stage2_0 0) fullShare ((datF m c).after 0 t2_0) := Entails.of_eq rfl
theorem inF_1 (c : Dev nD) (d) : (owns (c : Thread nD τ) (stage2_1 0) fullShare ((datF m c).before 1 t2_0 d) : sProp 𝕄) ⊢ has c AF.sm.view (insF m c).sm :=
  Entails.of_eq (congrArg (fun X => (has c AF.sm.view X : sProp 𝕄)) (beforeF_1 m c t2_0 d))
theorem outF_1 (c : Dev nD) : (has c AF.sm.view (insF m c).sm : sProp 𝕄) ⊢ owns (c : Thread nD τ) (stage2_1 0) fullShare ((datF m c).after 1 t2_0) := Entails.of_eq rfl
theorem inF_2 (c : Dev nD) (d) : (owns (c : Thread nD τ) (stage2_2 0) fullShare ((datF m c).before 2 t2_0 d) : sProp 𝕄) ⊢ has c AF.sh.view (insF m c).sh :=
  Entails.of_eq (congrArg (fun X => (has c AF.sh.view X : sProp 𝕄)) (beforeF_2 m c t2_0 d))
theorem outF_2 (c : Dev nD) : (has c AF.sh.view (insF m c).sh : sProp 𝕄) ⊢ owns (c : Thread nD τ) (stage2_2 0) fullShare ((datF m c).after 2 t2_0) := Entails.of_eq rfl
theorem inF_3 (c : Dev nD) (d) : (owns (c : Thread nD τ) (stage2_3 0) fullShare ((datF m c).before 3 t2_0 d) : sProp 𝕄) ⊢ has c AF.gm.view (insF m c).gm :=
  Entails.of_eq (congrArg (fun X => (has c AF.gm.view X : sProp 𝕄)) (beforeF_3 m c t2_0 d))
theorem outF_3 (c : Dev nD) : (has c AF.gm.view (insF m c).gm : sProp 𝕄) ⊢ owns (c : Thread nD τ) (stage2_3 0) fullShare ((datF m c).after 3 t2_0) := Entails.of_eq rfl
theorem inF_4 (c : Dev nD) (d) : (owns (c : Thread nD τ) (stage2_4 0) fullShare ((datF m c).before 4 t2_0 d) : sProp 𝕄) ⊢ has c AF.w1.view (insF m c).w1 :=
  Entails.of_eq (congrArg (fun X => (has c AF.w1.view X : sProp 𝕄)) (beforeF_4 m c t2_0 d))
theorem outF_4 (c : Dev nD) : (has c AF.w1.view (insF m c).w1 : sProp 𝕄) ⊢ owns (c : Thread nD τ) (stage2_4 0) fullShare ((datF m c).after 4 t2_0) := Entails.of_eq rfl
theorem inF_5 (c : Dev nD) (d) : (owns (c : Thread nD τ) (stage2_5 0) fullShare ((datF m c).before 5 t2_0 d) : sProp 𝕄) ⊢ has c AF.w2.view (insF m c).w2 :=
  Entails.of_eq (congrArg (fun X => (has c AF.w2.view X : sProp 𝕄)) (beforeF_5 m c t2_0 d))
theorem outF_5 (c : Dev nD) : (has c AF.w2.view (insF m c).w2 : sProp 𝕄) ⊢ owns (c : Thread nD τ) (stage2_5 0) fullShare ((datF m c).after 5 t2_0) := Entails.of_eq rfl
theorem inF_6 (c : Dev nD) (d) : (owns (c : Thread nD τ) (stage2_6 0) fullShare ((datF m c).before 6 t2_0 d) : sProp 𝕄) ⊢ some_ c AF.o.view :=
  has_some (F := F) c AF.o.view ((datF m c).before 6 t2_0 d)
theorem outF_6 (c : Dev nD) : (has c AF.o.view (resF (insF m)) : sProp 𝕄) ⊢ owns (c : Thread nD τ) (stage2_6 0) fullShare ((datF m c).after 6 t2_0) := Entails.of_eq rfl
theorem ΦF_first (c : Dev nD) : (datF m c).Φ (t2_0 : Fin cfg2.N).castSucc = Φ₀F c (insA m) (insF m) := rfl
theorem ΦF_last (c : Dev nD) : (datF m c).Φ (t2_0 : Fin cfg2.N).succ = Φ₁F c := rfl

theorem callF_at : defs₀ (F := F) .tc cfg2.body (cfg2.bodyArgs t2_0 (cfg2.slots t2_0)) = AF.call := rfl

set_option maxHeartbeats 800000 in
theorem bodyF (c : Dev nD) : BodyObligation (datF m c) defs₀ 𝒱₀ 0 Set.univ := fun t => by
  obtain rfl := fin_N2 t
  rw [bigSep_W2, bigSep_W2, callF_at, ΦF_first, ΦF_last]
  dsimp only
  iintro ⟨HΦ, HO, ⟨%d0, H0⟩, ⟨%d1, H1⟩, ⟨%d2, H2⟩, ⟨%d3, H3⟩, ⟨%d4, H4⟩, ⟨%d5, H5⟩, ⟨%d6, H6⟩⟩
  ihave HO := (owesAt_elim (datF m c) _ _ (owedF_first m c)) $$ HO
  ihave H0 := (inF_0 m c d0) $$ H0
  ihave H1 := (inF_1 m c d1) $$ H1
  ihave H2 := (inF_2 m c d2) $$ H2
  ihave H3 := (inF_3 m c d3) $$ H3
  ihave H4 := (inF_4 m c d4) $$ H4
  ihave H5 := (inF_5 m c d5) $$ H5
  iapply (run_ffn c (insA m) (insF m) defs₀ 𝒱₀ _)
  isplitl [HΦ]; · iexact HΦ
  isplitl [HO]; · iexact HO
  isplitl [H0 H1 H2 H3 H4 H5]
  · unfold Ffn.held
    isplitl [H0]; · iexact H0
    isplitl [H1]; · iexact H1
    isplitl [H2]; · iexact H2
    isplitl [H3]; · iexact H3
    isplitl [H4]; · iexact H4
    iexact H5
  isplitl [H6]
  · iapply (inF_6 m c d6); iexact H6
  unfold Ffn.held
  iintro ⟨HΦ, HO, ⟨H0, H1, H2, H3, H4, H5⟩, Ho⟩
  isplitl [HΦ]; · iexact HΦ
  isplitl [HO]; · iapply (owesAt_intro (datF m c) (t2_0 : Fin cfg2.N).succ _ (owedF_last m c) rfl); iexact HO
  isplitl [H0]; · iapply (outF_0 m c); iexact H0
  isplitl [H1]; · iapply (outF_1 m c); iexact H1
  isplitl [H2]; · iapply (outF_2 m c); iexact H2
  isplitl [H3]; · iapply (outF_3 m c); iexact H3
  isplitl [H4]; · iapply (outF_4 m c); iexact H4
  isplitl [H5]; · iapply (outF_5 m c); iexact H5
  iapply (outF_6 m c); iexact Ho

end Cert.Whole
-- ==== Proof.Arrays.lean ====
/- What the calls read and write, as arrays of the problem. -/
module

public import proofs.«01_k».proof.Proof.Local
public import proofs.«01_k».proof.Proof.RefValue
public import proofs.«01_k».proof.Proof.Runs

@[expose] public section

noncomputable section

namespace Cert.Whole

open Idealize.ShloMosaic
open Idealize.ShloMosaic.TcCoe
open Idealize.ShloMosaic.StableHlo
open Idealize.ShloMosaic.Pipeline (Dat Cfg)
open Cert.KernelIdeal Cert.KernelIdeal.Gen
open Cert.Math
open Cert.Ref (Arr)

variable (m : (ℓ : Loc nD τ sig) → Buf (Elt Ideal) ℓ)

/-- Column `j` of device `c`'s block of a weight. -/
def mine (c : Dev nD) (j : Fin 1024) : Fin 8192 := ⟨c.val * 1024 + j.val, by have : c.val < 8 := c.isLt; omega⟩
/-- Column `j` of device `c`'s block of the hidden layer. -/
def mineH (c : Dev nD) (j : Fin 512) : Fin 4096 := ⟨c.val * 512 + j.val, by have : c.val < 8 := c.isLt; omega⟩

/-- The devices hold the problem's arrays: four weights of the attention and two of the feed-forward in blocks, the rest whole. -/
structure Agree (A : Arr) : Prop where
  x : ∀ c R a, (m (c, Proc.devRef .tc main_arg0) (ix3 0 R a) : EReal) = A.x R a
  wq : ∀ c a j, (m (c, Proc.devRef .tc main_arg1) (ix2 a j) : EReal) = A.wq a (mine c j)
  wk : ∀ c a j, (m (c, Proc.devRef .tc main_arg2) (ix2 a j) : EReal) = A.wk a (mine c j)
  wv : ∀ c a j, (m (c, Proc.devRef .tc main_arg3) (ix2 a j) : EReal) = A.wv a (mine c j)
  wo : ∀ c j l, (m (c, Proc.devRef .tc main_arg4) (ix2 j l) : EReal) = A.wo (mine c j) l
  t : ∀ c a, (m (c, Proc.devRef .tc main_arg5) (ix2 0 a) : EReal) = A.t a
  wm : ∀ c a J, (m (c, Proc.devRef .tc main_arg6) (ix2 a J) : EReal) = A.wm a J
  w1 : ∀ c a j, (m (c, Proc.devRef .tc main_arg7) (ix2 a j) : EReal) = A.w1 a (mineH c j)
  w2 : ∀ c j l, (m (c, Proc.devRef .tc main_arg8) (ix2 j l) : EReal) = A.w2 (mineH c j) l

variable {m} {A : Arr} (h : Agree m A) (c : Dev nD)
include h

/-! ## The host's arrays before the calls -/

theorem V1_x (R : Fin 4096) (a : Fin 1024) : (V1 m c main_v1 (ix2 R a) : EReal) = A.x R a := by
  unfold V1
  simp only [hostOps0]
  after_results_simp
  pointwise
  exact h.x c R a
theorem V1_sa (a : Fin 1024) : (V1 m c main_v4 (ix2 0 a) : EReal) = A.sa a := by
  have ht := h.t c
  have hw := h.wm c
  unfold V1
  simp only [hostOps0]
  after_results_simp
  pointwise
  exact Finset.sum_congr rfl fun k _ => congrArg₂ (· * · : EReal → EReal → EReal) (ht k) (hw k _)
theorem V1_sha (a : Fin 1024) : (V1 m c main_v5 (ix2 0 a) : EReal) = A.sha a := by
  have ht := h.t c
  have hw := h.wm c
  unfold V1
  simp only [hostOps0]
  after_results_simp
  pointwise
  exact Finset.sum_congr rfl fun k _ => congrArg₂ (· * · : EReal → EReal → EReal) (ht k) (hw k _)
theorem V1_ga (a : Fin 1024) : (V1 m c main_v6 (ix2 0 a) : EReal) = A.ga a := by
  have ht := h.t c
  have hw := h.wm c
  unfold V1
  simp only [hostOps0]
  after_results_simp
  pointwise
  exact Finset.sum_congr rfl fun k _ => congrArg₂ (· * · : EReal → EReal → EReal) (ht k) (hw k _)
theorem V1_sm (a : Fin 1024) : (V1 m c main_v7 (ix2 0 a) : EReal) = A.sm a := by
  have ht := h.t c
  have hw := h.wm c
  unfold V1
  simp only [hostOps0]
  after_results_simp
  pointwise
  exact Finset.sum_congr rfl fun k _ => congrArg₂ (· * · : EReal → EReal → EReal) (ht k) (hw k _)
theorem V1_shm (a : Fin 1024) : (V1 m c main_v8 (ix2 0 a) : EReal) = A.shm a := by
  have ht := h.t c
  have hw := h.wm c
  unfold V1
  simp only [hostOps0]
  after_results_simp
  pointwise
  exact Finset.sum_congr rfl fun k _ => congrArg₂ (· * · : EReal → EReal → EReal) (ht k) (hw k _)
theorem V1_gm (a : Fin 1024) : (V1 m c main_v9 (ix2 0 a) : EReal) = A.gm a := by
  have ht := h.t c
  have hw := h.wm c
  unfold V1
  simp only [hostOps0]
  after_results_simp
  pointwise
  exact Finset.sum_congr rfl fun k _ => congrArg₂ (· * · : EReal → EReal → EReal) (ht k) (hw k _)

/-! ## The blocks of the first call -/

omit h
theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![0, 0] := (by decide +kernel : ∀ t : Fin grid0.N, _)
theorem idx0_5 : ∀ t : Fin cfg0.N, win0_5.index t = ![0, 0] := (by decide +kernel : ∀ t : Fin grid0.N, _)
theorem idx0_6 : ∀ t : Fin cfg0.N, win0_6.index t = ![t.val, 0] := (by decide +kernel : ∀ t : Fin grid0.N, _)
theorem idx0_7 : ∀ t : Fin cfg0.N, win0_7.index t = ![t.val, 0] := (by decide +kernel : ∀ t : Fin grid0.N, _)
theorem idx0_8 : ∀ t : Fin cfg0.N, win0_8.index t = ![t.val, 0] := (by decide +kernel : ∀ t : Fin grid0.N, _)

theorem lt_rows (t : Fin cfg0.N) (r : Fin 512) : t.val * 512 + r.val < 4096 := by have : t.val < 8 := t.isLt; omega
/-- Row `r` of block `t`. -/
def rowOf (t : Fin cfg0.N) (r : Fin 512) : Fin 4096 := ⟨t.val * 512 + r.val, lt_rows t r⟩

theorem blk_0 (t : Fin cfg0.N) (r : Fin 512) (a : Fin 1024) : blk m c 0 t (ix2 r a) = V1 m c main_v1 (ix2 (rowOf t r) a) := by
  unfold rowOf
  blk_ext [blk, idx0_0]
theorem blk_1 (t : Fin cfg0.N) (a : Fin 1024) : blk m c 1 t (ix2 0 a) = V1 m c main_v4 (ix2 0 a) := by
  blk_ext [blk, idx0_1]
theorem blk_2 (t : Fin cfg0.N) (a : Fin 1024) : blk m c 2 t (ix2 0 a) = V1 m c main_v5 (ix2 0 a) := by
  blk_ext [blk, idx0_2]
theorem blk_3 (t : Fin cfg0.N) (a j : Fin 1024) : blk m c 3 t (ix2 a j) = V1 m c main_arg1 (ix2 a j) := by
  blk_ext [blk, idx0_3]
theorem blk_4 (t : Fin cfg0.N) (a j : Fin 1024) : blk m c 4 t (ix2 a j) = V1 m c main_arg2 (ix2 a j) := by
  blk_ext [blk, idx0_4]
theorem blk_5 (t : Fin cfg0.N) (a j : Fin 1024) : blk m c 5 t (ix2 a j) = V1 m c main_arg3 (ix2 a j) := by
  blk_ext [blk, idx0_5]

/-! ## The queries, the keys, the values -/

include h

theorem V1_wq (a j : Fin 1024) : (V1 m c main_arg1 (ix2 a j) : EReal) = A.wq a (mine c j) :=
  (congrFun (V1_of m c main_arg1 (by decide)) (ix2 a j)).trans (h.wq c a j)
theorem U2_q : U2 m c main_v10_0 = fun y : S4096x1024.Idx => (A.q (y 0) (mine c (y 1)) * cS : EReal) := by
  unfold U2
  refine (Pipeline.afterRegion_arr (datQ m c) (V1 m c) winFacts0.arr_inj 6).trans ?_
  refine (datQ m c).arrAt_eq_of_covers 6 _ (by decide +kernel) fun t hf y => ?_
  blk_simp
  show (queries (blk m c 0 t) (blk m c 1 t) (blk m c 2 t) (blk m c 3 t) y : EReal) = _
  idx_vars y
  rw [queries_apply]
  simp only [blk_0, blk_1, blk_2, blk_3, V1_x h, V1_sa h, V1_sha h, V1_wq h]
  have e0 : (((cfg0.win 6).blk t).view.emb (ix2 y0 y1) 0 : Fin 4096) = rowOf t y0 := Fin.ext (by blk_simp [idx0_6]; rfl)
  have e1 : (((cfg0.win 6).blk t).view.emb (ix2 y0 y1) 1 : Fin 1024) = y1 := Fin.ext (by blk_simp [idx0_6])
  rw [e0, e1]
  rfl
theorem V1_wk (a j : Fin 1024) : (V1 m c main_arg2 (ix2 a j) : EReal) = A.wk a (mine c j) :=
  (congrFun (V1_of m c main_arg2 (by decide)) (ix2 a j)).trans (h.wk c a j)
theorem U2_k : U2 m c main_v10_1 = fun y : S4096x1024.Idx => (A.k (y 0) (mine c (y 1)) : EReal) := by
  unfold U2
  refine (Pipeline.afterRegion_arr (datQ m c) (V1 m c) winFacts0.arr_inj 7).trans ?_
  refine (datQ m c).arrAt_eq_of_covers 7 _ (by decide +kernel) fun t hf y => ?_
  blk_simp
  show (keys (blk m c 0 t) (blk m c 1 t) (blk m c 2 t) (blk m c 4 t) y : EReal) = _
  idx_vars y
  rw [keys_apply]
  simp only [blk_0, blk_1, blk_2, blk_4, V1_x h, V1_sa h, V1_sha h, V1_wk h]
  have e0 : (((cfg0.win 7).blk t).view.emb (ix2 y0 y1) 0 : Fin 4096) = rowOf t y0 := Fin.ext (by blk_simp [idx0_7]; rfl)
  have e1 : (((cfg0.win 7).blk t).view.emb (ix2 y0 y1) 1 : Fin 1024) = y1 := Fin.ext (by blk_simp [idx0_7])
  rw [e0, e1]
  rfl
theorem V1_wv (a j : Fin 1024) : (V1 m c main_arg3 (ix2 a j) : EReal) = A.wv a (mine c j) :=
  (congrFun (V1_of m c main_arg3 (by decide)) (ix2 a j)).trans (h.wv c a j)
theorem U2_v : U2 m c main_v10_2 = fun y : S4096x1024.Idx => (A.v (y 0) (mine c (y 1)) : EReal) := by
  unfold U2
  refine (Pipeline.afterRegion_arr (datQ m c) (V1 m c) winFacts0.arr_inj 8).trans ?_
  refine (datQ m c).arrAt_eq_of_covers 8 _ (by decide +kernel) fun t hf y => ?_
  blk_simp
  show (values (blk m c 0 t) (blk m c 1 t) (blk m c 2 t) (blk m c 5 t) y : EReal) = _
  idx_vars y
  rw [values_apply]
  simp only [blk_0, blk_1, blk_2, blk_5, V1_x h, V1_sa h, V1_sha h, V1_wv h]
  have e0 : (((cfg0.win 8).blk t).view.emb (ix2 y0 y1) 0 : Fin 4096) = rowOf t y0 := Fin.ext (by blk_simp [idx0_8]; rfl)
  have e1 : (((cfg0.win 8).blk t).view.emb (ix2 y0 y1) 1 : Fin 1024) = y1 := Fin.ext (by blk_simp [idx0_8])
  rw [e0, e1]
  rfl

/-! ## What the attention call reads and leaves -/

theorem V1_wo (j l : Fin 1024) : (V1 m c main_arg4 (ix2 j l) : EReal) = A.wo (mine c j) l :=
  (congrFun (V1_of m c main_arg4 (by decide)) (ix2 j l)).trans (h.wo c j l)
theorem V1_w1 (a : Fin 1024) (j : Fin 512) : (V1 m c main_arg7 (ix2 a j) : EReal) = A.w1 a (mineH c j) :=
  (congrFun (V1_of m c main_arg7 (by decide)) (ix2 a j)).trans (h.w1 c a j)
theorem V1_w2 (j : Fin 512) (l : Fin 1024) : (V1 m c main_arg8 (ix2 j l) : EReal) = A.w2 (mineH c j) l :=
  (congrFun (V1_of m c main_arg8 (by decide)) (ix2 j l)).trans (h.w2 c j l)

omit h
theorem U2_keep (r : Ref sig .tc) (hw : ∀ w, Pipeline.arrRef spec0 w = r → (cfg0.win w).isOut = false) : U2 m c (Proc.devRef .tc r) = V1 m c (Proc.devRef .tc r) :=
  Pipeline.afterRegion_keeps (datQ m c) (V1 m c) winFacts0.arr_inj (fun _ => rfl) r hw

theorem idx1_0 : ∀ t : Fin cfg1.N, win1_0.index t = ![0, 0] := (by decide +kernel : ∀ t : Fin grid1.N, _)
theorem idx2_0 : ∀ t : Fin cfg2.N, win2_0.index t = ![0, 0] := (by decide +kernel : ∀ t : Fin grid2.N, _)
theorem idx1_1 : ∀ t : Fin cfg1.N, win1_1.index t = ![0, 0] := (by decide +kernel : ∀ t : Fin grid1.N, _)
theorem idx2_1 : ∀ t : Fin cfg2.N, win2_1.index t = ![0, 0] := (by decide +kernel : ∀ t : Fin grid2.N, _)
theorem idx1_2 : ∀ t : Fin cfg1.N, win1_2.index t = ![0, 0] := (by decide +kernel : ∀ t : Fin grid1.N, _)
theorem idx2_2 : ∀ t : Fin cfg2.N, win2_2.index t = ![0, 0] := (by decide +kernel : ∀ t : Fin grid2.N, _)
theorem idx1_3 : ∀ t : Fin cfg1.N, win1_3.index t = ![0, 0] := (by decide +kernel : ∀ t : Fin grid1.N, _)
theorem idx2_3 : ∀ t : Fin cfg2.N, win2_3.index t = ![0, 0] := (by decide +kernel : ∀ t : Fin grid2.N, _)
theorem idx1_4 : ∀ t : Fin cfg1.N, win1_4.index t = ![0, 0] := (by decide +kernel : ∀ t : Fin grid1.N, _)
theorem idx2_4 : ∀ t : Fin cfg2.N, win2_4.index t = ![0, 0] := (by decide +kernel : ∀ t : Fin grid2.N, _)
theorem idx1_5 : ∀ t : Fin cfg1.N, win1_5.index t = ![0, 0] := (by decide +kernel : ∀ t : Fin grid1.N, _)
theorem idx2_5 : ∀ t : Fin cfg2.N, win2_5.index t = ![0, 0] := (by decide +kernel : ∀ t : Fin grid2.N, _)
theorem insA_q (r : Fin 4096) (l : Fin 1024) : (insA m c).q (ix2 r l) = U2 m c main_v10_0 (ix2 r l) := by
  show blkA m c 0 t1_0 (ix2 r l) = _
  blk_ext [blkA, idx1_0]
theorem insA_k (r : Fin 4096) (l : Fin 1024) : (insA m c).k (ix2 r l) = U2 m c main_v10_1 (ix2 r l) := by
  show blkA m c 1 t1_0 (ix2 r l) = _
  blk_ext [blkA, idx1_1]
theorem insA_v (r : Fin 4096) (l : Fin 1024) : (insA m c).v (ix2 r l) = U2 m c main_v10_2 (ix2 r l) := by
  show blkA m c 2 t1_0 (ix2 r l) = _
  blk_ext [blkA, idx1_2]
theorem insA_wo (r : Fin 1024) (l : Fin 1024) : (insA m c).wo (ix2 r l) = U2 m c main_arg4 (ix2 r l) := by
  show blkA m c 3 t1_0 (ix2 r l) = _
  blk_ext [blkA, idx1_3]
theorem insA_x (r : Fin 4096) (l : Fin 1024) : (insA m c).x (ix2 r l) = U2 m c main_v1 (ix2 r l) := by
  show blkA m c 4 t1_0 (ix2 r l) = _
  blk_ext [blkA, idx1_4]
theorem insA_ga (r : Fin 1) (l : Fin 1024) : (insA m c).ga (ix2 r l) = U2 m c main_v6 (ix2 r l) := by
  show blkA m c 5 t1_0 (ix2 r l) = _
  blk_ext [blkA, idx1_5]
theorem insF_x (r : Fin 4096) (l : Fin 1024) : (insF m c).x (ix2 r l) = U3 m c main_v11 (ix2 r l) := by
  show blkF m c 0 t2_0 (ix2 r l) = _
  blk_ext [blkF, idx2_0]
theorem insF_sm (r : Fin 1) (l : Fin 1024) : (insF m c).sm (ix2 r l) = U3 m c main_v7 (ix2 r l) := by
  show blkF m c 1 t2_0 (ix2 r l) = _
  blk_ext [blkF, idx2_1]
theorem insF_sh (r : Fin 1) (l : Fin 1024) : (insF m c).sh (ix2 r l) = U3 m c main_v8 (ix2 r l) := by
  show blkF m c 2 t2_0 (ix2 r l) = _
  blk_ext [blkF, idx2_2]
theorem insF_gm (r : Fin 1) (l : Fin 1024) : (insF m c).gm (ix2 r l) = U3 m c main_v9 (ix2 r l) := by
  show blkF m c 3 t2_0 (ix2 r l) = _
  blk_ext [blkF, idx2_3]
theorem insF_w1 (r : Fin 1024) (l : Fin 512) : (insF m c).w1 (ix2 r l) = U3 m c main_arg7 (ix2 r l) := by
  show blkF m c 4 t2_0 (ix2 r l) = _
  blk_ext [blkF, idx2_4]
theorem insF_w2 (r : Fin 512) (l : Fin 1024) : (insF m c).w2 (ix2 r l) = U3 m c main_arg8 (ix2 r l) := by
  show blkF m c 5 t2_0 (ix2 r l) = _
  blk_ext [blkF, idx2_5]

include h

theorem readA_q (R : Fin 4096) (j : Fin 1024) : ((insA m c).q (ix2 R j) : EReal) = A.q R (mine c j) * cS := by
  rw [insA_q, U2_q h]; rfl
theorem readA_k (R : Fin 4096) (j : Fin 1024) : ((insA m c).k (ix2 R j) : EReal) = A.k R (mine c j) := by
  rw [insA_k, U2_k h]; rfl
theorem readA_v (R : Fin 4096) (j : Fin 1024) : ((insA m c).v (ix2 R j) : EReal) = A.v R (mine c j) := by
  rw [insA_v, U2_v h]; rfl
theorem readA_wo (j l : Fin 1024) : ((insA m c).wo (ix2 j l) : EReal) = A.wo (mine c j) l := by
  rw [insA_wo, U2_keep c main_arg4 (by decide)]; exact V1_wo h c j l
theorem readA_x (R : Fin 4096) (l : Fin 1024) : ((insA m c).x (ix2 R l) : EReal) = A.x R l := by
  rw [insA_x, U2_keep c main_v1 (by decide)]; exact V1_x h c R l
theorem readA_ga (l : Fin 1024) : ((insA m c).ga (ix2 0 l) : EReal) = A.ga l := by
  rw [insA_ga, U2_keep c main_v6 (by decide)]; exact V1_ga h c l

omit h in
theorem col_mine (j : Fin 1024) (d : Fin 128) : mine c (Attn.headCol (Attn.headIn j) d) = Ref.colOf (Ref.headOf (mine c j)) d := by
  apply Fin.ext
  show c.val * 1024 + (128 * (j.val / 128) + d.val) = (c.val * 1024 + j.val) / 128 * 128 + d.val
  omega
theorem att_mine (R : Fin 4096) (j : Fin 1024) : Attn.attAt (insA m c).q (insA m c).k (insA m c).v R j = A.att R (mine c j) := by
  unfold Attn.attAt Arr.att
  simp only [readA_q h, readA_k h, readA_v h, score_scale, col_mine]
  rfl
theorem resA_apply (R : Fin 4096) (l : Fin 1024) : (resA (insA m) (ix2 R l) : EReal) = A.x1 R l := by
  obtain ⟨d, hd⟩ := Attn.result_apply (insA m) R l
  refine hd.trans ?_
  rw [readA_x h, readA_ga h]
  unfold Arr.x1
  refine congrArg (fun y : EReal => A.x R l + A.ga l * y) ?_
  rw [Fin.sum_univ_tiles 8 1024 rfl]
  refine Finset.sum_congr rfl fun e _ => Finset.sum_congr rfl fun j _ => ?_
  rw [att_mine h, readA_wo h]
  rfl

/-! ## What the feed-forward call reads and leaves -/

theorem readF_x (R : Fin 4096) (l : Fin 1024) : ((insF m c).x (ix2 R l) : EReal) = A.x1 R l := by
  rw [insF_x, U3_res]; exact resA_apply h R l
theorem readF_sm (l : Fin 1024) : ((insF m c).sm (ix2 0 l) : EReal) = A.sm l := by
  rw [insF_sm, U3_ne m c _ (by decide), U2_keep c main_v7 (by decide)]; exact V1_sm h c l
theorem readF_sh (l : Fin 1024) : ((insF m c).sh (ix2 0 l) : EReal) = A.shm l := by
  rw [insF_sh, U3_ne m c _ (by decide), U2_keep c main_v8 (by decide)]; exact V1_shm h c l
theorem readF_gm (l : Fin 1024) : ((insF m c).gm (ix2 0 l) : EReal) = A.gm l := by
  rw [insF_gm, U3_ne m c _ (by decide), U2_keep c main_v9 (by decide)]; exact V1_gm h c l
theorem readF_w1 (a : Fin 1024) (j : Fin 512) : ((insF m c).w1 (ix2 a j) : EReal) = A.w1 a (mineH c j) := by
  rw [insF_w1, U3_ne m c _ (by decide), U2_keep c main_arg7 (by decide)]; exact V1_w1 h c a j
theorem readF_w2 (j : Fin 512) (l : Fin 1024) : ((insF m c).w2 (ix2 j l) : EReal) = A.w2 (mineH c j) l := by
  rw [insF_w2, U3_ne m c _ (by decide), U2_keep c main_arg8 (by decide)]; exact V1_w2 h c j l

theorem resF_apply (R : Fin 4096) (l : Fin 1024) : (resF (insF m) (ix2 R l) : EReal) = A.out R l := by
  obtain ⟨d, hd⟩ := Ffn.result_apply (insF m) R l
  refine hd.trans ?_
  unfold Ffn.share
  simp only [readF_x h, readF_sm h, readF_sh h, readF_gm h, readF_w1 h, readF_w2 h]
  unfold Arr.out
  refine congrArg (fun y : EReal => A.x1 R l + A.gm l * y) ?_
  rw [Fin.sum_univ_tiles 8 512 rfl]
  rfl

/-- The kernel's result at an element. -/
theorem result_apply (R : Fin 4096) (l : Fin 1024) : (U5 m c main_v14 (ix3 0 R l) : EReal) = A.out R l := by
  unfold U5
  simp only [hostOps3]
  after_results_simp
  rw [U4_res]
  pointwise
  exact resF_apply h R l

end Cert.Whole
-- ==== Proof.Main.lean ====
/- The kernel from launch to end. -/
module

public import proofs.«01_k».proof.Proof.Runs
public import Idealize.ShloMosaic.Lib.Quiescent

@[expose] public section

noncomputable section

namespace Cert.Whole

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal
open Cert.KernelIdeal.Gen
open Cert.Ring hiding nD τ

variable {F : FTy → Type} [FloatOps F]

local notation "𝕄" => MT nD τ sig ℕ (Elt F) ℕ (UU sig) ℕ

variable (m : (ℓ : Loc nD τ sig) → Buf (Elt F) ℓ) (ρ : Dev nD → PrngReg)

theorem cells_inj : Function.Injective (Pipeline.cellOf (nD := nD) (τ := τ) (Pipeline.pin (pcfgs (F := F)) adm)) := Gen.cellOf_inj

def pdats : (p : Fin 3) → (c : Dev nD) → Dat τ (Elt F) ℕ ℕ (UU sig) ℕ (Pipeline.pin (pcfgs (F := F)) adm p) c
  | 0 => datQ m
  | 1 => datA m
  | 2 => datF m

/-- A ring's barrier, at rest. -/
abbrev kept (j : Fin 2) (c : Dev nD) : sProp 𝕄 := semVal (cell (P.geo j) c .bar) 0
/-- What the launch keeps for a ring. -/
abbrev talk (j : Fin 2) (c : Dev nD) : sProp 𝕄 := Tk P (V (insA m) (insF m)) j c
abbrev prng (c : Dev nD) : sProp 𝕄 := iprop(∃ r, prngReg c r)
abbrev uc : Finset (DevRef τ sig) := Pipeline.ucRefs τ sig

/-! ## The calls' records -/

theorem own_A : Pipeline.OwnSemFacts spec1 (osem P 0) := by decide +kernel
theorem own_F : Pipeline.OwnSemFacts spec2 (osem P 1) := by decide +kernel

theorem mem_L (g : GSem nD τ sig) (i : ℕ) (h : g.1.2 = .tc) (hi : i < 1000) : i ∈ L g := by
  obtain ⟨⟨c, p⟩, s⟩ := g
  obtain rfl := h
  exact (L_tc c s).symm ▸ Finset.mem_range.mpr hi

/-- What is owed lies above the calls' own waits. -/
def Low (O : CellTallies nD τ sig ℕ) : Prop := ∀ g i, 0 < O g i → i ∈ L g ∧ 0 < lv g i
theorem low_due (j : Fin 2) (c : Dev nD) : Low (due P j c) := fun g i h => by
  obtain ⟨h1, h2, h3⟩ := above_due P j c (by decide) g i h
  exact ⟨mem_L g i h1 h3, lt_of_le_of_lt (Nat.zero_le _) h2⟩
theorem low_zero : Low 0 := fun _ _ h => absurd h (Nat.lt_irrefl 0)
theorem low_add (O O' : CellTallies nD τ sig ℕ) (h : Low O) (h' : Low O') : Low (O + O') := fun g i hp => by
  have e : (O + O') g i = O g i + O' g i := rfl
  rcases Nat.eq_zero_or_pos (O g i) with hz | hz
  · exact h' g i (by omega)
  · exact h g i hz
theorem low_dues (c : Dev nD) : Low (dues c) := low_add _ _ (low_due 1 c) (low_due 0 c)

theorem shareQ (c : Dev nD) (w) : (pdats m 0 c).share w = fullShare := by unfold Dat.share; split <;> rfl
theorem shareA (c : Dev nD) (w) : (pdats m 1 c).share w = fullShare := by unfold Dat.share; split <;> rfl
theorem shareF (c : Dev nD) (w) : (pdats m 2 c).share w = fullShare := by unfold Dat.share; split <;> rfl

set_option backward.isDefEq.respectTransparency.types false in
def regQ : Pipeline.RegionSeg (pcfgs (F := F)) adm (pdats m) 0 defs₀ 𝒱₀ L lv 0 :=
  Pipeline.RegionSeg.ofHeldIn (pcfgs (F := F)) adm (pdats m) 0 defs₀ 𝒱₀ L lv 0 dues uc prng prng
    launch0.toP rfl (fun c => (bodyQ m c).loose) (fun _ _ => rfl) (fun _ => rfl) (fun c w => shareQ m c w)
    (fun _ => .rfl) (fun _ => .rfl) (fun _ => 0)
    ⟨fun _ _ _ => mem_L _ _ rfl (by decide), fun _ _ _ => Nat.le_refl _, fun c g i h => low_dues c g i h⟩
    (fun c => iprop(talk m 0 c ∗ talk m 1 c)) (V1 m) (fun _ _ => rfl)

theorem held_none (c : Dev nD) (W : Valuation τ sig (Elt F)) : (StableHlo.held (c.tc : Thread nD τ) ∅ W : sProp 𝕄) = BI.emp := by
  unfold StableHlo.held; exact BI.bigSep_empty

theorem hinA (c : Dev nD) : iprop(Pipeline.scopedRest (Pipeline.pin (pcfgs (F := F)) adm 1).spec c ∗ (∃ r, prngReg c r)
      ∗ StableHlo.held (c.tc : Thread nD τ) ∅ (U2 m c) ∗ Xk P (V (insA m) (insF m)) 0 c) ⊢ (pdats m 1 c).Φ 0 := by
  rw [show (pdats m 1 c).Φ 0 = Φ₀A c (insA m) (insF m) from rfl]
  unfold Φ₀A
  iintro ⟨Hs, Hp, -, HX⟩
  isplitl [Hs]; · iexact Hs
  isplitl [Hp]; · iexact Hp
  iexact HX
theorem hinF (c : Dev nD) : iprop(Pipeline.scopedRest (Pipeline.pin (pcfgs (F := F)) adm 2).spec c ∗ (∃ r, prngReg c r)
      ∗ StableHlo.held (c.tc : Thread nD τ) ∅ (U3 m c) ∗ Xk P (V (insA m) (insF m)) 1 c) ⊢ (pdats m 2 c).Φ 0 := by
  rw [show (pdats m 2 c).Φ 0 = Φ₀F c (insA m) (insF m) from rfl]
  unfold Φ₀F
  iintro ⟨Hs, Hp, -, HX⟩
  isplitl [Hs]; · iexact Hs
  isplitl [Hp]; · iexact Hp
  iexact HX
theorem houtA (c : Dev nD) : (pdats m 1 c).Φ (Fin.last (Pipeline.pin (pcfgs (F := F)) adm 1).N)
    ⊢ iprop(Pipeline.scopedRest (Pipeline.pin (pcfgs (F := F)) adm 1).spec c ∗ (∃ r, prngReg c r)
      ∗ StableHlo.held (c.tc : Thread nD τ) ∅ (U3 m c) ∗ Pipeline.ownSems0 (osem P 0) c ∗ kept 0 c) := by
  rw [show (pdats m 1 c).Φ (Fin.last _) = Φ₁A c from rfl, held_none]
  unfold Φ₁A
  iintro ⟨Hs, Hp, Ho, Hb⟩
  isplitl [Hs]; · iexact Hs
  isplitl [Hp]; · iexact Hp
  isplitr; · iempintro
  isplitl [Ho]; · iexact Ho
  iexact Hb
theorem houtF (c : Dev nD) : (pdats m 2 c).Φ (Fin.last (Pipeline.pin (pcfgs (F := F)) adm 2).N)
    ⊢ iprop(Pipeline.scopedRest (Pipeline.pin (pcfgs (F := F)) adm 2).spec c ∗ (∃ r, prngReg c r)
      ∗ StableHlo.held (c.tc : Thread nD τ) ∅ (U4 m c) ∗ Pipeline.ownSems0 (osem P 1) c ∗ kept 1 c) := by
  rw [show (pdats m 2 c).Φ (Fin.last _) = Φ₁F c from rfl, held_none]
  unfold Φ₁F
  iintro ⟨Hs, Hp, Ho, Hb⟩
  isplitl [Hs]; · iexact Hs
  isplitl [Hp]; · iexact Hp
  isplitr; · iempintro
  isplitl [Ho]; · iexact Ho
  iexact Hb

theorem cutA (c : Dev nD) (t : Fin ((Pipeline.pin (pcfgs (F := F)) adm 1).N + 1)) (g : GSem nD τ sig) (i : ℕ) (h : 0 < (pdats m 1 c).owed t g i) :
    i ∈ L g ∧ (0 : ℕ) < lv g i := by
  have e : (pdats m 1 c).owed t = if t.val = 0 then due P 1 c + due P 0 c else due P 1 c := rfl
  rw [e] at h
  split at h
  · exact low_dues c g i h
  · exact low_due 1 c g i h
theorem cutF (c : Dev nD) (t : Fin ((Pipeline.pin (pcfgs (F := F)) adm 2).N + 1)) (g : GSem nD τ sig) (i : ℕ) (h : 0 < (pdats m 2 c).owed t g i) :
    i ∈ L g ∧ (0 : ℕ) < lv g i := by
  have e : (pdats m 2 c).owed t = if t.val = 0 then due P 1 c else 0 := rfl
  rw [e] at h
  split at h
  · exact low_due 1 c g i h
  · exact low_zero g i h

theorem arr_lastA (c : Dev nD) : (datA m c).arrAt 6 cfg1.N = resA (insA m) :=
  Dat.arrAt_eq_of_after_last (datA m c) 6 t1_0 (by decide +kernel) (resA (insA m)) (fun j => rfl)
theorem arr_lastF (c : Dev nD) : (datF m c).arrAt 6 cfg2.N = resF (insF m) :=
  Dat.arrAt_eq_of_after_last (datF m c) 6 t2_0 (by decide +kernel) (resF (insF m)) (fun j => rfl)

theorem arr_endA (c : Dev nD) (w) : (pdats m 1 c).arrAt w (Pipeline.pin (pcfgs (F := F)) adm 1).N
    = U3 m c (Proc.devRef .tc (Pipeline.arrRef (Pipeline.pin (pcfgs (F := F)) adm 1).spec w)) := by
  show (datA m c).arrAt w cfg1.N = U3 m c (Proc.devRef .tc (Pipeline.arrRef spec1 w))
  match w with
  | 0 => exact ((datA m c).arrAt_in 0 rfl _).trans (U3_ne m c (Proc.devRef .tc main_v10_0) (by decide)).symm
  | 1 => exact ((datA m c).arrAt_in 1 rfl _).trans (U3_ne m c (Proc.devRef .tc main_v10_1) (by decide)).symm
  | 2 => exact ((datA m c).arrAt_in 2 rfl _).trans (U3_ne m c (Proc.devRef .tc main_v10_2) (by decide)).symm
  | 3 => exact ((datA m c).arrAt_in 3 rfl _).trans (U3_ne m c (Proc.devRef .tc main_arg4) (by decide)).symm
  | 4 => exact ((datA m c).arrAt_in 4 rfl _).trans (U3_ne m c (Proc.devRef .tc main_v1) (by decide)).symm
  | 5 => exact ((datA m c).arrAt_in 5 rfl _).trans (U3_ne m c (Proc.devRef .tc main_v6) (by decide)).symm
  | 6 => exact (arr_lastA m c).trans (U3_res m c).symm
theorem arr_endF (c : Dev nD) (w) : (pdats m 2 c).arrAt w (Pipeline.pin (pcfgs (F := F)) adm 2).N
    = U4 m c (Proc.devRef .tc (Pipeline.arrRef (Pipeline.pin (pcfgs (F := F)) adm 2).spec w)) := by
  show (datF m c).arrAt w cfg2.N = U4 m c (Proc.devRef .tc (Pipeline.arrRef spec2 w))
  match w with
  | 0 => exact ((datF m c).arrAt_in 0 rfl _).trans (U4_ne m c (Proc.devRef .tc main_v11) (by decide)).symm
  | 1 => exact ((datF m c).arrAt_in 1 rfl _).trans (U4_ne m c (Proc.devRef .tc main_v7) (by decide)).symm
  | 2 => exact ((datF m c).arrAt_in 2 rfl _).trans (U4_ne m c (Proc.devRef .tc main_v8) (by decide)).symm
  | 3 => exact ((datF m c).arrAt_in 3 rfl _).trans (U4_ne m c (Proc.devRef .tc main_v9) (by decide)).symm
  | 4 => exact ((datF m c).arrAt_in 4 rfl _).trans (U4_ne m c (Proc.devRef .tc main_arg7) (by decide)).symm
  | 5 => exact ((datF m c).arrAt_in 5 rfl _).trans (U4_ne m c (Proc.devRef .tc main_arg8) (by decide)).symm
  | 6 => exact (arr_lastF m c).trans (U4_res m c).symm

/-- The buffers a call does not have as its operands. -/
abbrev offA : Finset (DevRef τ sig) := uc \ Pipeline.arrRefs (τ := τ) spec1
abbrev offF : Finset (DevRef τ sig) := uc \ Pipeline.arrRefs (τ := τ) spec2

theorem mem_arr {W : ℕ} {gr : ℕ} (spec : Fin W → Pipeline.WinSpec sig gr) (w : Fin W) : Proc.devRef .tc (Pipeline.arrRef spec w) ∈ Pipeline.arrRefs (τ := τ) spec :=
  Finset.mem_map.mpr ⟨_, Finset.mem_image.mpr ⟨w, Finset.mem_univ _, rfl⟩, rfl⟩

theorem restA_same (c : Dev nD) (b) (hb : b ∈ offA \ ∅) : U3 m c b = U2 m c b :=
  U3_ne m c b fun e => (Finset.mem_sdiff.mp (Finset.mem_sdiff.mp hb).1).2 (e ▸ mem_arr spec1 6)
theorem restF_same (c : Dev nD) (b) (hb : b ∈ offF \ ∅) : U4 m c b = U3 m c b :=
  U4_ne m c b fun e => (Finset.mem_sdiff.mp (Finset.mem_sdiff.mp hb).1).2 (e ▸ mem_arr spec2 6)

set_option backward.isDefEq.respectTransparency.types false in
def regA : Pipeline.RegionSeg (pcfgs (F := F)) adm (pdats m) 0 defs₀ 𝒱₀ L lv 1 :=
  Pipeline.RegionSeg.ofTalk (pcfgs (F := F)) adm (pdats m) 0 defs₀ 𝒱₀ L lv 1 (osem P 0) own_A
    ∅ offA (Finset.empty_subset _) launch1.toP rfl (fun c => (bodyA m c).loose)
    (due P 1) (due P 0) (fun c => owedA_zero m c) (fun c => owedA_last m c) (fun _ => rfl) (fun c w => shareA m c w)
    (U2 m) (U3 m) (restA_same m)
    (talk m 0) (kept 0) (Xk P (V (insA m) (insF m)) 0) (kept 0) (hopen P (V (insA m) (insF m)) 0) (hinA m) (houtA m)
    (fun c => by iintro H; imodintro; iexact H)
    (fun _ => 0)
    ⟨fun _ _ _ => mem_L _ _ rfl (by decide), fun _ _ _ => Nat.le_refl _, fun c t g i h => cutA m c t g i h⟩
    (talk m 1)
    (fun _ _ => rfl) (arr_endA m)

set_option backward.isDefEq.respectTransparency.types false in
def regF : Pipeline.RegionSeg (pcfgs (F := F)) adm (pdats m) 0 defs₀ 𝒱₀ L lv 2 :=
  Pipeline.RegionSeg.ofTalk (pcfgs (F := F)) adm (pdats m) 0 defs₀ 𝒱₀ L lv 2 (osem P 1) own_F
    ∅ offF (Finset.empty_subset _) launch2.toP rfl (fun c => (bodyF m c).loose)
    (fun _ => 0) (due P 1) (fun c => (owedF_zero m c).trans (zero_add _).symm) (fun c => owedF_last m c) (fun _ => rfl) (fun c w => shareF m c w)
    (U3 m) (U4 m) (restF_same m)
    (talk m 1) (kept 1) (Xk P (V (insA m) (insF m)) 1) (kept 1) (hopen P (V (insA m) (insF m)) 1) (hinF m) (houtF m)
    (fun c => by iintro H; imodintro; iexact H)
    (fun _ => 0)
    ⟨fun _ _ _ => mem_L _ _ rfl (by decide), fun _ _ _ => Nat.le_refl _, fun c t g i h => cutF m c t g i h⟩
    (kept 0)
    (fun _ _ => rfl) (arr_endF m)

/-! ## What is kept between the calls -/

def E1 (c : Dev nD) : sProp 𝕄 := iprop(owing c (dues c) ∗ prng c ∗ talk m 0 c ∗ talk m 1 c)
def E2 (c : Dev nD) : sProp 𝕄 := iprop(owing c (due P 1 c) ∗ prng c ∗ kept 0 c ∗ talk m 1 c)
def E3 (c : Dev nD) : sProp 𝕄 := iprop(owing c 0 ∗ prng c ∗ kept 0 c ∗ kept 1 c)

def seg_pre : Pipeline.HostSeg (Ix := ℕ) (Name := ℕ) (U := UU sig) (Lvl := ℕ) (pcfgs (F := F)) defs₀ 𝒱₀ L lv :=
  Pipeline.HostSeg.ofOps _ _ _ _ _ uc hostOps0
    (fun op h => Pipeline.sub_ucRefs op ((List.forall_iff_forall_mem.mp hostOps0_sub) op h))
    (fun op h => (List.forall_iff_forall_mem.mp hostOps0_fresh) op h) (V0 m) (E1 m)
def seg_post : Pipeline.HostSeg (Ix := ℕ) (Name := ℕ) (U := UU sig) (Lvl := ℕ) (pcfgs (F := F)) defs₀ 𝒱₀ L lv :=
  Pipeline.HostSeg.ofOps _ _ _ _ _ uc hostOps3
    (fun op h => Pipeline.sub_ucRefs op ((List.forall_iff_forall_mem.mp hostOps3_sub) op h))
    (fun op h => (List.forall_iff_forall_mem.mp hostOps3_fresh) op h) (U4 m) E3

theorem sub0 : Pipeline.arrRefs (τ := τ) spec0 ⊆ uc := Pipeline.arrRefs_sub_ucRefs spec0 (by decide)
theorem sub1 : Pipeline.arrRefs (τ := τ) spec1 ⊆ uc := Pipeline.arrRefs_sub_ucRefs spec1 (by decide)
theorem sub2 : Pipeline.arrRefs (τ := τ) spec2 ⊆ uc := Pipeline.arrRefs_sub_ucRefs spec2 (by decide)

/-- The buffers the first call does not have as its operands. -/
abbrev offQ : Finset (DevRef τ sig) := uc \ Pipeline.arrRefs (τ := τ) spec0

theorem offQ_same (c : Dev nD) (b) (hb : b ∈ offQ) : U2 m c b = V1 m c b := Pipeline.afterRegion_off (datQ m c) (V1 m c) uc b hb

theorem preQ (c : Dev nD) : iprop(StableHlo.held (c.tc : Thread nD τ) uc (V1 m c) ∗ E1 m c) ⊢ (regQ m).pre c := by
  show _ ⊢ iprop(StableHlo.held (c.tc : Thread nD τ) (Pipeline.arrRefs (τ := τ) spec0) (V1 m c) ∗ (∃ r, prngReg c r)
    ∗ (StableHlo.held (c.tc : Thread nD τ) offQ (V1 m c) ∗ (talk m 0 c ∗ talk m 1 c)) ∗ owing c (dues c))
  unfold E1
  generalize V1 m c = W
  rw [StableHlo.held_sub_split (c.tc : Thread nD τ) sub0 W]
  iintro ⟨⟨Ha, Hu⟩, HO, Hp, HT⟩
  isplitl [Ha]; · iexact Ha
  isplitl [Hp]; · iexact Hp
  isplitl [Hu HT]
  · isplitl [Hu]; · iexact Hu
    iexact HT
  iexact HO
theorem postQ (c : Dev nD) : (regQ m).post c ⊢ iprop(StableHlo.held (c.tc : Thread nD τ) uc (U2 m c) ∗ E1 m c) := by
  show iprop(StableHlo.held (c.tc : Thread nD τ) (Pipeline.arrRefs (τ := τ) spec0) (U2 m c) ∗ (∃ r, prngReg c r)
    ∗ (StableHlo.held (c.tc : Thread nD τ) offQ (V1 m c) ∗ (talk m 0 c ∗ talk m 1 c)) ∗ owing c (dues c)) ⊢ _
  unfold E1
  have e : (StableHlo.held (c.tc : Thread nD τ) offQ (V1 m c) : sProp 𝕄) = StableHlo.held (c.tc : Thread nD τ) offQ (U2 m c) :=
    StableHlo.held_congr (c.tc : Thread nD τ) fun b hb => (offQ_same m c b hb).symm
  rw [e]
  generalize U2 m c = W
  rw [StableHlo.held_sub_split (c.tc : Thread nD τ) sub0 W]
  iintro ⟨Ha, Hp, ⟨Hu, HT⟩, HO⟩
  isplitl [Ha Hu]
  · isplitl [Ha]; · iexact Ha
    iexact Hu
  isplitl [HO]; · iexact HO
  isplitl [Hp]; · iexact Hp
  iexact HT

theorem preA (c : Dev nD) : iprop(StableHlo.held (c.tc : Thread nD τ) uc (U2 m c) ∗ E1 m c) ⊢ (regA m).pre c := by
  show _ ⊢ iprop(StableHlo.held (c.tc : Thread nD τ) (Pipeline.arrRefs (τ := τ) spec1) (U2 m c) ∗ (∃ r, prngReg c r)
    ∗ (StableHlo.held (c.tc : Thread nD τ) offA (U2 m c) ∗ talk m 1 c) ∗ talk m 0 c ∗ owing c (due P 1 c + due P 0 c))
  unfold E1 dues
  rw [StableHlo.held_sub_split (c.tc : Thread nD τ) sub1 (U2 m c)]
  iintro ⟨⟨Ha, Hu⟩, HO, Hp, H0, H1⟩
  isplitl [Ha]; · iexact Ha
  isplitl [Hp]; · iexact Hp
  isplitl [Hu H1]
  · isplitl [Hu]; · iexact Hu
    iexact H1
  isplitl [H0]; · iexact H0
  iexact HO
theorem postA (c : Dev nD) : (regA m).post c ⊢ iprop(StableHlo.held (c.tc : Thread nD τ) uc (U3 m c) ∗ E2 m c) := by
  show iprop(StableHlo.held (c.tc : Thread nD τ) (Pipeline.arrRefs (τ := τ) spec1) (U3 m c) ∗ (∃ r, prngReg c r)
    ∗ (StableHlo.held (c.tc : Thread nD τ) offA (U3 m c) ∗ talk m 1 c) ∗ kept 0 c ∗ owing c (due P 1 c)) ⊢ _
  unfold E2
  rw [StableHlo.held_sub_split (c.tc : Thread nD τ) sub1 (U3 m c)]
  iintro ⟨Ha, Hp, ⟨Hu, H1⟩, Hb, HO⟩
  isplitl [Ha Hu]
  · isplitl [Ha]; · iexact Ha
    iexact Hu
  isplitl [HO]; · iexact HO
  isplitl [Hp]; · iexact Hp
  isplitl [Hb]; · iexact Hb
  iexact H1
theorem preF (c : Dev nD) : iprop(StableHlo.held (c.tc : Thread nD τ) uc (U3 m c) ∗ E2 m c) ⊢ (regF m).pre c := by
  show _ ⊢ iprop(StableHlo.held (c.tc : Thread nD τ) (Pipeline.arrRefs (τ := τ) spec2) (U3 m c) ∗ (∃ r, prngReg c r)
    ∗ (StableHlo.held (c.tc : Thread nD τ) offF (U3 m c) ∗ kept 0 c) ∗ talk m 1 c ∗ owing c (0 + due P 1 c))
  unfold E2
  rw [StableHlo.held_sub_split (c.tc : Thread nD τ) sub2 (U3 m c), zero_add]
  iintro ⟨⟨Ha, Hu⟩, HO, Hp, Hb, H1⟩
  isplitl [Ha]; · iexact Ha
  isplitl [Hp]; · iexact Hp
  isplitl [Hu Hb]
  · isplitl [Hu]; · iexact Hu
    iexact Hb
  isplitl [H1]; · iexact H1
  iexact HO
theorem postF (c : Dev nD) : (regF m).post c ⊢ iprop(StableHlo.held (c.tc : Thread nD τ) uc (U4 m c) ∗ E3 c) := by
  show iprop(StableHlo.held (c.tc : Thread nD τ) (Pipeline.arrRefs (τ := τ) spec2) (U4 m c) ∗ (∃ r, prngReg c r)
    ∗ (StableHlo.held (c.tc : Thread nD τ) offF (U4 m c) ∗ kept 0 c) ∗ kept 1 c ∗ owing c 0) ⊢ _
  unfold E3
  rw [StableHlo.held_sub_split (c.tc : Thread nD τ) sub2 (U4 m c)]
  iintro ⟨Ha, Hp, ⟨Hu, Hb⟩, H1, HO⟩
  isplitl [Ha Hu]
  · isplitl [Ha]; · iexact Ha
    iexact Hu
  isplitl [HO]; · iexact HO
  isplitl [Hp]; · iexact Hp
  isplitl [Hb]; · iexact Hb
  iexact H1

/-! ## Launch -/

def u₀ : UU sig :=
  (initOf (Pipeline.cells (Pipeline.pin (pcfgs (F := F)) adm) cells_inj) (Pipeline.launchToks (Pipeline.pin (pcfgs (F := F)) adm) cells_inj), uRing P)

theorem unscopedSems0_eq (c : Dev nD) : (unscopedSems0 c : sProp 𝕄) = iprop(kept 0 c ∗ kept 1 c) := by
  unfold unscopedSems0
  rw [bigSep_eq_bigSepL_of_eq [(P.geo 0).sem .bar, (P.geo 1).sem .bar] (by decide +kernel) (by decide +kernel)]
  rfl

theorem fin2 (Φ : Fin 2 → sProp 𝕄) : bigSep Finset.univ Φ = iprop(Φ 0 ∗ Φ 1) := by
  rw [bigSep_univ_eq_bigSepL [0, 1] (by decide) (by decide) Φ]; rfl

abbrev S₀ (c : Dev nD) : sProp 𝕄 := iprop(StableHlo.held (c : Thread nD τ) uc (V0 m c) ∗ (∃ r, prngReg c r) ∗ owing c (dues c))
abbrev T₀ (c : Dev nD) : sProp 𝕄 := iprop(StableHlo.held (c.tc : Thread nD τ) uc (V0 m c) ∗ E1 m c)
abbrev Tₙ (c : Dev nD) : sProp 𝕄 := iprop(StableHlo.held (c : Thread nD τ) uc (U5 m c) ∗ kept 0 c ∗ kept 1 c)

theorem launch_cred (c : Dev nD) : (Pipeline.launchCred dues c : sProp 𝕄) = iprop(Pipeline.launchCred (due P 1) c ∗ Pipeline.launchCred (due P 0) c) :=
  Pipeline.launchCred_add (due P 1) (due P 0) c

theorem core (c : Dev nD) : iprop(unscopedBufs c (fun b => m ((c : Thread nD τ).loc b)) ∗ unscopedSems0 c
        ∗ owes (c : Thread nD τ) (dues c) ∅ ∗ Pipeline.launchCred dues c ∗ prngReg c (ρ c) ∗ parked (BI.own (ER (uRing P))) c)
      ⊢ (iprop((S₀ m c ∗ (bigSep Finset.univ fun j : Fin 2 => semVal (cell (P.geo j) c .bar) 0) ∗ (bigSep Finset.univ fun j : Fin 2 => credit P j c))
        ∗ parked (BI.own (ER (uRing P))) c) : sProp 𝕄) := by
  rw [show unscopedBufs c (fun b => m ((c : Thread nD τ).loc b)) = StableHlo.held (c : Thread nD τ) uc (V0 m c) from Pipeline.unscopedBufs_held c (V0 m c),
    unscopedSems0_eq, fin2, fin2, launch_cred]
  iintro ⟨Hh, Hus, HO, ⟨Hcr1, Hcr0⟩, Hp, HG⟩
  isplitr [HG]
  · isplitl [Hh HO Hp]
    · isplitl [Hh]; · iexact Hh
      isplitl [Hp]; · iexists (ρ c); iexact Hp
      unfold owing; iexists ∅; iexact HO
    isplitl [Hus]; · iexact Hus
    isplitl [Hcr0]
    · iapply (creds P 0 c); iexact Hcr0
    iapply (creds P 1 c); iexact Hcr1
  iexact HG

theorem bigSep_parked_right (S : Dev nD → sProp 𝕄) (X : sProp 𝕄) :
    (bigSep Finset.univ fun c : Dev nD => iprop(S c ∗ parked X c)) = iprop(bigSep Finset.univ S ∗ X) := by
  rw [bigSep_sep', bigSep_parked]

theorem regroup (c : Dev nD) : iprop(S₀ m c ∗ bigSep Finset.univ fun j : Fin 2 => Tk P (V (insA m) (insF m)) j c) ⊢ T₀ m c := by
  rw [fin2]
  unfold T₀ E1
  iintro ⟨⟨Hh, Hp, HO⟩, H0, H1⟩
  isplitl [Hh]; · iexact Hh
  isplitl [HO]; · iexact HO
  isplitl [Hp]; · iexact Hp
  isplitl [H0]; · iexact H0
  iexact H1

theorem init :
    iprop((bigSep Finset.univ fun c : Dev nD => iprop(unscopedBufs c (fun b => m ((c : Thread nD τ).loc b)) ∗ unscopedSems0 c
          ∗ owes (c : Thread nD τ) (dues c) ∅ ∗ Pipeline.launchCred dues c ∗ prngReg c (ρ c) ∗ parked (BI.own (ER (uRing P))) c)) ∗ levAts L lv)
      ⊢ (|={Set.univ}=> bigSep Finset.univ (T₀ m) : sProp 𝕄) := by
  have h := bigSep_mono (s := Finset.univ) fun c (_ : c ∈ Finset.univ) => core m ρ c
  rw [bigSep_parked_right] at h
  have h : (_ : sProp 𝕄) ⊢ _ := h
  have h2 := fund P (V (insA m) (insF m)) (S₀ m)
  have h3 := bigSep_mono (s := Finset.univ) fun c (_ : c ∈ Finset.univ) => regroup m c
  have h3 : (_ : sProp 𝕄) ⊢ _ := h3
  iintro ⟨H, -⟩
  ihave H := h $$ H
  imod h2 $$ H with H
  imodintro
  iapply h3; iexact H

def segs : List (Pipeline.Seg (pcfgs (F := F)) adm (pdats m) 0 defs₀ 𝒱₀ L lv) :=
  [.host (seg_pre m), .region (regQ m), .region (regA m), .region (regF m), .host (seg_post m)]

theorem main_eq (c : Dev nD) : main (F := F) c = Pipeline.Seg.run (segs m) :=
  Gen.main_segs adm (pdats m) 0 𝒱₀ L lv (seg_pre m) (seg_post m) (regQ m) (regA m) (regF m) rfl rfl c

theorem unscoped_eq : ∀ sm : SemLoc sig, sm.isScoped .tc = false → sm = (P.geo 0).sem .bar ∨ sm = (P.geo 1).sem .bar := by decide +kernel

theorem last (c : Dev nD) : iprop(StableHlo.held (c.tc : Thread nD τ) uc (StableHlo.after hostOps3 (U4 m c)) ∗ E3 c)
    ⊢ iprop(Tₙ m c ∗ ∃ W, owes (c : Thread nD τ) (0 : CellTallies nD τ sig ℕ) W) := by
  unfold E3 Tₙ U5
  iintro ⟨Hh, HO, -, H0, H1⟩
  isplitr [HO]
  · isplitl [Hh]; · iexact Hh
    isplitl [H0]; · iexact H0
    iexact H1
  unfold owing; iexact HO

/-- The arguments keep their contents. -/
theorem U5_arg (c : Dev nD) (r : Ref sig .tc) (h0 : r ∉ hostOps0_W) (h3 : r ∉ hostOps3_W) (h1 : (Proc.devRef .tc r : DevRef τ sig) ≠ Proc.devRef .tc main_v11)
    (h2 : (Proc.devRef .tc r : DevRef τ sig) ≠ Proc.devRef .tc main_v12) (hw : ∀ w, Pipeline.arrRef spec0 w = r → (cfg0.win w).isOut = false) :
    U5 m c (Proc.devRef .tc r) = m (c, Proc.devRef .tc r) := by
  unfold U5
  rw [StableHlo.after_of_writes_sub hostOps3 _ hostOps3_writes h3, U4_ne m c _ h2, U3_ne m c _ h1]
  unfold U2
  rw [Pipeline.afterRegion_keeps (datQ m c) (V1 m c) winFacts0.arr_inj (fun _ => rfl) r hw]
  exact V1_of m c r h0

set_option backward.isDefEq.respectTransparency.types false in
/-- The run: every weakly fair execution on the eight devices ends, the arguments as they were, the result at `U5`, every semaphore at zero. -/
theorem run_main : θ_run defs (onTc (τ := τ) (main (F := F))) (s₀ m ρ)
    (fun r => (∀ c : Dev nD, r.2.mem ((c : Thread nD τ).loc main_v14) = U5 m c (Proc.devRef .tc main_v14)
        ∧ ∀ b ∈ [main_arg0, main_arg1, main_arg2, main_arg3, main_arg4, main_arg5, main_arg6, main_arg7, main_arg8], r.2.mem ((c : Thread nD τ).loc b) = m ((c : Thread nD τ).loc b))
      ∧ r.2.sem = fun _ => 0) :=
  Pipeline.θ_run_regions_kit_sems (pcfgs (F := F)) adm (pdats m) 0 cells_inj EP defs₀ 𝒱₀ L lv m ρ main (segs m)
    (fun c Q => by rw [main_eq m c])
    (by simp only [segs, Pipeline.Seg.pipes_host, Pipeline.Seg.pipes_region, Pipeline.Seg.pipes_nil]; decide)
    (O₀ := dues) (hL := L_of_ne) (G := parked (BI.own (ER (uRing P)))) (u₀ := u₀ (F := F))
    (hu₀ := by
      unfold u₀
      iintro Hu
      ihave H := (ownU_pair _ _) $$ Hu
      icases H with ⟨HP, HX⟩
      imodintro
      isplitl [HP]; · iexact HP
      rw [bigSep_parked]; iexact HX)
    (T₀ := T₀ m) (Tₙ := Tₙ m)
    (hch := ⟨fun c => .rfl, fun c => preQ m c, fun c => (postQ m c).trans (preA m c), fun c => (postA m c).trans (preF m c), fun c => postF m c, fun c => last m c⟩)
    (hinit := init m ρ)
    (QY := fun c s => (∀ b ∈ uc, s.mem (c, b) = U5 m c b) ∧ s.sem (cell (P.geo 0) c .bar) = 0 ∧ s.sem (cell (P.geo 1) c .bar) = 0)
    (hfin := fun c s' => by
      dsimp only [Tₙ]
      unfold StableHlo.held
      iintro ⟨⟨Hh, Hb0, Hb1⟩, HSI⟩
      ihave Hr := (pointsTo_read_all uc (fun b => ((c : Thread nD τ).1, b)) (U5 m c) s') $$ [Hh HSI]
      · isplitl [Hh] <;> iassumption
      icases Hr with ⟨%h, HSI⟩
      icombine HSI Hb0 gives %h0
      icombine HSI Hb1 gives %h1
      imodintro
      isplitr
      · ipureintro
        exact ⟨h, by simpa using h0, by simpa using h1⟩
      iexact HSI)
    (hQ := fun s h hs => ⟨fun c => by
        obtain ⟨hm, -⟩ := h c
        have hu : ∀ r : Ref sig .tc, (Proc.devRef .tc r : DevRef τ sig).isScoped = false → s.mem ((c : Thread nD τ).loc r) = U5 m c (Proc.devRef .tc r) :=
          fun r hr => hm (Proc.devRef .tc r) (Finset.mem_filter.mpr ⟨StableHlo.devRef_mem_tcRefs r, by simp [hr]⟩)
        refine ⟨hu main_v14 rfl, ?_⟩
        simp only [List.forall_mem_cons]
        exact ⟨(hu main_arg0 rfl).trans (U5_arg m c main_arg0 (by decide) (by decide) (by decide) (by decide) (by decide)),
          (hu main_arg1 rfl).trans (U5_arg m c main_arg1 (by decide) (by decide) (by decide) (by decide) (by decide)),
          (hu main_arg2 rfl).trans (U5_arg m c main_arg2 (by decide) (by decide) (by decide) (by decide) (by decide)),
          (hu main_arg3 rfl).trans (U5_arg m c main_arg3 (by decide) (by decide) (by decide) (by decide) (by decide)),
          (hu main_arg4 rfl).trans (U5_arg m c main_arg4 (by decide) (by decide) (by decide) (by decide) (by decide)),
          (hu main_arg5 rfl).trans (U5_arg m c main_arg5 (by decide) (by decide) (by decide) (by decide) (by decide)),
          (hu main_arg6 rfl).trans (U5_arg m c main_arg6 (by decide) (by decide) (by decide) (by decide) (by decide)),
          (hu main_arg7 rfl).trans (U5_arg m c main_arg7 (by decide) (by decide) (by decide) (by decide) (by decide)),
          (hu main_arg8 rfl).trans (U5_arg m c main_arg8 (by decide) (by decide) (by decide) (by decide) (by decide)),
          fun _ h => absurd h List.not_mem_nil⟩,
      sem_eq_zero hs fun c sm hsm => by
        rcases unscoped_eq sm hsm with rfl | rfl
        · exact (h c).2.1
        · exact (h c).2.2⟩)

end Cert.Whole
-- ==== Proof.Value.lean ====
/- What the kernel leaves is what the reference leaves. -/
module

public import proofs.«01_k».proof.Defs
public import proofs.«01_k».proof.Proof.Arrays
public import proofs.«01_k».proof.Proof.Main
public import proofs.«01_k».proof.Proof.Gen.Pre_finite_KernelIdeal
public import Idealize.ShloMosaic.Lib.Layout

@[expose] public section

noncomputable section

namespace Cert.Whole

open Idealize.ShloMosaic
open Idealize.ShloMosaic.TcCoe
open Cert.KernelIdeal Cert.KernelIdeal.Gen
open Cert.Math
open Cert.Ref (Arr arr)

/-! ## Blocks of the whole arrays -/

theorem block_wide (w : (⟨2, ![1024, 8192]⟩ : Shape).Idx → EReal) (e : Dev nD) (a j : Fin 1024) :
    Layout.block ⟨2, ![1024, 1024]⟩ ⟨2, ![1024, 8192]⟩ 1 8 e w (by decide) (ix2 a j) = w (ix2 a (mine e j)) := by
  rw [Layout.block_apply]
  congr 1
  funext b
  match b with
  | ⟨0, _⟩ => rfl
  | ⟨1, _⟩ => rfl
theorem block_tall (w : (⟨2, ![8192, 1024]⟩ : Shape).Idx → EReal) (e : Dev nD) (j l : Fin 1024) :
    Layout.block ⟨2, ![1024, 1024]⟩ ⟨2, ![8192, 1024]⟩ 0 8 e w (by decide) (ix2 j l) = w (ix2 (mine e j) l) := by
  rw [Layout.block_apply]
  congr 1
  funext b
  match b with
  | ⟨0, _⟩ => rfl
  | ⟨1, _⟩ => rfl
theorem block_up (w : (⟨2, ![1024, 4096]⟩ : Shape).Idx → EReal) (e : Dev nD) (a : Fin 1024) (j : Fin 512) :
    Layout.block ⟨2, ![1024, 512]⟩ ⟨2, ![1024, 4096]⟩ 1 8 e w (by decide) (ix2 a j) = w (ix2 a (mineH e j)) := by
  rw [Layout.block_apply]
  congr 1
  funext b
  match b with
  | ⟨0, _⟩ => rfl
  | ⟨1, _⟩ => rfl
theorem block_down (w : (⟨2, ![4096, 1024]⟩ : Shape).Idx → EReal) (e : Dev nD) (j : Fin 512) (l : Fin 1024) :
    Layout.block ⟨2, ![512, 1024]⟩ ⟨2, ![4096, 1024]⟩ 0 8 e w (by decide) (ix2 j l) = w (ix2 (mineH e j) l) := by
  rw [Layout.block_apply]
  congr 1
  funext b
  match b with
  | ⟨0, _⟩ => rfl
  | ⟨1, _⟩ => rfl

/-! ## The scores are real -/

/-- Every column of a weight is some device's. -/
theorem mine_onto (J : Fin 8192) : ∃ (c : Dev nD) (j : Fin 1024), mine c j = J :=
  ⟨⟨J.val / 1024, by show _ < 8; omega⟩, ⟨J.val % 1024, Nat.mod_lt _ (by decide)⟩, Fin.ext (by show J.val / 1024 * 1024 + J.val % 1024 = J.val; omega)⟩

theorem inf_word : (Ideal.ofBits .bf16 0x7F80#16 : EReal) = ⊤ := by simp [Ideal.ofBits, Ideal.ieee]

/-- Real weights of the queries and the keys and a real scale and shift of the first normalisation make real scores, whatever the activations are. -/
theorem score_real (A : Arr) (ht : ∀ a, IsR (A.t a)) (hw : ∀ a (J : Fin 6144), J.val < 2048 → IsR (A.wm a J)) (hq : ∀ a J, IsR (A.wq a J)) (hk : ∀ a J, IsR (A.wk a J))
    (H : Fin 64) (R j : Fin 4096) : IsR (A.score H R j) := by
  have hm : ∀ J : Fin 6144, J.val < 2048 → IsR (A.mod J) := fun J hJ => isR_sum _ _ fun a => (ht a).mul (hw a J hJ)
  have q : ∀ R J, IsR (A.q R J) := fun R J => hid_real eB _ _ _ eB_pos eB_real (fun a => hm _ (by have := a.isLt; simp; omega)) (fun a => hm _ (by have := a.isLt; simp; omega)) _ fun a => hq a J
  have k : ∀ R J, IsR (A.k R J) := fun R J => hid_real eB _ _ _ eB_pos eB_real (fun a => hm _ (by have := a.isLt; simp; omega)) (fun a => hm _ (by have := a.isLt; simp; omega)) _ fun a => hk a J
  exact (isR_sum _ _ fun d => (q _ _).mul (k _ _)).mul cS_real

variable (m : (ℓ : Loc nD τ sig) → Buf (Elt Ideal) ℓ)

attribute [local instance] Cert.Pre_finite_KernelIdeal.Gen.facts

/-- A magnitude compared below infinity is a real's. -/
theorem real_of_word {x : EReal} (e : BitVec.ofBool (decide ((FloatOps.absf (F := Ideal) (φ := .bf16) x : EReal) < Ideal.ofBits .bf16 0x7F80#16)) = 1#1) : IsR x := by
  rw [inf_word] at e
  refine isR_of_abs ?_
  by_contra hn
  rw [show (decide ((FloatOps.absf (F := Ideal) (φ := .bf16) x : EReal) < ⊤)) = false from decide_eq_false hn] at e
  exact absurd e (by decide)

variable {m} (h : Cert.Pre_KernelIdeal_finite_KernelIdeal m) (c : Dev nD)
include h

theorem finite_wq (a j : Fin 1024) : IsR (m (c, Proc.devRef .tc main_arg1) (ix2 a j) : EReal) := by
  have e := congrFun (h c).1 (ix2 a j)
  unfold Cert.Pre_finite_KernelIdeal.fn at e
  pointwise at e
  exact real_of_word e
theorem finite_wk (a j : Fin 1024) : IsR (m (c, Proc.devRef .tc main_arg2) (ix2 a j) : EReal) := by
  have e := congrFun (h c).2.1 (ix2 a j)
  unfold Cert.Pre_finite_KernelIdeal.fn at e
  pointwise at e
  exact real_of_word e
theorem finite_t (a : Fin 128) : IsR (m (c, Proc.devRef .tc main_arg5) (ix2 0 a) : EReal) := by
  have e := congrFun (h c).2.2.1 (ix2 0 a)
  unfold Cert.Pre_finite_KernelIdeal.fn at e
  pointwise at e
  exact real_of_word e
theorem finite_wm (a : Fin 128) (J : Fin 6144) (hJ : J.val < 2048) : IsR (m (c, Proc.devRef .tc main_arg6) (ix2 a J) : EReal) := by
  have e := congrFun (h c).2.2.2 (ix2 a ⟨J.val, hJ⟩)
  unfold Cert.Pre_finite_KernelIdeal.fn at e
  pointwise at e
  exact real_of_word e

omit h

/-- The reference's value, from the buffers of its device. -/
def refVal (V : Valuation Cert.ReferenceIdeal.τ Cert.ReferenceIdeal.sig (Elt Ideal)) : Cert.ReferenceIdeal.S1x4096x1024.Idx → Elt Ideal .f32 :=
  broadcastInDim Cert.ReferenceIdeal.S1x4096x1024 ![1, 2] Cert.ReferenceIdeal.Gen.bcast_S4096x1024_S1x4096x1024_1_2 (Ref.block V)

/-- What the kernel leaves on every device is what the reference leaves. -/
theorem value (V : Valuation Cert.ReferenceIdeal.τ Cert.ReferenceIdeal.sig (Elt Ideal)) (h : Cert.Pre_KernelIdeal_finite_KernelIdeal m) (hA : Agree m (arr V)) :
    (U5 m c main_v14 : S1x4096x1024.Idx → EReal) = refVal V := by
  have ht : ∀ a, IsR ((arr V).t a) := fun a => by rw [← hA.t 0 a]; exact finite_t h 0 a
  have hw : ∀ a (J : Fin 6144), J.val < 2048 → IsR ((arr V).wm a J) := fun a J hJ => by rw [← hA.wm 0 a J]; exact finite_wm h 0 a J hJ
  have hq : ∀ a J, IsR ((arr V).wq a J) := fun a J => by obtain ⟨d, j, rfl⟩ := mine_onto J; rw [← hA.wq d a j]; exact finite_wq h d a j
  have hk : ∀ a J, IsR ((arr V).wk a J) := fun a J => by obtain ⟨d, j, rfl⟩ := mine_onto J; rw [← hA.wk d a j]; exact finite_wk h d a j
  funext y
  idx_vars y
  have e : y0 = 0 := Subsingleton.elim _ _
  subst e
  refine (result_apply hA c y1 y2).trans ?_
  unfold refVal
  pointwise
  exact (Ref.out_apply V (score_real _ ht hw hq hk) y1 y2).symm

end Cert.Whole
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- What the run says of its arguments, taken apart. -/
theorem args_of {F : FTy → Type} (m mem : (ℓ : Loc Cert.KernelIdeal.nD Cert.KernelIdeal.τ Cert.KernelIdeal.sig) → Buf (Elt F) ℓ) (c : Dev Cert.KernelIdeal.nD)
    (h : ∀ b ∈ [Cert.KernelIdeal.main_arg0, Cert.KernelIdeal.main_arg1, Cert.KernelIdeal.main_arg2, Cert.KernelIdeal.main_arg3, Cert.KernelIdeal.main_arg4, Cert.KernelIdeal.main_arg5, Cert.KernelIdeal.main_arg6, Cert.KernelIdeal.main_arg7, Cert.KernelIdeal.main_arg8],
      mem ((c.tc : Thread Cert.KernelIdeal.nD Cert.KernelIdeal.τ).loc b) = m ((c.tc : Thread Cert.KernelIdeal.nD Cert.KernelIdeal.τ).loc b)) :
    mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ mem ((c.tc : Thread Cert.KernelIdeal.nD Cert.KernelIdeal.τ).loc Cert.KernelIdeal.main_arg4) = m ((c.tc : Thread Cert.KernelIdeal.nD Cert.KernelIdeal.τ).loc Cert.KernelIdeal.main_arg4)
    ∧ mem ((c.tc : Thread Cert.KernelIdeal.nD Cert.KernelIdeal.τ).loc Cert.KernelIdeal.main_arg5) = m ((c.tc : Thread Cert.KernelIdeal.nD Cert.KernelIdeal.τ).loc Cert.KernelIdeal.main_arg5)
    ∧ mem ((c.tc : Thread Cert.KernelIdeal.nD Cert.KernelIdeal.τ).loc Cert.KernelIdeal.main_arg6) = m ((c.tc : Thread Cert.KernelIdeal.nD Cert.KernelIdeal.τ).loc Cert.KernelIdeal.main_arg6)
    ∧ mem ((c.tc : Thread Cert.KernelIdeal.nD Cert.KernelIdeal.τ).loc Cert.KernelIdeal.main_arg7) = m ((c.tc : Thread Cert.KernelIdeal.nD Cert.KernelIdeal.τ).loc Cert.KernelIdeal.main_arg7)
    ∧ mem ((c.tc : Thread Cert.KernelIdeal.nD Cert.KernelIdeal.τ).loc Cert.KernelIdeal.main_arg8) = m ((c.tc : Thread Cert.KernelIdeal.nD Cert.KernelIdeal.τ).loc Cert.KernelIdeal.main_arg8) := by
  simp only [List.forall_mem_cons] at h
  exact ⟨h.1, h.2.1, h.2.2.1, h.2.2.2.1, h.2.2.2.2.1, h.2.2.2.2.2.1, h.2.2.2.2.2.2.1, h.2.2.2.2.2.2.2.1, h.2.2.2.2.2.2.2.2.1⟩

attribute [local instance] Cert.Kernel.Gen.facts Cert.KernelIdeal.Gen.facts Cert.ReferenceIdeal.Gen.facts Cert.Pre_finite_KernelIdeal.Gen.facts Cert.Pre_finite_ReferenceIdeal.Gen.facts

/-- The kernel runs, leaves its arguments, and ends with every counter at zero: at any floats. -/
theorem frame_any {F : FTy → Type} [FloatOps F] (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ fun r =>
      (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
    ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
    ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
    ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
    ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0 :=
  (θ_run Cert.KernelIdeal.defs _ _).mono (fun r h => ⟨fun c => args_of m r.2.mem c (h.1 c).2, h.2⟩) (Cert.Whole.run_main m g)

theorem frame_ideal : Cert.quiescent_KernelIdeal := fun m g _ => frame_any m g
theorem frame_ideal_pre : Cert.quiescent_KernelIdeal_pre_finite_KernelIdeal := fun m g _ => frame_any m g

/-! The program at bits is the same text. -/

set_option maxHeartbeats 4000000 in
theorem bodies_same : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl
  | 1, (t, s) => rfl
  | 2, (t, s) => rfl
set_option maxHeartbeats 4000000 in
theorem defs_same : Cert.Kernel.defs (F := Bits) = Cert.KernelIdeal.defs (F := Bits) := by
  unfold Cert.Kernel.defs Cert.KernelIdeal.defs
  exact congrArg (Pipeline.defs _) bodies_same
set_option maxHeartbeats 4000000 in
theorem frame_bits : Cert.quiescent_Kernel := fun m g _ => by
  have h := frame_any (F := Bits) m g
  rw [← defs_same] at h
  exact h

theorem frame_ref : Cert.quiescent_ReferenceIdeal := fun m g _ =>
  (θ_run Cert.ReferenceIdeal.defs _ _).mono (fun r h => ⟨fun c => (h c).2, sem_eq_zero_of_no_sems rfl r.2⟩) (Cert.ReferenceIdeal.Value.run m g)
theorem frame_ref_pre : Cert.quiescent_ReferenceIdeal_pre_finite_ReferenceIdeal := fun m g _ => frame_ref m g trivial

/-- The value claim: on every device the kernel leaves what the reference leaves. -/
theorem same : Cert.algebraic_KernelIdeal_ReferenceIdeal_pre_finite_KernelIdeal := fun m g m' g' hP hA =>
  have hG : Cert.Whole.Agree m (Cert.Ref.arr (StableHlo.launchContents m' 0)) :=
    { x := fun c R a => congrFun (hA c).1 (ix3 0 R a)
      wq := fun c a j => (congrFun (hA c).2.1 (ix2 a j)).trans (Cert.Whole.block_wide _ c a j)
      wk := fun c a j => (congrFun (hA c).2.2.1 (ix2 a j)).trans (Cert.Whole.block_wide _ c a j)
      wv := fun c a j => (congrFun (hA c).2.2.2.1 (ix2 a j)).trans (Cert.Whole.block_wide _ c a j)
      wo := fun c j l => (congrFun (hA c).2.2.2.2.1 (ix2 j l)).trans (Cert.Whole.block_tall _ c j l)
      t := fun c a => congrFun (hA c).2.2.2.2.2.1 (ix2 0 a)
      wm := fun c a J => congrFun (hA c).2.2.2.2.2.2.1 (ix2 a J)
      w1 := fun c a j => (congrFun (hA c).2.2.2.2.2.2.2.1 (ix2 a j)).trans (Cert.Whole.block_up _ c a j)
      w2 := fun c j l => (congrFun (hA c).2.2.2.2.2.2.2.2 (ix2 j l)).trans (Cert.Whole.block_down _ c j l) }
  ⟨Cert.Whole.refVal (StableHlo.launchContents m' 0),
    (θ_run Cert.KernelIdeal.defs _ _).mono (fun r h c => ⟨(h.1 c).1.trans (Cert.Whole.value c (StableHlo.launchContents m' 0) hP hG), args_of m r.2.mem c (h.1 c).2⟩) (Cert.Whole.run_main (F := Ideal) m g),
    (θ_run Cert.ReferenceIdeal.defs _ _).mono (fun r h => h 0) (Cert.ReferenceIdeal.Value.run m' g')⟩

theorem claim : Cert.Claim := ⟨Cert.Kernel.Gen.facts, Cert.KernelIdeal.Gen.facts, Cert.ReferenceIdeal.Gen.facts, Cert.Pre_finite_KernelIdeal.Gen.facts, Cert.Pre_finite_ReferenceIdeal.Gen.facts,
  frame_bits, frame_ideal, frame_ideal_pre, frame_ref, frame_ref_pre, trivial, same⟩

end Cert.Proof

end
